-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  IdealRules.named_const.Statement Cert.KernelIdeal.κ "neg_half_log2e" .f32 0xBF38AA3B#32 ((-((2 * (Real.log 2))⁻¹) : ℝ) : EReal)
  ∧ IdealRules.named_const.Statement Cert.KernelIdeal.κ "neg_log2e" .f32 0xBFB8AA3B#32 ((-((Real.log 2)⁻¹) : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v28)) (v1 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_v31) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v446) = v0 c
          ∧ r.2.mem ((c.tc : Thread Cert.ReferenceIdeal.nD Cert.ReferenceIdeal.τ).loc Cert.ReferenceIdeal.main_v347) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S10000x3 : Shape := ⟨2, ![10000, 3]⟩
abbrev S10000x48 : Shape := ⟨2, ![10000, 48]⟩
abbrev S10000x1 : Shape := ⟨2, ![10000, 1]⟩
abbrev S10000x4 : Shape := ⟨2, ![10000, 4]⟩
abbrev S10000x2 : Shape := ⟨2, ![10000, 2]⟩
abbrev S3x3 : Shape := ⟨2, ![3, 3]⟩
abbrev S3 : Shape := ⟨1, ![3]⟩
abbrev S_ : Shape := ⟨0, ![]⟩

class Facts : Prop where
  bcast_S_S10000x3 : S_.BroadcastsInDim S10000x3 (![] : Fin 0 → Fin S10000x3.rank)
  reducesTo_S10000x3_S_d0_1 : S10000x3.ReducesTo [0, 1] S_
  h_S_ : 0 < S_.numel
  bcast_S_S10000x2 : S_.BroadcastsInDim S10000x2 (![] : Fin 0 → Fin S10000x2.rank)
  reducesTo_S10000x2_S_d0_1 : S10000x2.ReducesTo [0, 1] S_
  bcast_S_S3x3 : S_.BroadcastsInDim S3x3 (![] : Fin 0 → Fin S3x3.rank)
  reducesTo_S3x3_S_d0_1 : S3x3.ReducesTo [0, 1] S_
  bcast_S_S3 : S_.BroadcastsInDim S3 (![] : Fin 0 → Fin S3.rank)
  reducesTo_S3_S_d0 : S3.ReducesTo [0] S_

variable [Facts]

def fn_part1 {F : FTy → Type} [FloatOps F] (main_v13 : IVec S_ 1) (main_v16 : IVec S3 1) : IVec S_ 1 :=
  let main_c_5 : IVec S_ 1 := constantI S_ 1 1#1
  let main_v17 : IVec S_ 1 := (fun x v => Host.reduce IntOp.andi x v reducesTo_S3_S_d0 h_S_) main_v16 main_c_5
  let main_v18 : IVec S_ 1 := andi main_v13 main_v17
  main_v18

def fn {F : FTy → Type} [FloatOps F] (main_arg0 : FVec F S10000x3 .f32) (main_arg1 : FVec F S10000x48 .f32) (main_arg2 : FVec F S10000x1 .f32) (main_arg3 : FVec F S10000x3 .f32) (main_arg4 : FVec F S10000x4 .f32) (main_arg5 : FVec F S10000x2 .f32) (main_arg6 : FVec F S3x3 .f32) (main_arg7 : FVec F S3 .f32) : IVec S_ 1 :=
  let main_v0 : FVec F S10000x3 .f32 := Host.absf main_arg0
  let main_cst : FVec F S_ .f32 := constant S_ .f32 0x7F800000#32
  let main_v1 : FVec F S10000x3 .f32 := broadcastInDim S10000x3 ![] bcast_S_S10000x3 main_cst
  let main_v2 : IVec S10000x3 1 := cmpf .olt main_v0 main_v1
  let main_c : IVec S_ 1 := constantI S_ 1 1#1
  let main_v3 : IVec S_ 1 := (fun x v => Host.reduce IntOp.andi x v reducesTo_S10000x3_S_d0_1 h_S_) main_v2 main_c
  let main_v4 : FVec F S10000x2 .f32 := Host.absf main_arg5
  let main_cst_0 : FVec F S_ .f32 := constant S_ .f32 0x7F800000#32
  let main_v5 : FVec F S10000x2 .f32 := broadcastInDim S10000x2 ![] bcast_S_S10000x2 main_cst_0
  let main_v6 : IVec S10000x2 1 := cmpf .olt main_v4 main_v5
  let main_c_1 : IVec S_ 1 := constantI S_ 1 1#1
  let main_v7 : IVec S_ 1 := (fun x v => Host.reduce IntOp.andi x v reducesTo_S10000x2_S_d0_1 h_S_) main_v6 main_c_1
  let main_v8 : IVec S_ 1 := andi main_v3 main_v7
  let main_v9 : FVec F S3x3 .f32 := Host.absf main_arg6
  let main_cst_2 : FVec F S_ .f32 := constant S_ .f32 0x7F800000#32
  let main_v10 : FVec F S3x3 .f32 := broadcastInDim S3x3 ![] bcast_S_S3x3 main_cst_2
  let main_v11 : IVec S3x3 1 := cmpf .olt main_v9 main_v10
  let main_c_3 : IVec S_ 1 := constantI S_ 1 1#1
  let main_v12 : IVec S_ 1 := (fun x v => Host.reduce IntOp.andi x v reducesTo_S3x3_S_d0_1 h_S_) main_v11 main_c_3
  let main_v13 : IVec S_ 1 := andi main_v8 main_v12
  let main_v14 : FVec F S3 .f32 := Host.absf main_arg7
  let main_cst_4 : FVec F S_ .f32 := constant S_ .f32 0x7F800000#32
  let main_v15 : FVec F S3 .f32 := broadcastInDim S3 ![] bcast_S_S3 main_cst_4
  let main_v16 : IVec S3 1 := cmpf .olt main_v14 main_v15
  fn_part1 (F := F) main_v13 main_v16
-- ==== Kernel.lean ====
abbrev S10000x3 : Shape := ⟨2, ![10000, 3]⟩
abbrev S10000x48 : Shape := ⟨2, ![10000, 48]⟩
abbrev S10000x1 : Shape := ⟨2, ![10000, 1]⟩
abbrev S10000x4 : Shape := ⟨2, ![10000, 4]⟩
abbrev S10000x2 : Shape := ⟨2, ![10000, 2]⟩
abbrev S3x3 : Shape := ⟨2, ![3, 3]⟩
abbrev S3 : Shape := ⟨1, ![3]⟩
abbrev S3x10000 : Shape := ⟨2, ![3, 10000]⟩
abbrev S48x10000 : Shape := ⟨2, ![48, 10000]⟩
abbrev S1x10000 : Shape := ⟨2, ![1, 10000]⟩
abbrev S4x10000 : Shape := ⟨2, ![4, 10000]⟩
abbrev S59x10000 : Shape := ⟨2, ![59, 10000]⟩
abbrev S_ : Shape := ⟨0, ![]⟩
abbrev S64x10240 : Shape := ⟨2, ![64, 10240]⟩
abbrev S64x8x1280 : Shape := ⟨3, ![64, 8, 1280]⟩
abbrev S9 : Shape := ⟨1, ![9]⟩
abbrev S4 : Shape := ⟨1, ![4]⟩
abbrev S7 : Shape := ⟨1, ![7]⟩
abbrev S32 : Shape := ⟨1, ![32]⟩
abbrev S10x8x1280 : Shape := ⟨3, ![10, 8, 1280]⟩
abbrev S2x8x1280 : Shape := ⟨3, ![2, 8, 1280]⟩
abbrev S1 : Shape := ⟨1, ![1]⟩
abbrev S1x8x1280 : Shape := ⟨3, ![1, 8, 1280]⟩
abbrev S8x1280 : Shape := ⟨2, ![8, 1280]⟩
abbrev S10x10240 : Shape := ⟨2, ![10, 10240]⟩
abbrev S1x10240 : Shape := ⟨2, ![1, 10240]⟩
abbrev S10240 : Shape := ⟨1, ![10240]⟩
abbrev S10240x1 : Shape := ⟨2, ![10240, 1]⟩
abbrev S3x8x128 : Shape := ⟨3, ![3, 8, 128]⟩
abbrev S10x512 : Shape := ⟨2, ![10, 512]⟩
abbrev S4x8x128 : Shape := ⟨3, ![4, 8, 128]⟩
abbrev S8x128 : Shape := ⟨2, ![8, 128]⟩
abbrev S1x8x128 : Shape := ⟨3, ![1, 8, 128]⟩
abbrev S1x1 : Shape := ⟨2, ![1, 1]⟩
abbrev S3x32x32 : Shape := ⟨3, ![3, 32, 32]⟩
abbrev S2x10240 : Shape := ⟨2, ![2, 10240]⟩
abbrev S2x10000 : Shape := ⟨2, ![2, 10000]⟩

abbrev nBuf : Space → Nat
  | .hbm => 49
  | .vmem => 5
  | .smem => 3
  | _ => 0

abbrev bufTy : (tb : Table) → Fin (tcTables nBuf tb) → BufTy
  | .hbm, ⟨0, _⟩ => ⟨S10000x3, .f32⟩
  | .hbm, ⟨1, _⟩ => ⟨S10000x48, .f32⟩
  | .hbm, ⟨2, _⟩ => ⟨S10000x1, .f32⟩
  | .hbm, ⟨3, _⟩ => ⟨S10000x3, .f32⟩
  | .hbm, ⟨4, _⟩ => ⟨S10000x4, .f32⟩
  | .hbm, ⟨5, _⟩ => ⟨S10000x2, .f32⟩
  | .hbm, ⟨6, _⟩ => ⟨S3x3, .f32⟩
  | .hbm, ⟨7, _⟩ => ⟨S3, .f32⟩
  | .hbm, ⟨8, _⟩ => ⟨S3x10000, .f32⟩
  | .hbm, ⟨9, _⟩ => ⟨S48x10000, .f32⟩
  | .hbm, ⟨10, _⟩ => ⟨S1x10000, .f32⟩
  | .hbm, ⟨11, _⟩ => ⟨S3x10000, .f32⟩
  | .hbm, ⟨12, _⟩ => ⟨S4x10000, .f32⟩
  | .hbm, ⟨13, _⟩ => ⟨S59x10000, .f32⟩
  | .hbm, ⟨14, _⟩ => ⟨S_, .i32⟩
  | .hbm, ⟨15, _⟩ => ⟨S_, .f32⟩
  | .hbm, ⟨16, _⟩ => ⟨S64x10240, .f32⟩
  | .hbm, ⟨17, _⟩ => ⟨S64x8x1280, .f32⟩
  | .hbm, ⟨18, _⟩ => ⟨S9, .f32⟩
  | .hbm, ⟨19, _⟩ => ⟨S_, .f32⟩
  | .hbm, ⟨20, _⟩ => ⟨S4, .f32⟩
  | .hbm, ⟨21, _⟩ => ⟨S9, .f32⟩
  | .hbm, ⟨22, _⟩ => ⟨S9, .bf16⟩
  | .hbm, ⟨23, _⟩ => ⟨S9, .f32⟩
  | .hbm, ⟨24, _⟩ => ⟨S_, .f32⟩
  | .hbm, ⟨25, _⟩ => ⟨S7, .f32⟩
  | .hbm, ⟨26, _⟩ => ⟨S32, .f32⟩
  | .hbm, ⟨27, _⟩ => ⟨S10x8x1280, .f32⟩
  | .hbm, ⟨28, _⟩ => ⟨S2x8x1280, .f32⟩
  | .hbm, ⟨29, _⟩ => ⟨S10x10240, .f32⟩
  | .hbm, ⟨30, _⟩ => ⟨S1x10240, .f32⟩
  | .hbm, ⟨31, _⟩ => ⟨S10240, .f32⟩
  | .hbm, ⟨32, _⟩ => ⟨S10240, .i32⟩
  | .hbm, ⟨33, _⟩ => ⟨S10240, .f32⟩
  | .hbm, ⟨34, _⟩ => ⟨S10240, .i32⟩
  | .hbm, ⟨35, _⟩ => ⟨S_, .i32⟩
  | .hbm, ⟨36, _⟩ => ⟨S10240, .i32⟩
  | .hbm, ⟨37, _⟩ => ⟨S10240, .i1⟩
  | .hbm, ⟨38, _⟩ => ⟨S_, .i32⟩
  | .hbm, ⟨39, _⟩ => ⟨S10240, .i32⟩
  | .hbm, ⟨40, _⟩ => ⟨S10240, .i32⟩
  | .hbm, ⟨41, _⟩ => ⟨S10240, .i32⟩
  | .hbm, ⟨42, _⟩ => ⟨S10240x1, .i32⟩
  | .hbm, ⟨43, _⟩ => ⟨S10x10240, .f32⟩
  | .hbm, ⟨44, _⟩ => ⟨S3x8x128, .f32⟩
  | .hbm, ⟨45, _⟩ => ⟨S3x32x32, .f32⟩
  | .hbm, ⟨46, _⟩ => ⟨S2x10240, .f32⟩
  | .hbm, ⟨47, _⟩ => ⟨S2x10000, .f32⟩
  | .hbm, ⟨48, _⟩ => ⟨S10000x2, .f32⟩
  | .local _ .vmem, ⟨0, _⟩ => ⟨S64x8x1280, .f32⟩
  | .local _ .vmem, ⟨1, _⟩ => ⟨S10x8x1280, .f32⟩
  | .local _ .vmem, ⟨2, _⟩ => ⟨S2x8x1280, .f32⟩
  | .local _ .vmem, ⟨3, _⟩ => ⟨S3x8x128, .f32⟩
  | .local _ .vmem, ⟨4, _⟩ => ⟨S4x8x128, .f32⟩
  | .local _ .smem, ⟨0, _⟩ => ⟨S32, .f32⟩
  | .local _ .smem, ⟨1, _⟩ => ⟨S10x512, .f32⟩
  | .local _ .smem, ⟨2, _⟩ => ⟨S10x512, .f32⟩
  | _, _ => ⟨S10000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_c : Ref sig .tc := ⟨.hbm, 14, rfl⟩
abbrev main_call0_v0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_0 : Ref sig .tc := ⟨.hbm, 24, rfl⟩
abbrev main_v13 : Ref sig .tc := ⟨.hbm, 25, rfl⟩
abbrev main_v14 : Ref sig .tc := ⟨.hbm, 26, rfl⟩
abbrev main_v15_0 : Ref sig .tc := ⟨.hbm, 27, rfl⟩
abbrev main_v15_1 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_call1_v0 : Ref sig .tc := ⟨.hbm, 32, rfl⟩
abbrev main_call1_v1_0 : Ref sig .tc := ⟨.hbm, 33, rfl⟩
abbrev main_v19 : Ref sig .tc := ⟨.hbm, 34, rfl⟩
abbrev main_c_1 : Ref sig .tc := ⟨.hbm, 35, rfl⟩
abbrev main_v20 : Ref sig .tc := ⟨.hbm, 36, rfl⟩
abbrev main_v21 : Ref sig .tc := ⟨.hbm, 37, rfl⟩
abbrev main_c_2 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc1_stg1_0 : Ref sig .tc := ⟨.vmem, 3, rfl⟩
abbrev cc1_scratch0 : Ref sig .tc := ⟨.vmem, 4, rfl⟩
abbrev cc0_stg0_0 : Ref sig .tc := ⟨.smem, 0, rfl⟩
abbrev cc1_stg0_0 : Ref sig .tc := ⟨.smem, 1, rfl⟩
abbrev cc1_stg0_1 : Ref sig .tc := ⟨.smem, 2, rfl⟩
abbrev cc0_sem0_0 : DmaSem sig := 0
abbrev cc0_sem1_0 : DmaSem sig := 1
abbrev cc0_sem2_0 : DmaSem sig := 2
abbrev cc0_sem3_0 : DmaSem sig := 3
abbrev cc1_sem0_0 : DmaSem sig := 4
abbrev cc1_sem0_1 : DmaSem sig := 5
abbrev cc1_sem1_0 : DmaSem sig := 6

abbrev nD : Nat := 1
abbrev τ : Topo := Topo.v7x

variable {F : FTy → Type} [FloatOps F]

abbrev grid0 : Pipeline.Grid := .none

abbrev stage0_0 : Fin 1 → Memref sig .tc .smem S32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x8x1280 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S10x8x1280 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x8x1280 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev grid1 : Pipeline.Grid := ⟨1, ![20], ![false]⟩

@[reducible] def k1_t1_loop : Scf.Loop 32 :=
  let c0_i32_20 : BitVec 32 := 0#32
  let c64_i32 : BitVec 32 := 64#32
  let v58 : BitVec 32 := Scalar.addi c0_i32_20 c64_i32
  let c1_i32_21 : BitVec 32 := 1#32
  ⟨c0_i32_20, v58, c1_i32_21⟩
def k1_off1 (k1_t1 : Fin k1_t1_loop.trips) (c0_i32_36 : BitVec 32) : Fin 2 → Nat :=
  let c0_37 : Index := 0#32
  let c0_i32_20 : BitVec 32 := 0#32
  let c1_i32_21 : BitVec 32 := 1#32
  let arg4 : BitVec 32 := Scf.iv c0_i32_20 c1_i32_21 k1_t1
  let c8_i32 : BitVec 32 := 8#32
  let v75 : BitVec 32 := Scalar.muli arg4 c8_i32
  let v76 : BitVec 32 := Scalar.addi v75 c0_i32_36
  let v77 : Index := Scalar.indexCast v76
  ![0, v77.toNat]
def k1_off2 (k1_t1 : Fin k1_t1_loop.trips) (c0_i32_36 : BitVec 32) : Fin 2 → Nat :=
  let c1_38 : Index := 1#32
  let c0_i32_20 : BitVec 32 := 0#32
  let c1_i32_21 : BitVec 32 := 1#32
  let arg4 : BitVec 32 := Scf.iv c0_i32_20 c1_i32_21 k1_t1
  let c8_i32 : BitVec 32 := 8#32
  let v75 : BitVec 32 := Scalar.muli arg4 c8_i32
  let v76 : BitVec 32 := Scalar.addi v75 c0_i32_36
  let v79 : Index := Scalar.indexCast v76
  ![1, v79.toNat]
def k1_off3 (k1_t1 : Fin k1_t1_loop.trips) (c0_i32_36 : BitVec 32) : Fin 2 → Nat :=
  let c2_39 : Index := 2#32
  let c0_i32_20 : BitVec 32 := 0#32
  let c1_i32_21 : BitVec 32 := 1#32
  let arg4 : BitVec 32 := Scf.iv c0_i32_20 c1_i32_21 k1_t1
  let c8_i32 : BitVec 32 := 8#32
  let v75 : BitVec 32 := Scalar.muli arg4 c8_i32
  let v76 : BitVec 32 := Scalar.addi v75 c0_i32_36
  let v81 : Index := Scalar.indexCast v76
  ![2, v81.toNat]
def k1_off4 (k1_t1 : Fin k1_t1_loop.trips) (c0_i32_36 : BitVec 32) : Fin 2 → Nat :=
  let c3_40 : Index := 3#32
  let c0_i32_20 : BitVec 32 := 0#32
  let c1_i32_21 : BitVec 32 := 1#32
  let arg4 : BitVec 32 := Scf.iv c0_i32_20 c1_i32_21 k1_t1
  let c8_i32 : BitVec 32 := 8#32
  let v75 : BitVec 32 := Scalar.muli arg4 c8_i32
  let v76 : BitVec 32 := Scalar.addi v75 c0_i32_36
  let v83 : Index := Scalar.indexCast v76
  ![3, v83.toNat]
def k1_off5 (k1_t1 : Fin k1_t1_loop.trips) (c0_i32_36 : BitVec 32) : Fin 2 → Nat :=
  let c4 : Index := 4#32
  let c0_i32_20 : BitVec 32 := 0#32
  let c1_i32_21 : BitVec 32 := 1#32
  let arg4 : BitVec 32 := Scf.iv c0_i32_20 c1_i32_21 k1_t1
  let c8_i32 : BitVec 32 := 8#32
  let v75 : BitVec 32 := Scalar.muli arg4 c8_i32
  let v76 : BitVec 32 := Scalar.addi v75 c0_i32_36
  let v85 : Index := Scalar.indexCast v76
  ![4, v85.toNat]
def k1_off6 (k1_t1 : Fin k1_t1_loop.trips) (c0_i32_36 : BitVec 32) : Fin 2 → Nat :=
  let c5 : Index := 5#32
  let c0_i32_20 : BitVec 32 := 0#32
  let c1_i32_21 : BitVec 32 := 1#32
  let arg4 : BitVec 32 := Scf.iv c0_i32_20 c1_i32_21 k1_t1
  let c8_i32 : BitVec 32 := 8#32
  let v75 : BitVec 32 := Scalar.muli arg4 c8_i32
  let v76 : BitVec 32 := Scalar.addi v75 c0_i32_36
  let v87 : Index := Scalar.indexCast v76
  ![5, v87.toNat]
def k1_off7 (k1_t1 : Fin k1_t1_loop.trips) (c0_i32_36 : BitVec 32) : Fin 2 → Nat :=
  let c6 : Index := 6#32
  let c0_i32_20 : BitVec 32 := 0#32
  let c1_i32_21 : BitVec 32 := 1#32
  let arg4 : BitVec 32 := Scf.iv c0_i32_20 c1_i32_21 k1_t1
  let c8_i32 : BitVec 32 := 8#32
  let v75 : BitVec 32 := Scalar.muli arg4 c8_i32
  let v76 : BitVec 32 := Scalar.addi v75 c0_i32_36
  let v89 : Index := Scalar.indexCast v76
  ![6, v89.toNat]
def k1_off8 (k1_t1 : Fin k1_t1_loop.trips) (c0_i32_36 : BitVec 32) : Fin 2 → Nat :=
  let c7 : Index := 7#32
  let c0_i32_20 : BitVec 32 := 0#32
  let c1_i32_21 : BitVec 32 := 1#32
  let arg4 : BitVec 32 := Scf.iv c0_i32_20 c1_i32_21 k1_t1
  let c8_i32 : BitVec 32 := 8#32
  let v75 : BitVec 32 := Scalar.muli arg4 c8_i32
  let v76 : BitVec 32 := Scalar.addi v75 c0_i32_36
  let v91 : Index := Scalar.indexCast v76
  ![7, v91.toNat]
def k1_off9 (k1_t1 : Fin k1_t1_loop.trips) (c0_i32_36 : BitVec 32) : Fin 2 → Nat :=
  let c8 : Index := 8#32
  let c0_i32_20 : BitVec 32 := 0#32
  let c1_i32_21 : BitVec 32 := 1#32
  let arg4 : BitVec 32 := Scf.iv c0_i32_20 c1_i32_21 k1_t1
  let c8_i32 : BitVec 32 := 8#32
  let v75 : BitVec 32 := Scalar.muli arg4 c8_i32
  let v76 : BitVec 32 := Scalar.addi v75 c0_i32_36
  let v93 : Index := Scalar.indexCast v76
  ![8, v93.toNat]
def k1_cond2 (i : grid1.Coords) : BitVec 1 :=
  let arg0 : BitVec 32 := BitVec.ofNat 32 (i 0).val
  let c19_i32 : BitVec 32 := 19#32
  let v72 : BitVec 1 := Scalar.cmpi .eq arg0 c19_i32
  let v73 : BitVec 32 := Scalar.extui v72
  let c0_i32_35 : BitVec 32 := 0#32
  let v74 : BitVec 1 := Scalar.cmpi .ne v73 c0_i32_35
  v74

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage1_0 : Fin 2 → Memref sig .tc .smem S10x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S3x8x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]
-- ==== KernelIdeal.lean ====
variable {F : FTy → Type} [FloatOps F] [Named F]
def κ : String → Option EReal := fun
  | "neg_half_log2e" => some ((-((2 * (Real.log 2))⁻¹) : ℝ) : EReal)
  | "neg_log2e" => some ((-((Real.log 2)⁻¹) : ℝ) : EReal)
  | _ => none
-- ==== ReferenceIdeal.lean ====
abbrev S10000x3 : Shape := ⟨2, ![10000, 3]⟩
abbrev S10000x48 : Shape := ⟨2, ![10000, 48]⟩
abbrev S10000x1 : Shape := ⟨2, ![10000, 1]⟩
abbrev S10000x4 : Shape := ⟨2, ![10000, 4]⟩
abbrev S10000x2 : Shape := ⟨2, ![10000, 2]⟩
abbrev S3x3 : Shape := ⟨2, ![3, 3]⟩
abbrev S3 : Shape := ⟨1, ![3]⟩
abbrev S_ : Shape := ⟨0, ![]⟩
abbrev S10000 : Shape := ⟨1, ![10000]⟩
abbrev S1x3 : Shape := ⟨2, ![1, 3]⟩
abbrev S10000x9 : Shape := ⟨2, ![10000, 9]⟩
abbrev S10000x3x3 : Shape := ⟨3, ![10000, 3, 3]⟩
abbrev S10000x1x3 : Shape := ⟨3, ![10000, 1, 3]⟩
abbrev S10000x6 : Shape := ⟨2, ![10000, 6]⟩
abbrev S10000x2x3 : Shape := ⟨3, ![10000, 2, 3]⟩
abbrev S1x3x3 : Shape := ⟨3, ![1, 3, 3]⟩
abbrev S10000x3x2 : Shape := ⟨3, ![10000, 3, 2]⟩
abbrev S10000x2x2 : Shape := ⟨3, ![10000, 2, 2]⟩
abbrev S2x2 : Shape := ⟨2, ![2, 2]⟩
abbrev S1x2x2 : Shape := ⟨3, ![1, 2, 2]⟩
abbrev S10000x16x3 : Shape := ⟨3, ![10000, 16, 3]⟩
abbrev S10000x1x1 : Shape := ⟨3, ![10000, 1, 1]⟩
abbrev S32 : Shape := ⟨1, ![32]⟩
abbrev S32x32 : Shape := ⟨2, ![32, 32]⟩
abbrev S1024 : Shape := ⟨1, ![1024]⟩
abbrev S1024x1 : Shape := ⟨2, ![1024, 1]⟩
abbrev S1024x2 : Shape := ⟨2, ![1024, 2]⟩
abbrev S1x1024 : Shape := ⟨2, ![1, 1024]⟩
abbrev S10000x1024 : Shape := ⟨2, ![10000, 1024]⟩
abbrev S9999x1024 : Shape := ⟨2, ![9999, 1024]⟩
abbrev S3x1024 : Shape := ⟨2, ![3, 1024]⟩
abbrev S3x32x32 : Shape := ⟨3, ![3, 32, 32]⟩

abbrev nBuf : Space → Nat
  | .hbm => 539
  | .vmem => 0
  | .smem => 0
  | _ => 0

abbrev hbmTy0_0 (i : Nat) : BufTy := match i % 128 with
  | 0 => ⟨S10000x3, .f32⟩
  | 1 => ⟨S10000x48, .f32⟩
  | 2 => ⟨S10000x1, .f32⟩
  | 3 => ⟨S10000x3, .f32⟩
  | 4 => ⟨S10000x4, .f32⟩
  | 5 => ⟨S10000x2, .f32⟩
  | 6 => ⟨S3x3, .f32⟩
  | 7 => ⟨S3, .f32⟩
  | 8 => ⟨S10000x1, .f32⟩
  | 9 => ⟨S10000x1, .f32⟩
  | 10 => ⟨S_, .f32⟩
  | 11 => ⟨S10000x1, .f32⟩
  | 12 => ⟨S10000x1, .f32⟩
  | 13 => ⟨S_, .f32⟩
  | 14 => ⟨S10000x1, .f32⟩
  | 15 => ⟨S10000x1, .f32⟩
  | 16 => ⟨S10000x3, .f32⟩
  | 17 => ⟨S10000x4, .f32⟩
  | 18 => ⟨S_, .f32⟩
  | 19 => ⟨S10000, .f32⟩
  | 20 => ⟨S10000x1, .f32⟩
  | 21 => ⟨S10000x1, .f32⟩
  | 22 => ⟨S_, .f32⟩
  | 23 => ⟨S10000x1, .f32⟩
  | 24 => ⟨S10000x1, .f32⟩
  | 25 => ⟨S10000x4, .f32⟩
  | 26 => ⟨S10000x4, .f32⟩
  | 27 => ⟨S3x3, .f32⟩
  | 28 => ⟨S10000x3, .f32⟩
  | 29 => ⟨S1x3, .f32⟩
  | 30 => ⟨S10000x3, .f32⟩
  | 31 => ⟨S10000x3, .f32⟩
  | 32 => ⟨S10000x1, .f32⟩
  | 33 => ⟨S10000, .f32⟩
  | 34 => ⟨S10000x1, .f32⟩
  | 35 => ⟨S10000, .f32⟩
  | 36 => ⟨S_, .f32⟩
  | 37 => ⟨S10000, .f32⟩
  | 38 => ⟨S10000, .f32⟩
  | 39 => ⟨S10000, .f32⟩
  | 40 => ⟨S_, .f32⟩
  | 41 => ⟨S10000, .f32⟩
  | 42 => ⟨S10000, .f32⟩
  | 43 => ⟨S10000x1, .f32⟩
  | 44 => ⟨S10000, .f32⟩
  | 45 => ⟨S_, .f32⟩
  | 46 => ⟨S10000, .f32⟩
  | 47 => ⟨S10000, .f32⟩
  | 48 => ⟨S10000, .f32⟩
  | 49 => ⟨S_, .f32⟩
  | 50 => ⟨S10000, .f32⟩
  | 51 => ⟨S10000, .f32⟩
  | 52 => ⟨S10000x1, .f32⟩
  | 53 => ⟨S10000x1, .f32⟩
  | 54 => ⟨S10000x2, .f32⟩
  | 55 => ⟨S10000x2, .f32⟩
  | 56 => ⟨S10000x2, .f32⟩
  | 57 => ⟨S10000x1, .f32⟩
  | 58 => ⟨S10000, .f32⟩
  | 59 => ⟨S10000x1, .f32⟩
  | 60 => ⟨S10000, .f32⟩
  | 61 => ⟨S10000x1, .f32⟩
  | 62 => ⟨S10000, .f32⟩
  | 63 => ⟨S10000x1, .f32⟩
  | 64 => ⟨S10000, .f32⟩
  | 65 => ⟨S10000, .f32⟩
  | 66 => ⟨S10000, .f32⟩
  | 67 => ⟨S10000, .f32⟩
  | 68 => ⟨S_, .f32⟩
  | 69 => ⟨S10000, .f32⟩
  | 70 => ⟨S10000, .f32⟩
  | 71 => ⟨S_, .f32⟩
  | 72 => ⟨S10000, .f32⟩
  | 73 => ⟨S10000, .f32⟩
  | 74 => ⟨S10000, .f32⟩
  | 75 => ⟨S10000, .f32⟩
  | 76 => ⟨S10000, .f32⟩
  | 77 => ⟨S_, .f32⟩
  | 78 => ⟨S10000, .f32⟩
  | 79 => ⟨S10000, .f32⟩
  | 80 => ⟨S10000, .f32⟩
  | 81 => ⟨S10000, .f32⟩
  | 82 => ⟨S10000, .f32⟩
  | 83 => ⟨S_, .f32⟩
  | 84 => ⟨S10000, .f32⟩
  | 85 => ⟨S10000, .f32⟩
  | 86 => ⟨S10000, .f32⟩
  | 87 => ⟨S10000, .f32⟩
  | 88 => ⟨S10000, .f32⟩
  | 89 => ⟨S_, .f32⟩
  | 90 => ⟨S10000, .f32⟩
  | 91 => ⟨S10000, .f32⟩
  | 92 => ⟨S10000, .f32⟩
  | 93 => ⟨S10000, .f32⟩
  | 94 => ⟨S10000, .f32⟩
  | 95 => ⟨S_, .f32⟩
  | 96 => ⟨S10000, .f32⟩
  | 97 => ⟨S10000, .f32⟩
  | 98 => ⟨S_, .f32⟩
  | 99 => ⟨S10000, .f32⟩
  | 100 => ⟨S10000, .f32⟩
  | 101 => ⟨S10000, .f32⟩
  | 102 => ⟨S10000, .f32⟩
  | 103 => ⟨S10000, .f32⟩
  | 104 => ⟨S_, .f32⟩
  | 105 => ⟨S10000, .f32⟩
  | 106 => ⟨S10000, .f32⟩
  | 107 => ⟨S10000, .f32⟩
  | 108 => ⟨S10000, .f32⟩
  | 109 => ⟨S10000, .f32⟩
  | 110 => ⟨S_, .f32⟩
  | 111 => ⟨S10000, .f32⟩
  | 112 => ⟨S10000, .f32⟩
  | 113 => ⟨S10000, .f32⟩
  | 114 => ⟨S10000, .f32⟩
  | 115 => ⟨S10000, .f32⟩
  | 116 => ⟨S_, .f32⟩
  | 117 => ⟨S10000, .f32⟩
  | 118 => ⟨S10000, .f32⟩
  | 119 => ⟨S10000, .f32⟩
  | 120 => ⟨S10000, .f32⟩
  | 121 => ⟨S10000, .f32⟩
  | 122 => ⟨S_, .f32⟩
  | 123 => ⟨S10000, .f32⟩
  | 124 => ⟨S10000, .f32⟩
  | 125 => ⟨S_, .f32⟩
  | 126 => ⟨S10000, .f32⟩
  | 127 => ⟨S10000, .f32⟩
  | _ => ⟨S10000x3, .f32⟩

abbrev hbmTy0_1 (i : Nat) : BufTy := match i % 128 with
  | 0 => ⟨S10000x1, .f32⟩
  | 1 => ⟨S10000x1, .f32⟩
  | 2 => ⟨S10000x1, .f32⟩
  | 3 => ⟨S10000x1, .f32⟩
  | 4 => ⟨S10000x1, .f32⟩
  | 5 => ⟨S10000x1, .f32⟩
  | 6 => ⟨S10000x1, .f32⟩
  | 7 => ⟨S10000x1, .f32⟩
  | 8 => ⟨S10000x1, .f32⟩
  | 9 => ⟨S10000x9, .f32⟩
  | 10 => ⟨S10000x3x3, .f32⟩
  | 11 => ⟨S10000x1x3, .f32⟩
  | 12 => ⟨S10000x3x3, .f32⟩
  | 13 => ⟨S10000x3x3, .f32⟩
  | 14 => ⟨S10000x3x3, .f32⟩
  | 15 => ⟨S10000x3x3, .f32⟩
  | 16 => ⟨S_, .f32⟩
  | 17 => ⟨S10000, .f32⟩
  | 18 => ⟨S_, .f32⟩
  | 19 => ⟨S10000, .f32⟩
  | 20 => ⟨S10000, .f32⟩
  | 21 => ⟨S10000x1, .f32⟩
  | 22 => ⟨S10000, .f32⟩
  | 23 => ⟨S_, .f32⟩
  | 24 => ⟨S10000, .f32⟩
  | 25 => ⟨S10000, .f32⟩
  | 26 => ⟨S10000, .f32⟩
  | 27 => ⟨S10000, .f32⟩
  | 28 => ⟨S_, .f32⟩
  | 29 => ⟨S10000, .f32⟩
  | 30 => ⟨S10000, .f32⟩
  | 31 => ⟨S10000x1, .f32⟩
  | 32 => ⟨S10000, .f32⟩
  | 33 => ⟨S_, .f32⟩
  | 34 => ⟨S10000, .f32⟩
  | 35 => ⟨S10000, .f32⟩
  | 36 => ⟨S10000, .f32⟩
  | 37 => ⟨S10000, .f32⟩
  | 38 => ⟨S10000x1, .f32⟩
  | 39 => ⟨S10000x1, .f32⟩
  | 40 => ⟨S10000x1, .f32⟩
  | 41 => ⟨S10000x1, .f32⟩
  | 42 => ⟨S10000x1, .f32⟩
  | 43 => ⟨S10000x1, .f32⟩
  | 44 => ⟨S10000x6, .f32⟩
  | 45 => ⟨S10000x2x3, .f32⟩
  | 46 => ⟨S1x3x3, .f32⟩
  | 47 => ⟨S3x3, .f32⟩
  | 48 => ⟨S10000x2x3, .f32⟩
  | 49 => ⟨S10000x2x3, .f32⟩
  | 50 => ⟨S10000x3x2, .f32⟩
  | 51 => ⟨S10000x2x2, .f32⟩
  | 52 => ⟨S2x2, .i32⟩
  | 53 => ⟨S2x2, .i32⟩
  | 54 => ⟨S_, .i32⟩
  | 55 => ⟨S2x2, .i32⟩
  | 56 => ⟨S2x2, .i32⟩
  | 57 => ⟨S2x2, .i1⟩
  | 58 => ⟨S2x2, .f32⟩
  | 59 => ⟨S1x2x2, .f32⟩
  | 60 => ⟨S_, .f32⟩
  | 61 => ⟨S1x2x2, .f32⟩
  | 62 => ⟨S1x2x2, .f32⟩
  | 63 => ⟨S10000x2x2, .f32⟩
  | 64 => ⟨S10000x2x2, .f32⟩
  | 65 => ⟨S3x3, .f32⟩
  | 66 => ⟨S3x3, .f32⟩
  | 67 => ⟨S3, .f32⟩
  | 68 => ⟨S1x3, .f32⟩
  | 69 => ⟨S10000x3, .f32⟩
  | 70 => ⟨S10000x3, .f32⟩
  | 71 => ⟨S10000x3, .f32⟩
  | 72 => ⟨S_, .f32⟩
  | 73 => ⟨S10000, .f32⟩
  | 74 => ⟨S10000x1, .f32⟩
  | 75 => ⟨S10000x1, .f32⟩
  | 76 => ⟨S_, .f32⟩
  | 77 => ⟨S10000x1, .f32⟩
  | 78 => ⟨S10000x1, .f32⟩
  | 79 => ⟨S10000x3, .f32⟩
  | 80 => ⟨S10000x3, .f32⟩
  | 81 => ⟨S10000x16x3, .f32⟩
  | 82 => ⟨S10000x1, .f32⟩
  | 83 => ⟨S10000x1, .f32⟩
  | 84 => ⟨S10000x1, .f32⟩
  | 85 => ⟨S10000x1, .f32⟩
  | 86 => ⟨S10000x1, .f32⟩
  | 87 => ⟨S10000x1, .f32⟩
  | 88 => ⟨S10000x1, .f32⟩
  | 89 => ⟨S10000x1, .f32⟩
  | 90 => ⟨S10000x1, .f32⟩
  | 91 => ⟨S10000x1x3, .f32⟩
  | 92 => ⟨S10000x3, .f32⟩
  | 93 => ⟨S_, .f32⟩
  | 94 => ⟨S10000x3, .f32⟩
  | 95 => ⟨S10000x3, .f32⟩
  | 96 => ⟨S_, .f32⟩
  | 97 => ⟨S10000x1, .f32⟩
  | 98 => ⟨S10000x1, .f32⟩
  | 99 => ⟨S10000x1x3, .f32⟩
  | 100 => ⟨S10000x3, .f32⟩
  | 101 => ⟨S10000x3, .f32⟩
  | 102 => ⟨S10000x3, .f32⟩
  | 103 => ⟨S10000x3, .f32⟩
  | 104 => ⟨S_, .f32⟩
  | 105 => ⟨S10000x1, .f32⟩
  | 106 => ⟨S10000x1, .f32⟩
  | 107 => ⟨S10000x1x3, .f32⟩
  | 108 => ⟨S10000x3, .f32⟩
  | 109 => ⟨S10000x3, .f32⟩
  | 110 => ⟨S10000x3, .f32⟩
  | 111 => ⟨S10000x3, .f32⟩
  | 112 => ⟨S_, .f32⟩
  | 113 => ⟨S10000x1, .f32⟩
  | 114 => ⟨S10000x1, .f32⟩
  | 115 => ⟨S10000x1x3, .f32⟩
  | 116 => ⟨S10000x3, .f32⟩
  | 117 => ⟨S10000x3, .f32⟩
  | 118 => ⟨S10000x3, .f32⟩
  | 119 => ⟨S10000x3, .f32⟩
  | 120 => ⟨S_, .f32⟩
  | 121 => ⟨S10000x1, .f32⟩
  | 122 => ⟨S10000x1, .f32⟩
  | 123 => ⟨S10000x1x3, .f32⟩
  | 124 => ⟨S10000x3, .f32⟩
  | 125 => ⟨S10000x3, .f32⟩
  | 126 => ⟨S10000x3, .f32⟩
  | 127 => ⟨S10000x3, .f32⟩
  | _ => ⟨S10000x3, .f32⟩

abbrev hbmTy0_2 (i : Nat) : BufTy := match i % 128 with
  | 0 => ⟨S_, .f32⟩
  | 1 => ⟨S10000x1, .f32⟩
  | 2 => ⟨S10000x1, .f32⟩
  | 3 => ⟨S10000x1x3, .f32⟩
  | 4 => ⟨S10000x3, .f32⟩
  | 5 => ⟨S10000x3, .f32⟩
  | 6 => ⟨S10000x3, .f32⟩
  | 7 => ⟨S10000x3, .f32⟩
  | 8 => ⟨S_, .f32⟩
  | 9 => ⟨S10000x1, .f32⟩
  | 10 => ⟨S10000x1, .f32⟩
  | 11 => ⟨S10000x1, .f32⟩
  | 12 => ⟨S10000x1, .f32⟩
  | 13 => ⟨S_, .f32⟩
  | 14 => ⟨S10000x1, .f32⟩
  | 15 => ⟨S10000x1, .f32⟩
  | 16 => ⟨S10000x1x3, .f32⟩
  | 17 => ⟨S10000x3, .f32⟩
  | 18 => ⟨S10000x3, .f32⟩
  | 19 => ⟨S10000x3, .f32⟩
  | 20 => ⟨S10000x3, .f32⟩
  | 21 => ⟨S_, .f32⟩
  | 22 => ⟨S10000x1, .f32⟩
  | 23 => ⟨S10000x1, .f32⟩
  | 24 => ⟨S10000x1x3, .f32⟩
  | 25 => ⟨S10000x3, .f32⟩
  | 26 => ⟨S10000x3, .f32⟩
  | 27 => ⟨S10000x3, .f32⟩
  | 28 => ⟨S10000x3, .f32⟩
  | 29 => ⟨S10000x1, .f32⟩
  | 30 => ⟨S_, .f32⟩
  | 31 => ⟨S10000x1, .f32⟩
  | 32 => ⟨S10000x1, .f32⟩
  | 33 => ⟨S10000x1x3, .f32⟩
  | 34 => ⟨S10000x3, .f32⟩
  | 35 => ⟨S10000x3, .f32⟩
  | 36 => ⟨S10000x3, .f32⟩
  | 37 => ⟨S10000x3, .f32⟩
  | 38 => ⟨S_, .f32⟩
  | 39 => ⟨S10000x1, .f32⟩
  | 40 => ⟨S10000x1, .f32⟩
  | 41 => ⟨S_, .f32⟩
  | 42 => ⟨S10000x1, .f32⟩
  | 43 => ⟨S10000x1, .f32⟩
  | 44 => ⟨S10000x1, .f32⟩
  | 45 => ⟨S10000x1, .f32⟩
  | 46 => ⟨S10000x1x3, .f32⟩
  | 47 => ⟨S10000x3, .f32⟩
  | 48 => ⟨S10000x3, .f32⟩
  | 49 => ⟨S10000x3, .f32⟩
  | 50 => ⟨S10000x3, .f32⟩
  | 51 => ⟨S_, .f32⟩
  | 52 => ⟨S10000x1, .f32⟩
  | 53 => ⟨S10000x1, .f32⟩
  | 54 => ⟨S10000x1, .f32⟩
  | 55 => ⟨S10000x1x3, .f32⟩
  | 56 => ⟨S10000x3, .f32⟩
  | 57 => ⟨S10000x3, .f32⟩
  | 58 => ⟨S10000x3, .f32⟩
  | 59 => ⟨S10000x3, .f32⟩
  | 60 => ⟨S_, .f32⟩
  | 61 => ⟨S10000x1, .f32⟩
  | 62 => ⟨S10000x1, .f32⟩
  | 63 => ⟨S_, .f32⟩
  | 64 => ⟨S10000x1, .f32⟩
  | 65 => ⟨S10000x1, .f32⟩
  | 66 => ⟨S10000x1, .f32⟩
  | 67 => ⟨S10000x1, .f32⟩
  | 68 => ⟨S10000x1, .f32⟩
  | 69 => ⟨S10000x1x3, .f32⟩
  | 70 => ⟨S10000x3, .f32⟩
  | 71 => ⟨S10000x3, .f32⟩
  | 72 => ⟨S10000x3, .f32⟩
  | 73 => ⟨S10000x3, .f32⟩
  | 74 => ⟨S_, .f32⟩
  | 75 => ⟨S10000x1, .f32⟩
  | 76 => ⟨S10000x1, .f32⟩
  | 77 => ⟨S_, .f32⟩
  | 78 => ⟨S10000x1, .f32⟩
  | 79 => ⟨S10000x1, .f32⟩
  | 80 => ⟨S_, .f32⟩
  | 81 => ⟨S10000x1, .f32⟩
  | 82 => ⟨S10000x1, .f32⟩
  | 83 => ⟨S10000x1, .f32⟩
  | 84 => ⟨S_, .f32⟩
  | 85 => ⟨S10000x1, .f32⟩
  | 86 => ⟨S10000x1, .f32⟩
  | 87 => ⟨S10000x1, .f32⟩
  | 88 => ⟨S10000x1, .f32⟩
  | 89 => ⟨S10000x1x3, .f32⟩
  | 90 => ⟨S10000x3, .f32⟩
  | 91 => ⟨S10000x3, .f32⟩
  | 92 => ⟨S10000x3, .f32⟩
  | 93 => ⟨S10000x3, .f32⟩
  | 94 => ⟨S_, .f32⟩
  | 95 => ⟨S10000x1, .f32⟩
  | 96 => ⟨S10000x1, .f32⟩
  | 97 => ⟨S_, .f32⟩
  | 98 => ⟨S10000x1, .f32⟩
  | 99 => ⟨S10000x1, .f32⟩
  | 100 => ⟨S10000x1, .f32⟩
  | 101 => ⟨S10000x1, .f32⟩
  | 102 => ⟨S10000x1, .f32⟩
  | 103 => ⟨S10000x1x3, .f32⟩
  | 104 => ⟨S10000x3, .f32⟩
  | 105 => ⟨S10000x3, .f32⟩
  | 106 => ⟨S10000x3, .f32⟩
  | 107 => ⟨S10000x3, .f32⟩
  | 108 => ⟨S_, .f32⟩
  | 109 => ⟨S10000x1, .f32⟩
  | 110 => ⟨S10000x1, .f32⟩
  | 111 => ⟨S10000x1, .f32⟩
  | 112 => ⟨S10000x1, .f32⟩
  | 113 => ⟨S10000x1x3, .f32⟩
  | 114 => ⟨S10000x3, .f32⟩
  | 115 => ⟨S10000x3, .f32⟩
  | 116 => ⟨S10000x3, .f32⟩
  | 117 => ⟨S10000x3, .f32⟩
  | 118 => ⟨S_, .f32⟩
  | 119 => ⟨S10000x1, .f32⟩
  | 120 => ⟨S10000x1, .f32⟩
  | 121 => ⟨S_, .f32⟩
  | 122 => ⟨S10000x1, .f32⟩
  | 123 => ⟨S10000x1, .f32⟩
  | 124 => ⟨S10000x1, .f32⟩
  | 125 => ⟨S10000x1, .f32⟩
  | 126 => ⟨S10000x1x3, .f32⟩
  | 127 => ⟨S10000x3, .f32⟩
  | _ => ⟨S10000x3, .f32⟩

abbrev hbmTy0_3 (i : Nat) : BufTy := match i % 128 with
  | 0 => ⟨S10000x3, .f32⟩
  | 1 => ⟨S10000x3, .f32⟩
  | 2 => ⟨S10000x3, .f32⟩
  | 3 => ⟨S_, .f32⟩
  | 4 => ⟨S10000x3, .f32⟩
  | 5 => ⟨S10000x3, .f32⟩
  | 6 => ⟨S_, .f32⟩
  | 7 => ⟨S10000x3, .f32⟩
  | 8 => ⟨S10000x3, .f32⟩
  | 9 => ⟨S10000x1x1, .f32⟩
  | 10 => ⟨S10000, .f32⟩
  | 11 => ⟨S10000x1x1, .f32⟩
  | 12 => ⟨S10000, .f32⟩
  | 13 => ⟨S10000x1x1, .f32⟩
  | 14 => ⟨S10000, .f32⟩
  | 15 => ⟨S10000, .f32⟩
  | 16 => ⟨S10000, .f32⟩
  | 17 => ⟨S10000, .f32⟩
  | 18 => ⟨S10000, .f32⟩
  | 19 => ⟨S10000, .f32⟩
  | 20 => ⟨S10000, .f32⟩
  | 21 => ⟨S10000, .f32⟩
  | 22 => ⟨S10000x1, .f32⟩
  | 23 => ⟨S10000x1, .f32⟩
  | 24 => ⟨S10000x1, .f32⟩
  | 25 => ⟨S10000x3, .f32⟩
  | 26 => ⟨S10000x1, .f32⟩
  | 27 => ⟨S10000x1, .f32⟩
  | 28 => ⟨S10000x2, .f32⟩
  | 29 => ⟨S10000x2, .f32⟩
  | 30 => ⟨S_, .f32⟩
  | 31 => ⟨S10000x2, .f32⟩
  | 32 => ⟨S10000x2, .f32⟩
  | 33 => ⟨S10000x2, .f32⟩
  | 34 => ⟨S10000, .i32⟩
  | 35 => ⟨S10000, .f32⟩
  | 36 => ⟨S10000, .i32⟩
  | 37 => ⟨S_, .i32⟩
  | 38 => ⟨S10000, .i32⟩
  | 39 => ⟨S10000, .i1⟩
  | 40 => ⟨S_, .i32⟩
  | 41 => ⟨S10000, .i32⟩
  | 42 => ⟨S10000, .i32⟩
  | 43 => ⟨S10000, .i32⟩
  | 44 => ⟨S10000x1, .i32⟩
  | 45 => ⟨S10000x2, .f32⟩
  | 46 => ⟨S_, .i32⟩
  | 47 => ⟨S10000, .i32⟩
  | 48 => ⟨S10000, .i1⟩
  | 49 => ⟨S_, .i32⟩
  | 50 => ⟨S10000, .i32⟩
  | 51 => ⟨S10000, .i32⟩
  | 52 => ⟨S10000, .i32⟩
  | 53 => ⟨S10000x1, .i32⟩
  | 54 => ⟨S10000x3, .f32⟩
  | 55 => ⟨S_, .i32⟩
  | 56 => ⟨S10000, .i32⟩
  | 57 => ⟨S10000, .i1⟩
  | 58 => ⟨S_, .i32⟩
  | 59 => ⟨S10000, .i32⟩
  | 60 => ⟨S10000, .i32⟩
  | 61 => ⟨S10000, .i32⟩
  | 62 => ⟨S_, .i32⟩
  | 63 => ⟨S10000, .i32⟩
  | 64 => ⟨S10000, .i32⟩
  | 65 => ⟨S10000x1, .i32⟩
  | 66 => ⟨S10000x1, .i32⟩
  | 67 => ⟨S10000x2, .i32⟩
  | 68 => ⟨S10000, .f32⟩
  | 69 => ⟨S_, .i32⟩
  | 70 => ⟨S10000, .i32⟩
  | 71 => ⟨S10000, .i1⟩
  | 72 => ⟨S_, .i32⟩
  | 73 => ⟨S10000, .i32⟩
  | 74 => ⟨S10000, .i32⟩
  | 75 => ⟨S10000, .i32⟩
  | 76 => ⟨S10000x1, .i32⟩
  | 77 => ⟨S10000x3, .f32⟩
  | 78 => ⟨S32, .f32⟩
  | 79 => ⟨S32, .f32⟩
  | 80 => ⟨S32x32, .f32⟩
  | 81 => ⟨S32x32, .f32⟩
  | 82 => ⟨S1024, .f32⟩
  | 83 => ⟨S1024, .f32⟩
  | 84 => ⟨S1024x1, .f32⟩
  | 85 => ⟨S1024x1, .f32⟩
  | 86 => ⟨S1024x2, .f32⟩
  | 87 => ⟨S1024x1, .f32⟩
  | 88 => ⟨S1024, .f32⟩
  | 89 => ⟨S1x1024, .f32⟩
  | 90 => ⟨S10000x1, .f32⟩
  | 91 => ⟨S10000, .f32⟩
  | 92 => ⟨S10000x1, .f32⟩
  | 93 => ⟨S10000x1024, .f32⟩
  | 94 => ⟨S10000x1024, .f32⟩
  | 95 => ⟨S10000x1024, .f32⟩
  | 96 => ⟨S1024x1, .f32⟩
  | 97 => ⟨S1024, .f32⟩
  | 98 => ⟨S1x1024, .f32⟩
  | 99 => ⟨S10000x1, .f32⟩
  | 100 => ⟨S10000, .f32⟩
  | 101 => ⟨S10000x1, .f32⟩
  | 102 => ⟨S10000x1024, .f32⟩
  | 103 => ⟨S10000x1024, .f32⟩
  | 104 => ⟨S10000x1024, .f32⟩
  | 105 => ⟨S10000x1, .f32⟩
  | 106 => ⟨S10000x1024, .f32⟩
  | 107 => ⟨S10000x1024, .f32⟩
  | 108 => ⟨S10000x1024, .f32⟩
  | 109 => ⟨S10000x1, .f32⟩
  | 110 => ⟨S_, .f32⟩
  | 111 => ⟨S10000x1, .f32⟩
  | 112 => ⟨S10000x1, .f32⟩
  | 113 => ⟨S10000x1024, .f32⟩
  | 114 => ⟨S10000x1024, .f32⟩
  | 115 => ⟨S10000x1024, .f32⟩
  | 116 => ⟨S10000x1024, .f32⟩
  | 117 => ⟨S10000x1, .f32⟩
  | 118 => ⟨S10000x1024, .f32⟩
  | 119 => ⟨S10000x1024, .f32⟩
  | 120 => ⟨S10000x1024, .f32⟩
  | 121 => ⟨S10000x1024, .f32⟩
  | 122 => ⟨S_, .f32⟩
  | 123 => ⟨S10000x1024, .f32⟩
  | 124 => ⟨S10000x1024, .f32⟩
  | 125 => ⟨S_, .f32⟩
  | 126 => ⟨S10000x1024, .f32⟩
  | 127 => ⟨S10000x1024, .f32⟩
  | _ => ⟨S10000x3, .f32⟩

abbrev hbmTy0_4 (i : Nat) : BufTy := match i % 128 with
  | 0 => ⟨S10000x1024, .f32⟩
  | 1 => ⟨S10000x1, .f32⟩
  | 2 => ⟨S10000x1024, .f32⟩
  | 3 => ⟨S10000x1024, .f32⟩
  | 4 => ⟨S_, .f32⟩
  | 5 => ⟨S10000x1024, .f32⟩
  | 6 => ⟨S10000x1024, .f32⟩
  | 7 => ⟨S_, .f32⟩
  | 8 => ⟨S10000x1024, .f32⟩
  | 9 => ⟨S10000x1024, .i1⟩
  | 10 => ⟨S_, .f32⟩
  | 11 => ⟨S_, .f32⟩
  | 12 => ⟨S10000x1024, .f32⟩
  | 13 => ⟨S10000x1024, .f32⟩
  | 14 => ⟨S10000x1024, .f32⟩
  | 15 => ⟨S10000x1024, .f32⟩
  | 16 => ⟨S_, .f32⟩
  | 17 => ⟨S_, .f32⟩
  | 18 => ⟨S10000x1024, .f32⟩
  | 19 => ⟨S_, .f32⟩
  | 20 => ⟨S1x1024, .f32⟩
  | 21 => ⟨S9999x1024, .f32⟩
  | 22 => ⟨S10000x1024, .f32⟩
  | 23 => ⟨S10000x1024, .f32⟩
  | 24 => ⟨S10000x1024, .f32⟩
  | 25 => ⟨S3x1024, .f32⟩
  | 26 => ⟨S3x32x32, .f32⟩
  | _ => ⟨S10000x3, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S10000x3, .f32⟩

abbrev bufTy : (tb : Table) → Fin (tcTables nBuf tb) → BufTy
  | .hbm, ⟨i, _⟩ => hbmTy i
  | _, _ => ⟨S10000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_call0_v0 : Ref sig .tc := ⟨.hbm, 17, rfl⟩
abbrev main_call0_cst : Ref sig .tc := ⟨.hbm, 18, rfl⟩
abbrev main_call0_v1 : Ref sig .tc := ⟨.hbm, 19, rfl⟩
abbrev main_call0_v2 : Ref sig .tc := ⟨.hbm, 20, rfl⟩
abbrev main_v7 : Ref sig .tc := ⟨.hbm, 21, rfl⟩
abbrev main_cst_1 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_2 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_3 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_4 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_5 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_cst_6 : Ref sig .tc := ⟨.hbm, 68, rfl⟩
abbrev main_v49 : Ref sig .tc := ⟨.hbm, 69, rfl⟩
abbrev main_v50 : Ref sig .tc := ⟨.hbm, 70, rfl⟩
abbrev main_cst_7 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_8 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_cst_9 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_cst_10 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_cst_11 : Ref sig .tc := ⟨.hbm, 95, rfl⟩
abbrev main_v71 : Ref sig .tc := ⟨.hbm, 96, rfl⟩
abbrev main_v72 : Ref sig .tc := ⟨.hbm, 97, rfl⟩
abbrev main_cst_12 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_cst_13 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_cst_14 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_cst_15 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_cst_16 : Ref sig .tc := ⟨.hbm, 122, rfl⟩
abbrev main_v93 : Ref sig .tc := ⟨.hbm, 123, rfl⟩
abbrev main_v94 : Ref sig .tc := ⟨.hbm, 124, rfl⟩
abbrev main_cst_17 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_v111 : Ref sig .tc := ⟨.hbm, 142, rfl⟩
abbrev main_v112 : Ref sig .tc := ⟨.hbm, 143, rfl⟩
abbrev main_cst_18 : Ref sig .tc := ⟨.hbm, 144, rfl⟩
abbrev main_v113 : Ref sig .tc := ⟨.hbm, 145, rfl⟩
abbrev main_cst_19 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_v117 : Ref sig .tc := ⟨.hbm, 150, rfl⟩
abbrev main_cst_20 : Ref sig .tc := ⟨.hbm, 151, rfl⟩
abbrev main_v118 : Ref sig .tc := ⟨.hbm, 152, rfl⟩
abbrev main_v119 : Ref sig .tc := ⟨.hbm, 153, rfl⟩
abbrev main_v120 : Ref sig .tc := ⟨.hbm, 154, rfl⟩
abbrev main_v121 : Ref sig .tc := ⟨.hbm, 155, rfl⟩
abbrev main_cst_21 : Ref sig .tc := ⟨.hbm, 156, rfl⟩
abbrev main_v122 : Ref sig .tc := ⟨.hbm, 157, rfl⟩
abbrev main_v123 : Ref sig .tc := ⟨.hbm, 158, rfl⟩
abbrev main_v124 : Ref sig .tc := ⟨.hbm, 159, rfl⟩
abbrev main_v125 : Ref sig .tc := ⟨.hbm, 160, rfl⟩
abbrev main_cst_22 : Ref sig .tc := ⟨.hbm, 161, rfl⟩
abbrev main_v126 : Ref sig .tc := ⟨.hbm, 162, rfl⟩
abbrev main_v127 : Ref sig .tc := ⟨.hbm, 163, rfl⟩
abbrev main_v128 : Ref sig .tc := ⟨.hbm, 164, rfl⟩
abbrev main_v129 : Ref sig .tc := ⟨.hbm, 165, rfl⟩
abbrev main_v130 : Ref sig .tc := ⟨.hbm, 166, rfl⟩
abbrev main_v131 : Ref sig .tc := ⟨.hbm, 167, rfl⟩
abbrev main_v132 : Ref sig .tc := ⟨.hbm, 168, rfl⟩
abbrev main_v133 : Ref sig .tc := ⟨.hbm, 169, rfl⟩
abbrev main_v134 : Ref sig .tc := ⟨.hbm, 170, rfl⟩
abbrev main_v135 : Ref sig .tc := ⟨.hbm, 171, rfl⟩
abbrev main_v136 : Ref sig .tc := ⟨.hbm, 172, rfl⟩
abbrev main_v137 : Ref sig .tc := ⟨.hbm, 173, rfl⟩
abbrev main_v138 : Ref sig .tc := ⟨.hbm, 174, rfl⟩
abbrev main_v139 : Ref sig .tc := ⟨.hbm, 175, rfl⟩
abbrev main_v140 : Ref sig .tc := ⟨.hbm, 176, rfl⟩
abbrev main_v141 : Ref sig .tc := ⟨.hbm, 177, rfl⟩
abbrev main_v142 : Ref sig .tc := ⟨.hbm, 178, rfl⟩
abbrev main_v143 : Ref sig .tc := ⟨.hbm, 179, rfl⟩
abbrev main_v144 : Ref sig .tc := ⟨.hbm, 180, rfl⟩
abbrev main_v145 : Ref sig .tc := ⟨.hbm, 181, rfl⟩
abbrev main_c : Ref sig .tc := ⟨.hbm, 182, rfl⟩
abbrev main_v146 : Ref sig .tc := ⟨.hbm, 183, rfl⟩
abbrev main_v147 : Ref sig .tc := ⟨.hbm, 184, rfl⟩
abbrev main_v148 : Ref sig .tc := ⟨.hbm, 185, rfl⟩
abbrev main_v149 : Ref sig .tc := ⟨.hbm, 186, rfl⟩
abbrev main_v150 : Ref sig .tc := ⟨.hbm, 187, rfl⟩
abbrev main_cst_23 : Ref sig .tc := ⟨.hbm, 188, rfl⟩
abbrev main_v151 : Ref sig .tc := ⟨.hbm, 189, rfl⟩
abbrev main_v152 : Ref sig .tc := ⟨.hbm, 190, rfl⟩
abbrev main_v153 : Ref sig .tc := ⟨.hbm, 191, rfl⟩
abbrev main_v154 : Ref sig .tc := ⟨.hbm, 192, rfl⟩
abbrev main_v155 : Ref sig .tc := ⟨.hbm, 193, rfl⟩
abbrev main_v156 : Ref sig .tc := ⟨.hbm, 194, rfl⟩
abbrev main_v157 : Ref sig .tc := ⟨.hbm, 195, rfl⟩
abbrev main_v158 : Ref sig .tc := ⟨.hbm, 196, rfl⟩
abbrev main_v159 : Ref sig .tc := ⟨.hbm, 197, rfl⟩
abbrev main_v160 : Ref sig .tc := ⟨.hbm, 198, rfl⟩
abbrev main_call1_v0 : Ref sig .tc := ⟨.hbm, 199, rfl⟩
abbrev main_call1_cst : Ref sig .tc := ⟨.hbm, 200, rfl⟩
abbrev main_call1_v1 : Ref sig .tc := ⟨.hbm, 201, rfl⟩
abbrev main_call1_v2 : Ref sig .tc := ⟨.hbm, 202, rfl⟩
abbrev main_v161 : Ref sig .tc := ⟨.hbm, 203, rfl⟩
abbrev main_cst_24 : Ref sig .tc := ⟨.hbm, 204, rfl⟩
abbrev main_v162 : Ref sig .tc := ⟨.hbm, 205, rfl⟩
abbrev main_v163 : Ref sig .tc := ⟨.hbm, 206, rfl⟩
abbrev main_v164 : Ref sig .tc := ⟨.hbm, 207, rfl⟩
abbrev main_v165 : Ref sig .tc := ⟨.hbm, 208, rfl⟩
abbrev main_v166 : Ref sig .tc := ⟨.hbm, 209, rfl⟩
abbrev main_v167 : Ref sig .tc := ⟨.hbm, 210, rfl⟩
abbrev main_v168 : Ref sig .tc := ⟨.hbm, 211, rfl⟩
abbrev main_v169 : Ref sig .tc := ⟨.hbm, 212, rfl⟩
abbrev main_v170 : Ref sig .tc := ⟨.hbm, 213, rfl⟩
abbrev main_v171 : Ref sig .tc := ⟨.hbm, 214, rfl⟩
abbrev main_v172 : Ref sig .tc := ⟨.hbm, 215, rfl⟩
abbrev main_v173 : Ref sig .tc := ⟨.hbm, 216, rfl⟩
abbrev main_v174 : Ref sig .tc := ⟨.hbm, 217, rfl⟩
abbrev main_v175 : Ref sig .tc := ⟨.hbm, 218, rfl⟩
abbrev main_v176 : Ref sig .tc := ⟨.hbm, 219, rfl⟩
abbrev main_v177 : Ref sig .tc := ⟨.hbm, 220, rfl⟩
abbrev main_cst_25 : Ref sig .tc := ⟨.hbm, 221, rfl⟩
abbrev main_v178 : Ref sig .tc := ⟨.hbm, 222, rfl⟩
abbrev main_v179 : Ref sig .tc := ⟨.hbm, 223, rfl⟩
abbrev main_cst_26 : Ref sig .tc := ⟨.hbm, 224, rfl⟩
abbrev main_v180 : Ref sig .tc := ⟨.hbm, 225, rfl⟩
abbrev main_v181 : Ref sig .tc := ⟨.hbm, 226, rfl⟩
abbrev main_v182 : Ref sig .tc := ⟨.hbm, 227, rfl⟩
abbrev main_v183 : Ref sig .tc := ⟨.hbm, 228, rfl⟩
abbrev main_v184 : Ref sig .tc := ⟨.hbm, 229, rfl⟩
abbrev main_v185 : Ref sig .tc := ⟨.hbm, 230, rfl⟩
abbrev main_v186 : Ref sig .tc := ⟨.hbm, 231, rfl⟩
abbrev main_cst_27 : Ref sig .tc := ⟨.hbm, 232, rfl⟩
abbrev main_v187 : Ref sig .tc := ⟨.hbm, 233, rfl⟩
abbrev main_v188 : Ref sig .tc := ⟨.hbm, 234, rfl⟩
abbrev main_v189 : Ref sig .tc := ⟨.hbm, 235, rfl⟩
abbrev main_v190 : Ref sig .tc := ⟨.hbm, 236, rfl⟩
abbrev main_v191 : Ref sig .tc := ⟨.hbm, 237, rfl⟩
abbrev main_v192 : Ref sig .tc := ⟨.hbm, 238, rfl⟩
abbrev main_v193 : Ref sig .tc := ⟨.hbm, 239, rfl⟩
abbrev main_cst_28 : Ref sig .tc := ⟨.hbm, 240, rfl⟩
abbrev main_v194 : Ref sig .tc := ⟨.hbm, 241, rfl⟩
abbrev main_v195 : Ref sig .tc := ⟨.hbm, 242, rfl⟩
abbrev main_v196 : Ref sig .tc := ⟨.hbm, 243, rfl⟩
abbrev main_v197 : Ref sig .tc := ⟨.hbm, 244, rfl⟩
abbrev main_v198 : Ref sig .tc := ⟨.hbm, 245, rfl⟩
abbrev main_v199 : Ref sig .tc := ⟨.hbm, 246, rfl⟩
abbrev main_v200 : Ref sig .tc := ⟨.hbm, 247, rfl⟩
abbrev main_cst_29 : Ref sig .tc := ⟨.hbm, 248, rfl⟩
abbrev main_v201 : Ref sig .tc := ⟨.hbm, 249, rfl⟩
abbrev main_v202 : Ref sig .tc := ⟨.hbm, 250, rfl⟩
abbrev main_v203 : Ref sig .tc := ⟨.hbm, 251, rfl⟩
abbrev main_v204 : Ref sig .tc := ⟨.hbm, 252, rfl⟩
abbrev main_v205 : Ref sig .tc := ⟨.hbm, 253, rfl⟩
abbrev main_v206 : Ref sig .tc := ⟨.hbm, 254, rfl⟩
abbrev main_v207 : Ref sig .tc := ⟨.hbm, 255, rfl⟩
abbrev main_cst_30 : Ref sig .tc := ⟨.hbm, 256, rfl⟩
abbrev main_v208 : Ref sig .tc := ⟨.hbm, 257, rfl⟩
abbrev main_v209 : Ref sig .tc := ⟨.hbm, 258, rfl⟩
abbrev main_v210 : Ref sig .tc := ⟨.hbm, 259, rfl⟩
abbrev main_v211 : Ref sig .tc := ⟨.hbm, 260, rfl⟩
abbrev main_v212 : Ref sig .tc := ⟨.hbm, 261, rfl⟩
abbrev main_v213 : Ref sig .tc := ⟨.hbm, 262, rfl⟩
abbrev main_v214 : Ref sig .tc := ⟨.hbm, 263, rfl⟩
abbrev main_cst_31 : Ref sig .tc := ⟨.hbm, 264, rfl⟩
abbrev main_v215 : Ref sig .tc := ⟨.hbm, 265, rfl⟩
abbrev main_v216 : Ref sig .tc := ⟨.hbm, 266, rfl⟩
abbrev main_v217 : Ref sig .tc := ⟨.hbm, 267, rfl⟩
abbrev main_v218 : Ref sig .tc := ⟨.hbm, 268, rfl⟩
abbrev main_cst_32 : Ref sig .tc := ⟨.hbm, 269, rfl⟩
abbrev main_v219 : Ref sig .tc := ⟨.hbm, 270, rfl⟩
abbrev main_v220 : Ref sig .tc := ⟨.hbm, 271, rfl⟩
abbrev main_v221 : Ref sig .tc := ⟨.hbm, 272, rfl⟩
abbrev main_v222 : Ref sig .tc := ⟨.hbm, 273, rfl⟩
abbrev main_v223 : Ref sig .tc := ⟨.hbm, 274, rfl⟩
abbrev main_v224 : Ref sig .tc := ⟨.hbm, 275, rfl⟩
abbrev main_v225 : Ref sig .tc := ⟨.hbm, 276, rfl⟩
abbrev main_cst_33 : Ref sig .tc := ⟨.hbm, 277, rfl⟩
abbrev main_v226 : Ref sig .tc := ⟨.hbm, 278, rfl⟩
abbrev main_v227 : Ref sig .tc := ⟨.hbm, 279, rfl⟩
abbrev main_v228 : Ref sig .tc := ⟨.hbm, 280, rfl⟩
abbrev main_v229 : Ref sig .tc := ⟨.hbm, 281, rfl⟩
abbrev main_v230 : Ref sig .tc := ⟨.hbm, 282, rfl⟩
abbrev main_v231 : Ref sig .tc := ⟨.hbm, 283, rfl⟩
abbrev main_v232 : Ref sig .tc := ⟨.hbm, 284, rfl⟩
abbrev main_v233 : Ref sig .tc := ⟨.hbm, 285, rfl⟩
abbrev main_cst_34 : Ref sig .tc := ⟨.hbm, 286, rfl⟩
abbrev main_v234 : Ref sig .tc := ⟨.hbm, 287, rfl⟩
abbrev main_v235 : Ref sig .tc := ⟨.hbm, 288, rfl⟩
abbrev main_v236 : Ref sig .tc := ⟨.hbm, 289, rfl⟩
abbrev main_v237 : Ref sig .tc := ⟨.hbm, 290, rfl⟩
abbrev main_v238 : Ref sig .tc := ⟨.hbm, 291, rfl⟩
abbrev main_v239 : Ref sig .tc := ⟨.hbm, 292, rfl⟩
abbrev main_v240 : Ref sig .tc := ⟨.hbm, 293, rfl⟩
abbrev main_cst_35 : Ref sig .tc := ⟨.hbm, 294, rfl⟩
abbrev main_v241 : Ref sig .tc := ⟨.hbm, 295, rfl⟩
abbrev main_v242 : Ref sig .tc := ⟨.hbm, 296, rfl⟩
abbrev main_cst_36 : Ref sig .tc := ⟨.hbm, 297, rfl⟩
abbrev main_v243 : Ref sig .tc := ⟨.hbm, 298, rfl⟩
abbrev main_v244 : Ref sig .tc := ⟨.hbm, 299, rfl⟩
abbrev main_v245 : Ref sig .tc := ⟨.hbm, 300, rfl⟩
abbrev main_v246 : Ref sig .tc := ⟨.hbm, 301, rfl⟩
abbrev main_v247 : Ref sig .tc := ⟨.hbm, 302, rfl⟩
abbrev main_v248 : Ref sig .tc := ⟨.hbm, 303, rfl⟩
abbrev main_v249 : Ref sig .tc := ⟨.hbm, 304, rfl⟩
abbrev main_v250 : Ref sig .tc := ⟨.hbm, 305, rfl⟩
abbrev main_v251 : Ref sig .tc := ⟨.hbm, 306, rfl⟩
abbrev main_cst_37 : Ref sig .tc := ⟨.hbm, 307, rfl⟩
abbrev main_v252 : Ref sig .tc := ⟨.hbm, 308, rfl⟩
abbrev main_v253 : Ref sig .tc := ⟨.hbm, 309, rfl⟩
abbrev main_v254 : Ref sig .tc := ⟨.hbm, 310, rfl⟩
abbrev main_v255 : Ref sig .tc := ⟨.hbm, 311, rfl⟩
abbrev main_v256 : Ref sig .tc := ⟨.hbm, 312, rfl⟩
abbrev main_v257 : Ref sig .tc := ⟨.hbm, 313, rfl⟩
abbrev main_v258 : Ref sig .tc := ⟨.hbm, 314, rfl⟩
abbrev main_v259 : Ref sig .tc := ⟨.hbm, 315, rfl⟩
abbrev main_cst_38 : Ref sig .tc := ⟨.hbm, 316, rfl⟩
abbrev main_v260 : Ref sig .tc := ⟨.hbm, 317, rfl⟩
abbrev main_v261 : Ref sig .tc := ⟨.hbm, 318, rfl⟩
abbrev main_cst_39 : Ref sig .tc := ⟨.hbm, 319, rfl⟩
abbrev main_v262 : Ref sig .tc := ⟨.hbm, 320, rfl⟩
abbrev main_v263 : Ref sig .tc := ⟨.hbm, 321, rfl⟩
abbrev main_v264 : Ref sig .tc := ⟨.hbm, 322, rfl⟩
abbrev main_v265 : Ref sig .tc := ⟨.hbm, 323, rfl⟩
abbrev main_v266 : Ref sig .tc := ⟨.hbm, 324, rfl⟩
abbrev main_v267 : Ref sig .tc := ⟨.hbm, 325, rfl⟩
abbrev main_v268 : Ref sig .tc := ⟨.hbm, 326, rfl⟩
abbrev main_v269 : Ref sig .tc := ⟨.hbm, 327, rfl⟩
abbrev main_v270 : Ref sig .tc := ⟨.hbm, 328, rfl⟩
abbrev main_v271 : Ref sig .tc := ⟨.hbm, 329, rfl⟩
abbrev main_cst_40 : Ref sig .tc := ⟨.hbm, 330, rfl⟩
abbrev main_v272 : Ref sig .tc := ⟨.hbm, 331, rfl⟩
abbrev main_v273 : Ref sig .tc := ⟨.hbm, 332, rfl⟩
abbrev main_cst_41 : Ref sig .tc := ⟨.hbm, 333, rfl⟩
abbrev main_v274 : Ref sig .tc := ⟨.hbm, 334, rfl⟩
abbrev main_v275 : Ref sig .tc := ⟨.hbm, 335, rfl⟩
abbrev main_cst_42 : Ref sig .tc := ⟨.hbm, 336, rfl⟩
abbrev main_v276 : Ref sig .tc := ⟨.hbm, 337, rfl⟩
abbrev main_v277 : Ref sig .tc := ⟨.hbm, 338, rfl⟩
abbrev main_v278 : Ref sig .tc := ⟨.hbm, 339, rfl⟩
abbrev main_cst_43 : Ref sig .tc := ⟨.hbm, 340, rfl⟩
abbrev main_v279 : Ref sig .tc := ⟨.hbm, 341, rfl⟩
abbrev main_v280 : Ref sig .tc := ⟨.hbm, 342, rfl⟩
abbrev main_v281 : Ref sig .tc := ⟨.hbm, 343, rfl⟩
abbrev main_v282 : Ref sig .tc := ⟨.hbm, 344, rfl⟩
abbrev main_v283 : Ref sig .tc := ⟨.hbm, 345, rfl⟩
abbrev main_v284 : Ref sig .tc := ⟨.hbm, 346, rfl⟩
abbrev main_v285 : Ref sig .tc := ⟨.hbm, 347, rfl⟩
abbrev main_v286 : Ref sig .tc := ⟨.hbm, 348, rfl⟩
abbrev main_v287 : Ref sig .tc := ⟨.hbm, 349, rfl⟩
abbrev main_cst_44 : Ref sig .tc := ⟨.hbm, 350, rfl⟩
abbrev main_v288 : Ref sig .tc := ⟨.hbm, 351, rfl⟩
abbrev main_v289 : Ref sig .tc := ⟨.hbm, 352, rfl⟩
abbrev main_cst_45 : Ref sig .tc := ⟨.hbm, 353, rfl⟩
abbrev main_v290 : Ref sig .tc := ⟨.hbm, 354, rfl⟩
abbrev main_v291 : Ref sig .tc := ⟨.hbm, 355, rfl⟩
abbrev main_v292 : Ref sig .tc := ⟨.hbm, 356, rfl⟩
abbrev main_v293 : Ref sig .tc := ⟨.hbm, 357, rfl⟩
abbrev main_v294 : Ref sig .tc := ⟨.hbm, 358, rfl⟩
abbrev main_v295 : Ref sig .tc := ⟨.hbm, 359, rfl⟩
abbrev main_v296 : Ref sig .tc := ⟨.hbm, 360, rfl⟩
abbrev main_v297 : Ref sig .tc := ⟨.hbm, 361, rfl⟩
abbrev main_v298 : Ref sig .tc := ⟨.hbm, 362, rfl⟩
abbrev main_v299 : Ref sig .tc := ⟨.hbm, 363, rfl⟩
abbrev main_cst_46 : Ref sig .tc := ⟨.hbm, 364, rfl⟩
abbrev main_v300 : Ref sig .tc := ⟨.hbm, 365, rfl⟩
abbrev main_v301 : Ref sig .tc := ⟨.hbm, 366, rfl⟩
abbrev main_v302 : Ref sig .tc := ⟨.hbm, 367, rfl⟩
abbrev main_v303 : Ref sig .tc := ⟨.hbm, 368, rfl⟩
abbrev main_v304 : Ref sig .tc := ⟨.hbm, 369, rfl⟩
abbrev main_v305 : Ref sig .tc := ⟨.hbm, 370, rfl⟩
abbrev main_v306 : Ref sig .tc := ⟨.hbm, 371, rfl⟩
abbrev main_v307 : Ref sig .tc := ⟨.hbm, 372, rfl⟩
abbrev main_v308 : Ref sig .tc := ⟨.hbm, 373, rfl⟩
abbrev main_cst_47 : Ref sig .tc := ⟨.hbm, 374, rfl⟩
abbrev main_v309 : Ref sig .tc := ⟨.hbm, 375, rfl⟩
abbrev main_v310 : Ref sig .tc := ⟨.hbm, 376, rfl⟩
abbrev main_cst_48 : Ref sig .tc := ⟨.hbm, 377, rfl⟩
abbrev main_v311 : Ref sig .tc := ⟨.hbm, 378, rfl⟩
abbrev main_v312 : Ref sig .tc := ⟨.hbm, 379, rfl⟩
abbrev main_v313 : Ref sig .tc := ⟨.hbm, 380, rfl⟩
abbrev main_v314 : Ref sig .tc := ⟨.hbm, 381, rfl⟩
abbrev main_v315 : Ref sig .tc := ⟨.hbm, 382, rfl⟩
abbrev main_v316 : Ref sig .tc := ⟨.hbm, 383, rfl⟩
abbrev main_v317 : Ref sig .tc := ⟨.hbm, 384, rfl⟩
abbrev main_v318 : Ref sig .tc := ⟨.hbm, 385, rfl⟩
abbrev main_v319 : Ref sig .tc := ⟨.hbm, 386, rfl⟩
abbrev main_cst_49 : Ref sig .tc := ⟨.hbm, 387, rfl⟩
abbrev main_v320 : Ref sig .tc := ⟨.hbm, 388, rfl⟩
abbrev main_v321 : Ref sig .tc := ⟨.hbm, 389, rfl⟩
abbrev main_cst_50 : Ref sig .tc := ⟨.hbm, 390, rfl⟩
abbrev main_v322 : Ref sig .tc := ⟨.hbm, 391, rfl⟩
abbrev main_v323 : Ref sig .tc := ⟨.hbm, 392, rfl⟩
abbrev main_v324 : Ref sig .tc := ⟨.hbm, 393, rfl⟩
abbrev main_v325 : Ref sig .tc := ⟨.hbm, 394, rfl⟩
abbrev main_v326 : Ref sig .tc := ⟨.hbm, 395, rfl⟩
abbrev main_v327 : Ref sig .tc := ⟨.hbm, 396, rfl⟩
abbrev main_v328 : Ref sig .tc := ⟨.hbm, 397, rfl⟩
abbrev main_v329 : Ref sig .tc := ⟨.hbm, 398, rfl⟩
abbrev main_v330 : Ref sig .tc := ⟨.hbm, 399, rfl⟩
abbrev main_v331 : Ref sig .tc := ⟨.hbm, 400, rfl⟩
abbrev main_v332 : Ref sig .tc := ⟨.hbm, 401, rfl⟩
abbrev main_v333 : Ref sig .tc := ⟨.hbm, 402, rfl⟩
abbrev main_v334 : Ref sig .tc := ⟨.hbm, 403, rfl⟩
abbrev main_v335 : Ref sig .tc := ⟨.hbm, 404, rfl⟩
abbrev main_v336 : Ref sig .tc := ⟨.hbm, 405, rfl⟩
abbrev main_v337 : Ref sig .tc := ⟨.hbm, 406, rfl⟩
abbrev main_v338 : Ref sig .tc := ⟨.hbm, 407, rfl⟩
abbrev main_v339 : Ref sig .tc := ⟨.hbm, 408, rfl⟩
abbrev main_v340 : Ref sig .tc := ⟨.hbm, 409, rfl⟩
abbrev main_v341 : Ref sig .tc := ⟨.hbm, 410, rfl⟩
abbrev main_v342 : Ref sig .tc := ⟨.hbm, 411, rfl⟩
abbrev main_v343 : Ref sig .tc := ⟨.hbm, 412, rfl⟩
abbrev main_v344 : Ref sig .tc := ⟨.hbm, 413, rfl⟩
abbrev main_cst_51 : Ref sig .tc := ⟨.hbm, 414, rfl⟩
abbrev main_v345 : Ref sig .tc := ⟨.hbm, 415, rfl⟩
abbrev main_v346 : Ref sig .tc := ⟨.hbm, 416, rfl⟩
abbrev main_v347 : Ref sig .tc := ⟨.hbm, 417, rfl⟩
abbrev main_call2_v0 : Ref sig .tc := ⟨.hbm, 418, rfl⟩
abbrev main_call2_v1_0 : Ref sig .tc := ⟨.hbm, 419, rfl⟩
abbrev main_v348 : Ref sig .tc := ⟨.hbm, 420, rfl⟩
abbrev main_c_52 : Ref sig .tc := ⟨.hbm, 421, rfl⟩
abbrev main_v349 : Ref sig .tc := ⟨.hbm, 422, rfl⟩
abbrev main_v350 : Ref sig .tc := ⟨.hbm, 423, rfl⟩
abbrev main_c_53 : Ref sig .tc := ⟨.hbm, 424, rfl⟩
abbrev main_v351 : Ref sig .tc := ⟨.hbm, 425, rfl⟩
abbrev main_v352 : Ref sig .tc := ⟨.hbm, 426, rfl⟩
abbrev main_v353 : Ref sig .tc := ⟨.hbm, 427, rfl⟩
abbrev main_v354 : Ref sig .tc := ⟨.hbm, 428, rfl⟩
abbrev main_v355 : Ref sig .tc := ⟨.hbm, 429, rfl⟩
abbrev main_c_54 : Ref sig .tc := ⟨.hbm, 430, rfl⟩
abbrev main_v356 : Ref sig .tc := ⟨.hbm, 431, rfl⟩
abbrev main_v357 : Ref sig .tc := ⟨.hbm, 432, rfl⟩
abbrev main_c_55 : Ref sig .tc := ⟨.hbm, 433, rfl⟩
abbrev main_v358 : Ref sig .tc := ⟨.hbm, 434, rfl⟩
abbrev main_v359 : Ref sig .tc := ⟨.hbm, 435, rfl⟩
abbrev main_v360 : Ref sig .tc := ⟨.hbm, 436, rfl⟩
abbrev main_v361 : Ref sig .tc := ⟨.hbm, 437, rfl⟩
abbrev main_v362 : Ref sig .tc := ⟨.hbm, 438, rfl⟩
abbrev main_c_56 : Ref sig .tc := ⟨.hbm, 439, rfl⟩
abbrev main_v363 : Ref sig .tc := ⟨.hbm, 440, rfl⟩
abbrev main_v364 : Ref sig .tc := ⟨.hbm, 441, rfl⟩
abbrev main_c_57 : Ref sig .tc := ⟨.hbm, 442, rfl⟩
abbrev main_v365 : Ref sig .tc := ⟨.hbm, 443, rfl⟩
abbrev main_v366 : Ref sig .tc := ⟨.hbm, 444, rfl⟩
abbrev main_v367 : Ref sig .tc := ⟨.hbm, 445, rfl⟩
abbrev main_c_58 : Ref sig .tc := ⟨.hbm, 446, rfl⟩
abbrev main_v368 : Ref sig .tc := ⟨.hbm, 447, rfl⟩
abbrev main_v369 : Ref sig .tc := ⟨.hbm, 448, rfl⟩
abbrev main_v370 : Ref sig .tc := ⟨.hbm, 449, rfl⟩
abbrev main_v371 : Ref sig .tc := ⟨.hbm, 450, rfl⟩
abbrev main_v372 : Ref sig .tc := ⟨.hbm, 451, rfl⟩
abbrev main_v373 : Ref sig .tc := ⟨.hbm, 452, rfl⟩
abbrev main_c_59 : Ref sig .tc := ⟨.hbm, 453, rfl⟩
abbrev main_v374 : Ref sig .tc := ⟨.hbm, 454, rfl⟩
abbrev main_v375 : Ref sig .tc := ⟨.hbm, 455, rfl⟩
abbrev main_c_60 : Ref sig .tc := ⟨.hbm, 456, rfl⟩
abbrev main_v376 : Ref sig .tc := ⟨.hbm, 457, rfl⟩
abbrev main_v377 : Ref sig .tc := ⟨.hbm, 458, rfl⟩
abbrev main_v378 : Ref sig .tc := ⟨.hbm, 459, rfl⟩
abbrev main_v379 : Ref sig .tc := ⟨.hbm, 460, rfl⟩
abbrev main_v380 : Ref sig .tc := ⟨.hbm, 461, rfl⟩
abbrev main_v381 : Ref sig .tc := ⟨.hbm, 462, rfl⟩
abbrev main_v382 : Ref sig .tc := ⟨.hbm, 463, rfl⟩
abbrev main_v383 : Ref sig .tc := ⟨.hbm, 464, rfl⟩
abbrev main_v384 : Ref sig .tc := ⟨.hbm, 465, rfl⟩
abbrev main_v385 : Ref sig .tc := ⟨.hbm, 466, rfl⟩
abbrev main_v386 : Ref sig .tc := ⟨.hbm, 467, rfl⟩
abbrev main_v387 : Ref sig .tc := ⟨.hbm, 468, rfl⟩
abbrev main_v388 : Ref sig .tc := ⟨.hbm, 469, rfl⟩
abbrev main_v389 : Ref sig .tc := ⟨.hbm, 470, rfl⟩
abbrev main_v390 : Ref sig .tc := ⟨.hbm, 471, rfl⟩
abbrev main_v391 : Ref sig .tc := ⟨.hbm, 472, rfl⟩
abbrev main_v392 : Ref sig .tc := ⟨.hbm, 473, rfl⟩
abbrev main_v393 : Ref sig .tc := ⟨.hbm, 474, rfl⟩
abbrev main_v394 : Ref sig .tc := ⟨.hbm, 475, rfl⟩
abbrev main_v395 : Ref sig .tc := ⟨.hbm, 476, rfl⟩
abbrev main_v396 : Ref sig .tc := ⟨.hbm, 477, rfl⟩
abbrev main_v397 : Ref sig .tc := ⟨.hbm, 478, rfl⟩
abbrev main_v398 : Ref sig .tc := ⟨.hbm, 479, rfl⟩
abbrev main_v399 : Ref sig .tc := ⟨.hbm, 480, rfl⟩
abbrev main_v400 : Ref sig .tc := ⟨.hbm, 481, rfl⟩
abbrev main_v401 : Ref sig .tc := ⟨.hbm, 482, rfl⟩
abbrev main_v402 : Ref sig .tc := ⟨.hbm, 483, rfl⟩
abbrev main_v403 : Ref sig .tc := ⟨.hbm, 484, rfl⟩
abbrev main_v404 : Ref sig .tc := ⟨.hbm, 485, rfl⟩
abbrev main_v405 : Ref sig .tc := ⟨.hbm, 486, rfl⟩
abbrev main_v406 : Ref sig .tc := ⟨.hbm, 487, rfl⟩
abbrev main_v407 : Ref sig .tc := ⟨.hbm, 488, rfl⟩
abbrev main_v408 : Ref sig .tc := ⟨.hbm, 489, rfl⟩
abbrev main_v409 : Ref sig .tc := ⟨.hbm, 490, rfl⟩
abbrev main_v410 : Ref sig .tc := ⟨.hbm, 491, rfl⟩
abbrev main_v411 : Ref sig .tc := ⟨.hbm, 492, rfl⟩
abbrev main_v412 : Ref sig .tc := ⟨.hbm, 493, rfl⟩
abbrev main_cst_61 : Ref sig .tc := ⟨.hbm, 494, rfl⟩
abbrev main_v413 : Ref sig .tc := ⟨.hbm, 495, rfl⟩
abbrev main_v414 : Ref sig .tc := ⟨.hbm, 496, rfl⟩
abbrev main_v415 : Ref sig .tc := ⟨.hbm, 497, rfl⟩
abbrev main_v416 : Ref sig .tc := ⟨.hbm, 498, rfl⟩
abbrev main_v417 : Ref sig .tc := ⟨.hbm, 499, rfl⟩
abbrev main_v418 : Ref sig .tc := ⟨.hbm, 500, rfl⟩
abbrev main_v419 : Ref sig .tc := ⟨.hbm, 501, rfl⟩
abbrev main_v420 : Ref sig .tc := ⟨.hbm, 502, rfl⟩
abbrev main_v421 : Ref sig .tc := ⟨.hbm, 503, rfl⟩
abbrev main_v422 : Ref sig .tc := ⟨.hbm, 504, rfl⟩
abbrev main_v423 : Ref sig .tc := ⟨.hbm, 505, rfl⟩
abbrev main_cst_62 : Ref sig .tc := ⟨.hbm, 506, rfl⟩
abbrev main_v424 : Ref sig .tc := ⟨.hbm, 507, rfl⟩
abbrev main_v425 : Ref sig .tc := ⟨.hbm, 508, rfl⟩
abbrev main_cst_63 : Ref sig .tc := ⟨.hbm, 509, rfl⟩
abbrev main_v426 : Ref sig .tc := ⟨.hbm, 510, rfl⟩
abbrev main_v427 : Ref sig .tc := ⟨.hbm, 511, rfl⟩
abbrev main_v428 : Ref sig .tc := ⟨.hbm, 512, rfl⟩
abbrev main_v429 : Ref sig .tc := ⟨.hbm, 513, rfl⟩
abbrev main_v430 : Ref sig .tc := ⟨.hbm, 514, rfl⟩
abbrev main_v431 : Ref sig .tc := ⟨.hbm, 515, rfl⟩
abbrev main_cst_64 : Ref sig .tc := ⟨.hbm, 516, rfl⟩
abbrev main_v432 : Ref sig .tc := ⟨.hbm, 517, rfl⟩
abbrev main_v433 : Ref sig .tc := ⟨.hbm, 518, rfl⟩
abbrev main_cst_65 : Ref sig .tc := ⟨.hbm, 519, rfl⟩
abbrev main_v434 : Ref sig .tc := ⟨.hbm, 520, rfl⟩
abbrev main_v435 : Ref sig .tc := ⟨.hbm, 521, rfl⟩
abbrev main_cst_66 : Ref sig .tc := ⟨.hbm, 522, rfl⟩
abbrev main_call3_v0 : Ref sig .tc := ⟨.hbm, 523, rfl⟩
abbrev main_call3_v1 : Ref sig .tc := ⟨.hbm, 524, rfl⟩
abbrev main_v436 : Ref sig .tc := ⟨.hbm, 525, rfl⟩
abbrev main_v437 : Ref sig .tc := ⟨.hbm, 526, rfl⟩
abbrev main_v438 : Ref sig .tc := ⟨.hbm, 527, rfl⟩
abbrev main_call4_call0_cst : Ref sig .tc := ⟨.hbm, 528, rfl⟩
abbrev main_call4_call0_v0 : Ref sig .tc := ⟨.hbm, 529, rfl⟩
abbrev main_v439 : Ref sig .tc := ⟨.hbm, 530, rfl⟩
abbrev main_cst_67 : Ref sig .tc := ⟨.hbm, 531, rfl⟩
abbrev main_v440 : Ref sig .tc := ⟨.hbm, 532, rfl⟩
abbrev main_v441 : Ref sig .tc := ⟨.hbm, 533, rfl⟩
abbrev main_v442 : Ref sig .tc := ⟨.hbm, 534, rfl⟩
abbrev main_v443 : Ref sig .tc := ⟨.hbm, 535, rfl⟩
abbrev main_v444 : Ref sig .tc := ⟨.hbm, 536, rfl⟩
abbrev main_v445 : Ref sig .tc := ⟨.hbm, 537, rfl⟩
abbrev main_v446 : Ref sig .tc := ⟨.hbm, 538, rfl⟩

abbrev nD : Nat := 1
abbrev τ : Topo := Topo.v7x

variable {F : FTy → Type} [FloatOps F]
-- ==== Proof.KernelIdealStageBody.lean ====
/-
  The staging call's body, run once: on whole staging memrefs it ends with the pieces its stores leave in its two
  outputs, the inputs unchanged. The arrays' contents when the call is entered are a parameter (`V`).
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

abbrev VO0_2 : View sig .tc .vmem S10x8x1280 .f32 := (Memref.whole cc0_stg2_0 : Memref sig .tc .vmem S10x8x1280 .f32).view
abbrev VO0_3 : View sig .tc .vmem S2x8x1280 .f32 := (Memref.whole cc0_stg3_0 : Memref sig .tc .vmem S2x8x1280 .f32).view
abbrev ms0_0 (t : Fin cfg0.N) : Memref sig .tc .smem S32 .f32 := win0_0.stage (cfg0.slots t 0)
abbrev hs0_0 (t : Fin cfg0.N) : (ms0_0 t).IsWhole := hstage0_0 0
abbrev ms0_1 (t : Fin cfg0.N) : Memref sig .tc .vmem S64x8x1280 .f32 := win0_1.stage (cfg0.slots t 1)
abbrev hs0_1 (t : Fin cfg0.N) : (ms0_1 t).IsWhole := hstage0_1 0
abbrev ms0_2 (t : Fin cfg0.N) : Memref sig .tc .vmem S10x8x1280 .f32 := win0_2.stage (cfg0.slots t 2)
abbrev hs0_2 (t : Fin cfg0.N) : (ms0_2 t).IsWhole := hstage0_2 0
abbrev ms0_3 (t : Fin cfg0.N) : Memref sig .tc .vmem S2x8x1280 .f32 := win0_3.stage (cfg0.slots t 3)
abbrev hs0_3 (t : Fin cfg0.N) : (ms0_3 t).IsWhole := hstage0_3 0

set_option maxHeartbeats 1000000 in
noncomputable def kernelRun0_A (c : Dev nD) (arg0 : Memref sig .tc .smem S32 .f32) (harg0 : arg0.IsWhole) (arg1 : Memref sig .tc .vmem S64x8x1280 .f32) (harg1 : arg1.IsWhole) (arg2 : Memref sig .tc .vmem S10x8x1280 .f32) (harg2 : arg2.IsWhole) (arg3 : Memref sig .tc .vmem S2x8x1280 .f32) (harg3 : arg3.IsWhole)
    (x0 : Vec F S32 .f32) (x1 : Vec F S64x8x1280 .f32) :
    Σ' (L2 : List (View.Piece (Elt F) S10x8x1280 .f32)), { L3 : List (View.Piece (Elt F) S2x8x1280 .f32) //
      ∀ (E : Set ℕ) (K : PUnit → sProp 𝕄),
        iprop(owns (c : Thread nD τ) arg0 fullShare x0 ∗ owns (c : Thread nD τ) arg1 fullShare x1 ∗ (∃ d, owns (c : Thread nD τ) arg2 fullShare d) ∗ (∃ d, owns (c : Thread nD τ) arg3 fullShare d)
            ∗ (iprop(owns (c : Thread nD τ) arg0 fullShare x0 ∗ owns (c : Thread nD τ) arg1 fullShare x1 ∗ (∃ f, arg2.view.loc (c : Thread nD τ) ↦[arg2.view.set]{fullShare} arg2.view.writes (Elt F) f L2) ∗ (∃ f, arg3.view.loc (c : Thread nD τ) ↦[arg3.view.set]{fullShare} arg3.view.writes (Elt F) f L3)) -∗ K ⟨⟩))
          ⊢ wp frame (wpE (defs₀ (F := F)) Variants.none c none) E (cc0__stage_kernel arg0 harg0 arg1 harg1 arg2 harg2 arg3 harg3) K } := by
  refine ⟨?_, ?_, fun E K => ?run⟩
  case run =>
    simp only [cc0__stage_kernel_eq_skeleton]; unfold cc0__stage_kernel_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton]
    unfold owns
    iintro ⟨⟨%f0, %hf0, H0⟩, ⟨%f1, %hf1, H1⟩, ⟨%d2, %f2, -, H2⟩, ⟨%d3, %f3, -, H3⟩, Hk⟩
    obtain rfl := harg0.eq_unread hf0; obtain rfl := harg1.eq_unread hf1
    sl_exec
    sl_step
    iapply Hk
    isplitl [H0]
    · iexists _; isplitr; · ipureintro; exact harg0.read_unread _
      iexact H0
    isplitl [H1]
    · iexists _; isplitr; · ipureintro; exact harg1.read_unread _
      iexact H1
    isplitl [H2]; · iexists _; iexact H2
    iexists _; iexact H3

end Cert.KernelIdeal.Own

end
-- ==== Proof.KernelIdealStage.lean ====
/-
  The staging call's proof data: what each window holds before and after the body, and the body obligation.
-/
module

public import proofs.«01_k».proof.Proof.KernelIdealStageBody

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

theorem cover0_A_2 (c : Dev nD) (arg0 : Memref sig .tc .smem S32 .f32) (harg0 : arg0.IsWhole) (arg1 : Memref sig .tc .vmem S64x8x1280 .f32) (harg1 : arg1.IsWhole) (arg2 : Memref sig .tc .vmem S10x8x1280 .f32) (harg2 : arg2.IsWhole) (arg3 : Memref sig .tc .vmem S2x8x1280 .f32) (harg3 : arg3.IsWhole)
    (x0 : Vec F S32 .f32) (x1 : Vec F S64x8x1280 .f32) (y : S10x8x1280.Idx) :
    ∃ pc ∈ (kernelRun0_A c arg0 harg0 arg1 harg1 arg2 harg2 arg3 harg3 x0 x1).1, y ∈ pc.1.set :=
  View.cover_of_tiledL (kernelRun0_A c arg0 harg0 arg1 harg1 arg2 harg2 arg3 harg3 x0 x1).1 S1x8x1280.size (by sl_kernel_rfl) y

def out0_A_2 (c : Dev nD) (arg0 : Memref sig .tc .smem S32 .f32) (harg0 : arg0.IsWhole) (arg1 : Memref sig .tc .vmem S64x8x1280 .f32) (harg1 : arg1.IsWhole) (arg2 : Memref sig .tc .vmem S10x8x1280 .f32) (harg2 : arg2.IsWhole) (arg3 : Memref sig .tc .vmem S2x8x1280 .f32) (harg3 : arg3.IsWhole)
    (x0 : Vec F S32 .f32) (x1 : Vec F S64x8x1280 .f32) : Vec F S10x8x1280 .f32 :=
  VO0_2.read (Elt F) (VO0_2.writes (Elt F) VO0_2.junk (kernelRun0_A c arg0 harg0 arg1 harg1 arg2 harg2 arg3 harg3 x0 x1).1)

theorem cover0_A_3 (c : Dev nD) (arg0 : Memref sig .tc .smem S32 .f32) (harg0 : arg0.IsWhole) (arg1 : Memref sig .tc .vmem S64x8x1280 .f32) (harg1 : arg1.IsWhole) (arg2 : Memref sig .tc .vmem S10x8x1280 .f32) (harg2 : arg2.IsWhole) (arg3 : Memref sig .tc .vmem S2x8x1280 .f32) (harg3 : arg3.IsWhole)
    (x0 : Vec F S32 .f32) (x1 : Vec F S64x8x1280 .f32) (y : S2x8x1280.Idx) :
    ∃ pc ∈ (kernelRun0_A c arg0 harg0 arg1 harg1 arg2 harg2 arg3 harg3 x0 x1).2.1, y ∈ pc.1.set :=
  View.cover_of_tiledL (kernelRun0_A c arg0 harg0 arg1 harg1 arg2 harg2 arg3 harg3 x0 x1).2.1 S1x8x1280.size (by sl_kernel_rfl) y

def out0_A_3 (c : Dev nD) (arg0 : Memref sig .tc .smem S32 .f32) (harg0 : arg0.IsWhole) (arg1 : Memref sig .tc .vmem S64x8x1280 .f32) (harg1 : arg1.IsWhole) (arg2 : Memref sig .tc .vmem S10x8x1280 .f32) (harg2 : arg2.IsWhole) (arg3 : Memref sig .tc .vmem S2x8x1280 .f32) (harg3 : arg3.IsWhole)
    (x0 : Vec F S32 .f32) (x1 : Vec F S64x8x1280 .f32) : Vec F S2x8x1280 .f32 :=
  VO0_3.read (Elt F) (VO0_3.writes (Elt F) VO0_3.junk (kernelRun0_A c arg0 harg0 arg1 harg1 arg2 harg2 arg3 harg3 x0 x1).2.1)

def outsAt0 (c : Dev nD) (t : Fin cfg0.N) : Vec F S10x8x1280 .f32 × Vec F S2x8x1280 .f32 :=
  (out0_A_2 c (ms0_0 t) (hs0_0 t) (ms0_1 t) (hs0_1 t) (ms0_2 t) (hs0_2 t) (ms0_3 t) (hs0_3 t) (iblk0 V c 0 t) (iblk0 V c 1 t), out0_A_3 c (ms0_0 t) (hs0_0 t) (ms0_1 t) (hs0_1 t) (ms0_2 t) (hs0_2 t) (ms0_3 t) (hs0_3 t) (iblk0 V c 0 t) (iblk0 V c 1 t))

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t).1
    | ⟨3, _⟩ => (outsAt0 V c t).2
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t).1 := by dsimp only [dat0]
theorem after0_3 (c : Dev nD) (t : Fin cfg0.N) : (dat0 V c).after 3 t = (outsAt0 V c t).2 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3]
  unfold outsAt0
  unfold out0_A_2 out0_A_3; (try dsimp only)
  iintro ⟨HΦ, Ho, ⟨%d0, H0⟩, ⟨%d1, H1⟩, ⟨%d2, H2⟩, ⟨%d3, H3⟩⟩
  iapply ((kernelRun0_A c _ _ _ _ _ _ _ _ (iblk0 V c 0 t) (iblk0 V c 1 t)).2.2 Set.univ _)
  isplitl [H0]; · iexact H0
  isplitl [H1]; · iexact H1
  isplitl [H2]; · iexists _; iexact H2
  isplitl [H3]; · iexists _; iexact H3
  iintro ⟨H0, H1, ⟨%e2, H2⟩, ⟨%e3, H3⟩⟩
  isplitl [HΦ]; · iexact HΦ
  isplitl [Ho]; · iexact Ho
  isplitl [H0]; · iexact H0
  isplitl [H1]; · iexact H1
  isplitl [H2]
  · unfold owns; iexists _; isplitr
    swap; · iexact H2
    ipureintro; exact View.read_writes_of_cover _ _ _ _ _ (cover0_A_2 c _ _ _ _ _ _ _ _ _ _)
  unfold owns; iexists _; isplitr
  swap; · iexact H3
  ipureintro; exact View.read_writes_of_cover _ _ _ _ _ (cover0_A_3 c _ _ _ _ _ _ _ _ _ _)

theorem defs₀_row0 (t : Fin cfg0.N) :
    defs₀ (F := F) .tc cfg0.body (cfg0.bodyArgs t (cfg0.slots t)) = bodyAt0 t := by
  unfold defs₀; rw [Defs.onTc_tc]

theorem body_obligation0 (c : Dev nD) : BodyObligation (dat0 V c) (defs₀ (F := F)) Variants.none () Set.univ := fun t => by
  rw [bigSep_W0, bigSep_W0, defs₀_row0]
  exact triple_restated (sound_body0 V c t) rfl .rfl fun _ => .rfl

end Cert.KernelIdeal.Own

end
-- ==== Proof.KernelIdealSplatBody.lean ====
/-
  The splatting call's body: the conditions of its two branches in closed form over the 20 points, where its output window
  is idle, and what its points own besides the scratch.
-/
module

public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

abbrev cond1_0 (i : grid1.Coords) : Prop := (Scalar.cmpi .ne (Scalar.extui (Scalar.cmpi .eq (BitVec.ofNat 32 (i 0).val) 0#32)) 0#32) = 1#1
theorem hcond1_0 : ∀ t : Fin cfg1.N, cond1_0 (grid1.coords t) ↔ t.val % 20 = 0 :=
  (fun t => by
    have ht : t.val < 20 := Nat.lt_of_lt_of_eq t.isLt N_1
    have e0 : (grid1.coords t 0).val = t.val / 1 % 20 := Pipeline.Grid.coords_val t 0 (by decide) rfl
    simp only [cond1_0, e0]
    word_cmp
   : ∀ t : Fin grid1.N, cond1_0 (grid1.coords t) ↔ t.val % 20 = 0)

abbrev cond1_1 (i : grid1.Coords) : Prop := k1_cond2 i = 1#1
theorem hcond1_1 : ∀ t : Fin cfg1.N, cond1_1 (grid1.coords t) ↔ t.val % 20 = 19 :=
  (fun t => by
    have ht : t.val < 20 := Nat.lt_of_lt_of_eq t.isLt N_1
    have e0 : (grid1.coords t 0).val = t.val / 1 % 20 := Pipeline.Grid.coords_val t 0 (by decide) rfl
    simp only [cond1_1, k1_cond2, e0]
    word_cmp
   : ∀ t : Fin grid1.N, cond1_1 (grid1.coords t) ↔ t.val % 20 = 19)

theorem liveAt1_0 : ∀ t : Fin cfg1.N, cfg1.idle 0 (grid1.coords t) = false := fun _ => rfl
theorem idleAt1_1_A : ∀ t : Fin cfg1.N, cond1_0 (grid1.coords t) → ¬cond1_1 (grid1.coords t) → cfg1.idle 1 (grid1.coords t) = true := by decide +kernel
theorem noFlush1_1_A : ∀ t : Fin cfg1.N, cond1_0 (grid1.coords t) → ¬cond1_1 (grid1.coords t) → (cfg1.win 1).flush t = false := by decide +kernel
theorem idleAt1_1_B : ∀ t : Fin cfg1.N, ¬cond1_0 (grid1.coords t) → ¬cond1_1 (grid1.coords t) → cfg1.idle 1 (grid1.coords t) = true := by decide +kernel
theorem noFlush1_1_B : ∀ t : Fin cfg1.N, ¬cond1_0 (grid1.coords t) → ¬cond1_1 (grid1.coords t) → (cfg1.win 1).flush t = false := by decide +kernel
theorem liveAt1_1_C : ∀ t : Fin cfg1.N, ¬cond1_0 (grid1.coords t) → cond1_1 (grid1.coords t) → cfg1.idle 1 (grid1.coords t) = false := by decide +kernel

abbrev VO1_1 : View sig .tc .vmem S3x8x128 .f32 := (Memref.whole cc1_stg1_0 : Memref sig .tc .vmem S3x8x128 .f32).view
abbrev ms1_0 (t : Fin cfg1.N) : Memref sig .tc .smem S10x512 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S3x8x128 .f32 := win1_1.stage (cfg1.slots t 1)
abbrev hs1_1 (t : Fin cfg1.N) : (ms1_1 t).IsWhole := hstage1_1 ((cfg1.slots t 1).cast nbuf1_1)
abbrev scM1_0 : Memref sig .tc .vmem S4x8x128 .f32 := Memref.whole cc1_scratch0
abbrev VS1_0 : View sig .tc .vmem S4x8x128 .f32 := scM1_0.view

/-- The fourth of five separate resources taken to the front. -/
theorem sep_pick (A B C D E G : sProp 𝕄) :
    iprop((A ∗ B ∗ C ∗ D ∗ E) ∗ G) = iprop(D ∗ A ∗ B ∗ C ∗ E ∗ G) := by
  have h1 : iprop((A ∗ B ∗ C ∗ D ∗ E) ∗ G) ⊢ iprop(D ∗ A ∗ B ∗ C ∗ E ∗ G) := by
    iintro ⟨⟨H1, H2, H3, H4, H5⟩, Hg⟩
    isplitl [H4]; · iexact H4
    isplitl [H1]; · iexact H1
    isplitl [H2]; · iexact H2
    isplitl [H3]; · iexact H3
    isplitl [H5]; · iexact H5
    iexact Hg
  have h2 : iprop(D ∗ A ∗ B ∗ C ∗ E ∗ G) ⊢ iprop((A ∗ B ∗ C ∗ D ∗ E) ∗ G) := by
    iintro ⟨H4, H1, H2, H3, H5, Hg⟩
    isplitr [Hg]
    · isplitl [H1]; · iexact H1
      isplitl [H2]; · iexact H2
      isplitl [H3]; · iexact H3
      isplitl [H4]; · iexact H4
      iexact H5
    iexact Hg
  exact BI.equiv_iff.mp ⟨h1, h2⟩

/-- What else the splatting call's points own and never touch: the staging call's buffers and the generator register. -/
def restG1 (c : Dev nD) : sProp 𝕄 :=
  iprop((∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg0_0), ((c : Thread nD τ).loc cc0_stg0_0) ↦{fullShare} f)
    ∗ (∃ r, prngReg c r))

/-- The kit's invariant is the scratch memref at something beside that rest. -/
theorem PhiA1_eq (c : Dev nD) :
    (Pipeline.ΦA spec1 c : sProp 𝕄)
      = iprop(iprop((∃ d, owns (c : Thread nD τ) scM1_0 fullShare d)) ∗ restG1 c) := by
  unfold Pipeline.ΦA restG1; rw [scopedRest1_eq]; simp only [scM1_0, owns_whole]
  exact sep_pick _ _ _ _ _ _

end Cert.KernelIdeal.Own

end
-- ==== Proof.KernelIdealSplatA.lean ====
/-
  The splatting call's body, run at the first point of its grid.
-/
module

public import proofs.«01_k».proof.Proof.KernelIdealSplatBody

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

set_option maxHeartbeats 1000000 in
noncomputable def kernelRun1_A (c : Dev nD) (i : grid1.Coords) (arg1 : Memref sig .tc .smem S10x512 .f32) (harg1 : arg1.IsWhole) (arg2 : Memref sig .tc .vmem S3x8x128 .f32) (harg2 : arg2.IsWhole) (arg3 : Memref sig .tc .vmem S4x8x128 .f32) (harg3 : arg3.IsWhole) (hc0 : cond1_0 i) (hc1 : ¬cond1_1 i)
    (x0 : Vec F S10x512 .f32) :
    Σ' (L1 : List (View.Piece (Elt F) S3x8x128 .f32)), { LS0 : List (View.Piece (Elt F) S4x8x128 .f32) //
      ∀ (xi1 : Vec F S3x8x128 .f32) (E : Set ℕ) (K : PUnit → sProp 𝕄),
        iprop(owns (c : Thread nD τ) arg1 fullShare x0 ∗ owns (c : Thread nD τ) arg2 fullShare xi1 ∗ (∃ d, owns (c : Thread nD τ) arg3 fullShare d)
            ∗ (iprop(owns (c : Thread nD τ) arg1 fullShare x0 ∗ owns (c : Thread nD τ) arg2 fullShare xi1 ∗ (∃ f, arg3.view.loc (c : Thread nD τ) ↦[arg3.view.set]{fullShare} arg3.view.writes (Elt F) f LS0)) -∗ K ⟨⟩))
          ⊢ wp frame (wpE (defs₀ (F := F)) Variants.none c none) E (cc1__splat_kernel i arg1 harg1 arg2 harg2 arg3 harg3) K } := by
  refine ⟨[], ?_, fun xi1 E K => ?run⟩
  case run =>
    simp only [cc1__splat_kernel_eq_skeleton]; unfold cc1__splat_kernel_skel
    simp only [k1_part10_eq_skeleton, k1_part11_eq_skeleton]
    unfold owns
    iintro ⟨⟨%f0, %hf0, H0⟩, ⟨%f1, %hf1, H1⟩, ⟨%ds0, %fs0, -, HS0⟩, Hk⟩
    obtain rfl := harg1.eq_unread hf0; obtain rfl := harg2.eq_unread hf1
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    iexists _; iexact HS0

end Cert.KernelIdeal.Own

end
-- ==== Proof.KernelIdealSplatB.lean ====
/-
  The splatting call's body, run at the middle points of its grid.
-/
module

public import proofs.«01_k».proof.Proof.KernelIdealSplatA

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

set_option maxHeartbeats 1000000 in
noncomputable def kernelRun1_B (c : Dev nD) (i : grid1.Coords) (arg1 : Memref sig .tc .smem S10x512 .f32) (harg1 : arg1.IsWhole) (arg2 : Memref sig .tc .vmem S3x8x128 .f32) (harg2 : arg2.IsWhole) (arg3 : Memref sig .tc .vmem S4x8x128 .f32) (harg3 : arg3.IsWhole) (hc0 : ¬cond1_0 i) (hc1 : ¬cond1_1 i)
    (x0 : Vec F S10x512 .f32) (xs0 : Vec F S4x8x128 .f32) :
    Σ' (L1 : List (View.Piece (Elt F) S3x8x128 .f32)), { LS0 : List (View.Piece (Elt F) S4x8x128 .f32) //
      ∀ (xi1 : Vec F S3x8x128 .f32) (E : Set ℕ) (K : PUnit → sProp 𝕄),
        iprop(owns (c : Thread nD τ) arg1 fullShare x0 ∗ owns (c : Thread nD τ) arg2 fullShare xi1 ∗ owns (c : Thread nD τ) arg3 fullShare xs0
            ∗ (iprop(owns (c : Thread nD τ) arg1 fullShare x0 ∗ owns (c : Thread nD τ) arg2 fullShare xi1 ∗ (∃ f, arg3.view.loc (c : Thread nD τ) ↦[arg3.view.set]{fullShare} arg3.view.writes (Elt F) f LS0)) -∗ K ⟨⟩))
          ⊢ wp frame (wpE (defs₀ (F := F)) Variants.none c none) E (cc1__splat_kernel i arg1 harg1 arg2 harg2 arg3 harg3) K } := by
  refine ⟨[], ?_, fun xi1 E K => ?run⟩
  case run =>
    simp only [cc1__splat_kernel_eq_skeleton]; unfold cc1__splat_kernel_skel
    simp only [k1_part10_eq_skeleton, k1_part11_eq_skeleton]
    unfold owns
    iintro ⟨⟨%f0, %hf0, H0⟩, ⟨%f1, %hf1, H1⟩, ⟨%fs0, %hfs0, HS0⟩, Hk⟩
    obtain rfl := harg1.eq_unread hf0; obtain rfl := harg2.eq_unread hf1; obtain rfl := harg3.eq_unread hfs0
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    iexists _; iexact HS0

end Cert.KernelIdeal.Own

end
-- ==== Proof.KernelIdealSplatC.lean ====
/-
  The splatting call's body, run at the last point of its grid.
-/
module

public import proofs.«01_k».proof.Proof.KernelIdealSplatB

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

set_option maxHeartbeats 1000000 in
noncomputable def kernelRun1_C (c : Dev nD) (i : grid1.Coords) (arg1 : Memref sig .tc .smem S10x512 .f32) (harg1 : arg1.IsWhole) (arg2 : Memref sig .tc .vmem S3x8x128 .f32) (harg2 : arg2.IsWhole) (arg3 : Memref sig .tc .vmem S4x8x128 .f32) (harg3 : arg3.IsWhole) (hc0 : ¬cond1_0 i) (hc1 : cond1_1 i)
    (x0 : Vec F S10x512 .f32) (xs0 : Vec F S4x8x128 .f32) :
    Σ' (L1 : List (View.Piece (Elt F) S3x8x128 .f32)), { LS0 : List (View.Piece (Elt F) S4x8x128 .f32) //
      ∀ (E : Set ℕ) (K : PUnit → sProp 𝕄),
        iprop(owns (c : Thread nD τ) arg1 fullShare x0 ∗ (∃ d, owns (c : Thread nD τ) arg2 fullShare d) ∗ owns (c : Thread nD τ) arg3 fullShare xs0
            ∗ (iprop(owns (c : Thread nD τ) arg1 fullShare x0 ∗ (∃ f, arg2.view.loc (c : Thread nD τ) ↦[arg2.view.set]{fullShare} arg2.view.writes (Elt F) f L1) ∗ (∃ f, arg3.view.loc (c : Thread nD τ) ↦[arg3.view.set]{fullShare} arg3.view.writes (Elt F) f LS0)) -∗ K ⟨⟩))
          ⊢ wp frame (wpE (defs₀ (F := F)) Variants.none c none) E (cc1__splat_kernel i arg1 harg1 arg2 harg2 arg3 harg3) K } := by
  refine ⟨?_, ?_, fun E K => ?run⟩
  case run =>
    simp only [cc1__splat_kernel_eq_skeleton]; unfold cc1__splat_kernel_skel
    simp only [k1_part10_eq_skeleton, k1_part11_eq_skeleton]
    unfold owns
    iintro ⟨⟨%f0, %hf0, H0⟩, ⟨%d1, %f1, -, H1⟩, ⟨%fs0, %hfs0, HS0⟩, Hk⟩
    obtain rfl := harg1.eq_unread hf0; obtain rfl := harg3.eq_unread hfs0
    sl_exec (disch := first | sl_exact hc0 | sl_exact hc1)
    sl_step
    iapply Hk
    isplitl [H0]
    · iexists _; isplitr; · ipureintro; exact harg1.read_unread _
      iexact H0
    isplitl [H1]; · iexists _; iexact H1
    iexists _; iexact HS0

end Cert.KernelIdeal.Own

end
-- ==== Proof.KernelIdealSplat.lean ====
/-
  The splatting call's proof data: what its output and its scratch hold after each point, and the body obligation.
-/
module

public import proofs.«01_k».proof.Proof.KernelIdealSplatC

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

def out1_A_1 (c : Dev nD) (i : grid1.Coords) (arg1 : Memref sig .tc .smem S10x512 .f32) (harg1 : arg1.IsWhole) (arg2 : Memref sig .tc .vmem S3x8x128 .f32) (harg2 : arg2.IsWhole) (arg3 : Memref sig .tc .vmem S4x8x128 .f32) (harg3 : arg3.IsWhole) (hc0 : cond1_0 i) (hc1 : ¬cond1_1 i)
    (x0 : Vec F S10x512 .f32) : Vec F S3x8x128 .f32 :=
  VO1_1.read (Elt F) (VO1_1.writes (Elt F) VO1_1.junk (kernelRun1_A c i arg1 harg1 arg2 harg2 arg3 harg3 hc0 hc1 x0).1)

theorem scover1_A_0 (c : Dev nD) (i : grid1.Coords) (arg1 : Memref sig .tc .smem S10x512 .f32) (harg1 : arg1.IsWhole) (arg2 : Memref sig .tc .vmem S3x8x128 .f32) (harg2 : arg2.IsWhole) (arg3 : Memref sig .tc .vmem S4x8x128 .f32) (harg3 : arg3.IsWhole) (hc0 : cond1_0 i) (hc1 : ¬cond1_1 i)
    (x0 : Vec F S10x512 .f32) (y : S4x8x128.Idx) :
    ∃ pc ∈ (kernelRun1_A c i arg1 harg1 arg2 harg2 arg3 harg3 hc0 hc1 x0).2.1, y ∈ pc.1.set :=
  View.cover_of_tiledL (kernelRun1_A c i arg1 harg1 arg2 harg2 arg3 harg3 hc0 hc1 x0).2.1 S1x8x128.size (by sl_kernel_rfl) y

def sout1_A_0 (c : Dev nD) (i : grid1.Coords) (arg1 : Memref sig .tc .smem S10x512 .f32) (harg1 : arg1.IsWhole) (arg2 : Memref sig .tc .vmem S3x8x128 .f32) (harg2 : arg2.IsWhole) (arg3 : Memref sig .tc .vmem S4x8x128 .f32) (harg3 : arg3.IsWhole) (hc0 : cond1_0 i) (hc1 : ¬cond1_1 i)
    (x0 : Vec F S10x512 .f32) : Vec F S4x8x128 .f32 :=
  VS1_0.read (Elt F) (VS1_0.writes (Elt F) VS1_0.junk (kernelRun1_A c i arg1 harg1 arg2 harg2 arg3 harg3 hc0 hc1 x0).2.1)

def out1_B_1 (c : Dev nD) (i : grid1.Coords) (arg1 : Memref sig .tc .smem S10x512 .f32) (harg1 : arg1.IsWhole) (arg2 : Memref sig .tc .vmem S3x8x128 .f32) (harg2 : arg2.IsWhole) (arg3 : Memref sig .tc .vmem S4x8x128 .f32) (harg3 : arg3.IsWhole) (hc0 : ¬cond1_0 i) (hc1 : ¬cond1_1 i)
    (x0 : Vec F S10x512 .f32) (xs0 : Vec F S4x8x128 .f32) : Vec F S3x8x128 .f32 :=
  VO1_1.read (Elt F) (VO1_1.writes (Elt F) VO1_1.junk (kernelRun1_B c i arg1 harg1 arg2 harg2 arg3 harg3 hc0 hc1 x0 xs0).1)

theorem scover1_B_0 (c : Dev nD) (i : grid1.Coords) (arg1 : Memref sig .tc .smem S10x512 .f32) (harg1 : arg1.IsWhole) (arg2 : Memref sig .tc .vmem S3x8x128 .f32) (harg2 : arg2.IsWhole) (arg3 : Memref sig .tc .vmem S4x8x128 .f32) (harg3 : arg3.IsWhole) (hc0 : ¬cond1_0 i) (hc1 : ¬cond1_1 i)
    (x0 : Vec F S10x512 .f32) (xs0 : Vec F S4x8x128 .f32) (y : S4x8x128.Idx) :
    ∃ pc ∈ (kernelRun1_B c i arg1 harg1 arg2 harg2 arg3 harg3 hc0 hc1 x0 xs0).2.1, y ∈ pc.1.set :=
  View.cover_of_tiledL (kernelRun1_B c i arg1 harg1 arg2 harg2 arg3 harg3 hc0 hc1 x0 xs0).2.1 S1x8x128.size (by sl_kernel_rfl) y

def sout1_B_0 (c : Dev nD) (i : grid1.Coords) (arg1 : Memref sig .tc .smem S10x512 .f32) (harg1 : arg1.IsWhole) (arg2 : Memref sig .tc .vmem S3x8x128 .f32) (harg2 : arg2.IsWhole) (arg3 : Memref sig .tc .vmem S4x8x128 .f32) (harg3 : arg3.IsWhole) (hc0 : ¬cond1_0 i) (hc1 : ¬cond1_1 i)
    (x0 : Vec F S10x512 .f32) (xs0 : Vec F S4x8x128 .f32) : Vec F S4x8x128 .f32 :=
  VS1_0.read (Elt F) (VS1_0.writes (Elt F) VS1_0.junk (kernelRun1_B c i arg1 harg1 arg2 harg2 arg3 harg3 hc0 hc1 x0 xs0).2.1)

theorem cover1_C_1 (c : Dev nD) (i : grid1.Coords) (arg1 : Memref sig .tc .smem S10x512 .f32) (harg1 : arg1.IsWhole) (arg2 : Memref sig .tc .vmem S3x8x128 .f32) (harg2 : arg2.IsWhole) (arg3 : Memref sig .tc .vmem S4x8x128 .f32) (harg3 : arg3.IsWhole) (hc0 : ¬cond1_0 i) (hc1 : cond1_1 i)
    (x0 : Vec F S10x512 .f32) (xs0 : Vec F S4x8x128 .f32) (y : S3x8x128.Idx) :
    ∃ pc ∈ (kernelRun1_C c i arg1 harg1 arg2 harg2 arg3 harg3 hc0 hc1 x0 xs0).1, y ∈ pc.1.set :=
  View.cover_of_tiledL (kernelRun1_C c i arg1 harg1 arg2 harg2 arg3 harg3 hc0 hc1 x0 xs0).1 S1x8x128.size (by sl_kernel_rfl) y

def out1_C_1 (c : Dev nD) (i : grid1.Coords) (arg1 : Memref sig .tc .smem S10x512 .f32) (harg1 : arg1.IsWhole) (arg2 : Memref sig .tc .vmem S3x8x128 .f32) (harg2 : arg2.IsWhole) (arg3 : Memref sig .tc .vmem S4x8x128 .f32) (harg3 : arg3.IsWhole) (hc0 : ¬cond1_0 i) (hc1 : cond1_1 i)
    (x0 : Vec F S10x512 .f32) (xs0 : Vec F S4x8x128 .f32) : Vec F S3x8x128 .f32 :=
  VO1_1.read (Elt F) (VO1_1.writes (Elt F) VO1_1.junk (kernelRun1_C c i arg1 harg1 arg2 harg2 arg3 harg3 hc0 hc1 x0 xs0).1)

theorem scover1_C_0 (c : Dev nD) (i : grid1.Coords) (arg1 : Memref sig .tc .smem S10x512 .f32) (harg1 : arg1.IsWhole) (arg2 : Memref sig .tc .vmem S3x8x128 .f32) (harg2 : arg2.IsWhole) (arg3 : Memref sig .tc .vmem S4x8x128 .f32) (harg3 : arg3.IsWhole) (hc0 : ¬cond1_0 i) (hc1 : cond1_1 i)
    (x0 : Vec F S10x512 .f32) (xs0 : Vec F S4x8x128 .f32) (y : S4x8x128.Idx) :
    ∃ pc ∈ (kernelRun1_C c i arg1 harg1 arg2 harg2 arg3 harg3 hc0 hc1 x0 xs0).2.1, y ∈ pc.1.set :=
  View.cover_of_tiledL (kernelRun1_C c i arg1 harg1 arg2 harg2 arg3 harg3 hc0 hc1 x0 xs0).2.1 S1x8x128.size (by sl_kernel_rfl) y

def sout1_C_0 (c : Dev nD) (i : grid1.Coords) (arg1 : Memref sig .tc .smem S10x512 .f32) (harg1 : arg1.IsWhole) (arg2 : Memref sig .tc .vmem S3x8x128 .f32) (harg2 : arg2.IsWhole) (arg3 : Memref sig .tc .vmem S4x8x128 .f32) (harg3 : arg3.IsWhole) (hc0 : ¬cond1_0 i) (hc1 : cond1_1 i)
    (x0 : Vec F S10x512 .f32) (xs0 : Vec F S4x8x128 .f32) : Vec F S4x8x128 .f32 :=
  VS1_0.read (Elt F) (VS1_0.writes (Elt F) VS1_0.junk (kernelRun1_C c i arg1 harg1 arg2 harg2 arg3 harg3 hc0 hc1 x0 xs0).2.1)

def outsAt1 (c : Dev nD) : (n : ℕ) → n < cfg1.N → Vec F S3x8x128 .f32 × Vec F S4x8x128 .f32
  | 0, hn => (out1_A_1 c (grid1.coords ⟨0, hn⟩) (ms1_0 ⟨0, hn⟩) (hs1_0 ⟨0, hn⟩) (ms1_1 ⟨0, hn⟩) (hs1_1 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩), sout1_A_0 c (grid1.coords ⟨0, hn⟩) (ms1_0 ⟨0, hn⟩) (hs1_0 ⟨0, hn⟩) (ms1_1 ⟨0, hn⟩) (hs1_1 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩))
  | n + 1, hn =>
    if h0 : (n + 1) % 20 = 0 then
      if h1 : (n + 1) % 20 = 19 then
        False.elim (by have hN : n + 1 < 20 := lt_of_lt_of_eq hn (show cfg1.N = 20 from N_1); omega)
      else
        (out1_A_1 c (grid1.coords ⟨n + 1, hn⟩) (ms1_0 ⟨n + 1, hn⟩) (hs1_0 ⟨n + 1, hn⟩) (ms1_1 ⟨n + 1, hn⟩) (hs1_1 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩))
    else
      if h1 : (n + 1) % 20 = 19 then
        (out1_C_1 c (grid1.coords ⟨n + 1, hn⟩) (ms1_0 ⟨n + 1, hn⟩) (hs1_0 ⟨n + 1, hn⟩) (ms1_1 ⟨n + 1, hn⟩) (hs1_1 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (outsAt1 c n (Nat.lt_of_succ_lt hn)).2)
      else
        (out1_B_1 c (grid1.coords ⟨n + 1, hn⟩) (ms1_0 ⟨n + 1, hn⟩) (hs1_0 ⟨n + 1, hn⟩) (ms1_1 ⟨n + 1, hn⟩) (hs1_1 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (outsAt1 c n (Nat.lt_of_succ_lt hn)).2)

theorem outsAt1_A (c : Dev nD) (t : Fin cfg1.N) (h0 : t.val % 20 = 0) (h1 : ¬t.val % 20 = 19) :
    outsAt1 V c t.val t.isLt = (out1_A_1 c (grid1.coords t) (ms1_0 t) (hs1_0 t) (ms1_1 t) (hs1_1 t) scM1_0 (Memref.isWhole_whole _) ((hcond1_0 t).mpr h0) (fun h => h1 ((hcond1_1 t).mp h)) (iblk1 V c 0 t), sout1_A_0 c (grid1.coords t) (ms1_0 t) (hs1_0 t) (ms1_1 t) (hs1_1 t) scM1_0 (Memref.isWhole_whole _) ((hcond1_0 t).mpr h0) (fun h => h1 ((hcond1_1 t).mp h)) (iblk1 V c 0 t)) := by
  obtain ⟨n, hn⟩ := t
  cases n with
  | zero => exact rfl
  | succ n => exact (dif_pos h0).trans ((dif_neg h1).trans rfl)

theorem outsAt1_B (c : Dev nD) (t : Fin cfg1.N) (h0 : ¬t.val % 20 = 0) (h1 : ¬t.val % 20 = 19) :
    outsAt1 V c t.val t.isLt = (out1_B_1 c (grid1.coords t) (ms1_0 t) (hs1_0 t) (ms1_1 t) (hs1_1 t) scM1_0 (Memref.isWhole_whole _) (fun h => h0 ((hcond1_0 t).mp h)) (fun h => h1 ((hcond1_1 t).mp h)) (iblk1 V c 0 t) (outsAt1 V c (t.val - 1) (Nat.lt_of_le_of_lt (Nat.sub_le _ _) t.isLt)).2, sout1_B_0 c (grid1.coords t) (ms1_0 t) (hs1_0 t) (ms1_1 t) (hs1_1 t) scM1_0 (Memref.isWhole_whole _) (fun h => h0 ((hcond1_0 t).mp h)) (fun h => h1 ((hcond1_1 t).mp h)) (iblk1 V c 0 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 20 = 0) (h1 : t.val % 20 = 19) :
    outsAt1 V c t.val t.isLt = (out1_C_1 c (grid1.coords t) (ms1_0 t) (hs1_0 t) (ms1_1 t) (hs1_1 t) scM1_0 (Memref.isWhole_whole _) (fun h => h0 ((hcond1_0 t).mp h)) ((hcond1_1 t).mpr h1) (iblk1 V c 0 t) (outsAt1 V c (t.val - 1) (Nat.lt_of_le_of_lt (Nat.sub_le _ _) t.isLt)).2, sout1_C_0 c (grid1.coords t) (ms1_0 t) (hs1_0 t) (ms1_1 t) (hs1_1 t) scM1_0 (Memref.isWhole_whole _) (fun h => h0 ((hcond1_0 t).mp h)) ((hcond1_1 t).mpr h1) (iblk1 V c 0 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

def PhiS (c : Dev nD) : (n : ℕ) → n ≤ cfg1.N → sProp 𝕄
  | 0, _ => Pipeline.ΦA spec1 c
  | n + 1, hn => iprop(iprop(owns (c : Thread nD τ) scM1_0 fullShare ((outsAt1 V c n hn).2)) ∗ restG1 c)

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop(owns (c : Thread nD τ) scM1_0 fullShare ((outsAt1 V c n hn).2)) ∗ restG1 c) := rfl

theorem PhiS_pos (c : Dev nD) (n : ℕ) (h : n ≤ cfg1.N) (hz : n ≠ 0) :
    PhiS V c n h = iprop(iprop(owns (c : Thread nD τ) scM1_0 fullShare ((outsAt1 V c (n - 1) (by omega)).2)) ∗ restG1 c) := by
  cases n with
  | zero => exact absurd rfl hz
  | succ n => rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; exact Pipeline.Dat.Φ_castSucc (PhiS V c) t

theorem after1_0 (c : Dev nD) (t : Fin cfg1.N) : (dat1 V c).after 0 t = iblk1 V c 0 t := by dsimp only [dat1]
theorem after1_1 (c : Dev nD) (t : Fin cfg1.N) : (dat1 V c).after 1 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t)

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).owesAt () t.succ = (dat1 V c).owesAt () t.castSucc from rfl]
  rw [show (dat1 V c).Φ t.succ = PhiS V c (t.val + 1) t.isLt from rfl, PhiS_succ]
  have hN : t.val < 20 := lt_of_lt_of_eq t.isLt (show cfg1.N = 20 from N_1)
  by_cases h0 : t.val % 20 = 0
  · by_cases h1 : t.val % 20 = 19
    · exfalso; omega
    · rw [show (dat1 V c).leavesExact 0 t = owns (c : Thread nD τ) (ms1_0 t) fullShare ((dat1 V c).after 0 t) from by
      unfold Dat.leavesExact; rw [liveAt1_0 t], after1_0]
      rw [Dat.leavesExact_idle (dat1 V c) 1 t (idleAt1_1_A t ((hcond1_0 t).mpr h0) (fun h => h1 ((hcond1_1 t).mp h))) (noFlush1_1_A t ((hcond1_0 t).mpr h0) (fun h => h1 ((hcond1_1 t).mp h)))]
      by_cases hz : t.val = 0
      · rw [PhiS_castSucc V c t, PhiS_zero V c _ _ hz, PhiA1_eq]
        rw [outsAt1_A V c t h0 h1]
        unfold sout1_A_0; (try dsimp only)
        iintro ⟨⟨HS0, Hg⟩, Ho, ⟨%d0, H0⟩, ⟨%d1, H1⟩⟩
        iapply ((kernelRun1_A c (grid1.coords t) _ _ _ _ _ _ ((hcond1_0 t).mpr h0) (fun h => h1 ((hcond1_1 t).mp h)) (iblk1 V c 0 t)).2.2 _ Set.univ _)
        isplitl [H0]; · iexact H0
        isplitl [H1]; · iexact H1
        isplitl [HS0]; · iexact HS0
        iintro ⟨H0, H1, ⟨%es0, HS0⟩⟩
        isplitl [HS0 Hg]
        · isplitl [HS0]
          · unfold owns; iexists _; isplitr
            swap; · iexact HS0
            ipureintro; exact View.read_writes_of_cover _ _ _ _ _ (scover1_A_0 c _ _ _ _ _ _ _ _ _ _)
          iexact Hg
        isplitl [Ho]; · iexact Ho
        isplitl [H0]; · iexact H0
        iexists _; iexact H1
      · exfalso; have hN : t.val < 20 := lt_of_lt_of_eq t.isLt (show cfg1.N = 20 from N_1); omega
  · by_cases h1 : t.val % 20 = 19
    · rw [show (dat1 V c).leavesExact 0 t = owns (c : Thread nD τ) (ms1_0 t) fullShare ((dat1 V c).after 0 t) from by
      unfold Dat.leavesExact; rw [liveAt1_0 t], after1_0]
      rw [show (dat1 V c).leavesExact 1 t = owns (c : Thread nD τ) (ms1_1 t) fullShare ((dat1 V c).after 1 t) from by
      unfold Dat.leavesExact; rw [liveAt1_1_C t (fun h => h0 ((hcond1_0 t).mp h)) ((hcond1_1 t).mpr h1)], after1_1]
      by_cases hz : t.val = 0
      · exfalso; have hN : t.val < 20 := lt_of_lt_of_eq t.isLt (show cfg1.N = 20 from N_1); omega
      · rw [PhiS_castSucc V c t, PhiS_pos V c _ _ hz]
        rw [outsAt1_C V c t h0 h1]
        unfold out1_C_1 sout1_C_0; (try dsimp only)
        iintro ⟨⟨HS0, Hg⟩, Ho, ⟨%d0, H0⟩, ⟨%d1, H1⟩⟩
        iapply ((kernelRun1_C c (grid1.coords t) _ _ _ _ _ _ (fun h => h0 ((hcond1_0 t).mp h)) ((hcond1_1 t).mpr h1) (iblk1 V c 0 t) _).2.2 Set.univ _)
        isplitl [H0]; · iexact H0
        isplitl [H1]; · iexists _; iexact H1
        isplitl [HS0]; · iexact HS0
        iintro ⟨H0, ⟨%e1, H1⟩, ⟨%es0, HS0⟩⟩
        isplitl [HS0 Hg]
        · isplitl [HS0]
          · unfold owns; iexists _; isplitr
            swap; · iexact HS0
            ipureintro; exact View.read_writes_of_cover _ _ _ _ _ (scover1_C_0 c _ _ _ _ _ _ _ _ _ _ _)
          iexact Hg
        isplitl [Ho]; · iexact Ho
        isplitl [H0]; · iexact H0
        unfold owns; iexists _; isplitr
        swap; · iexact H1
        ipureintro; exact View.read_writes_of_cover _ _ _ _ _ (cover1_C_1 c _ _ _ _ _ _ _ _ _ _ _)
    · rw [show (dat1 V c).leavesExact 0 t = owns (c : Thread nD τ) (ms1_0 t) fullShare ((dat1 V c).after 0 t) from by
      unfold Dat.leavesExact; rw [liveAt1_0 t], after1_0]
      rw [Dat.leavesExact_idle (dat1 V c) 1 t (idleAt1_1_B t (fun h => h0 ((hcond1_0 t).mp h)) (fun h => h1 ((hcond1_1 t).mp h))) (noFlush1_1_B t (fun h => h0 ((hcond1_0 t).mp h)) (fun h => h1 ((hcond1_1 t).mp h)))]
      by_cases hz : t.val = 0
      · exfalso; have hN : t.val < 20 := lt_of_lt_of_eq t.isLt (show cfg1.N = 20 from N_1); omega
      · rw [PhiS_castSucc V c t, PhiS_pos V c _ _ hz]
        rw [outsAt1_B V c t h0 h1]
        unfold sout1_B_0; (try dsimp only)
        iintro ⟨⟨HS0, Hg⟩, Ho, ⟨%d0, H0⟩, ⟨%d1, H1⟩⟩
        iapply ((kernelRun1_B c (grid1.coords t) _ _ _ _ _ _ (fun h => h0 ((hcond1_0 t).mp h)) (fun h => h1 ((hcond1_1 t).mp h)) (iblk1 V c 0 t) _).2.2 _ Set.univ _)
        isplitl [H0]; · iexact H0
        isplitl [H1]; · iexact H1
        isplitl [HS0]; · iexact HS0
        iintro ⟨H0, H1, ⟨%es0, HS0⟩⟩
        isplitl [HS0 Hg]
        · isplitl [HS0]
          · unfold owns; iexists _; isplitr
            swap; · iexact HS0
            ipureintro; exact View.read_writes_of_cover _ _ _ _ _ (scover1_B_0 c _ _ _ _ _ _ _ _ _ _ _)
          iexact Hg
        isplitl [Ho]; · iexact Ho
        isplitl [H0]; · iexact H0
        iexists _; iexact H1

theorem defs₀_row1 (t : Fin cfg1.N) :
    defs₀ (F := F) .tc cfg1.body (cfg1.bodyArgs t (cfg1.slots t)) = bodyAt1 t := by
  unfold defs₀; rw [Defs.onTc_tc]

theorem body_obligation1 (c : Dev nD) : BodyObligation (dat1 V c) (defs₀ (F := F)) Variants.none () Set.univ := fun t => by
  rw [bigSep_W1, bigSep_W1, defs₀_row1]
  exact triple_restated (sound_body1 V c t) rfl .rfl fun _ => .rfl

theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

theorem Phi_out1 (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht, PhiA1_eq]
  iintro ⟨HS0, Hg⟩
  isplitl [HS0]
  · iexists _; iexact HS0
  iexact Hg

theorem hout1 (c : Dev nD) : (dat1 V c).Φ (Fin.last cfg1.N) ⊢ Pipeline.ΦA spec1 c :=
  Phi_out1 V c _ (by rw [Fin.val_last]; have : cfg1.N = 20 := N_1; omega)

end Cert.KernelIdeal.Own

end
-- ==== Proof.KernelIdealRun.lean ====
/-
  The whole program's run: @main as nine items, the staging and the splatting call among them as segments entered from
  and left at the items' valuations, so that at the end every unscoped buffer is at the last valuation.
-/
module

public import proofs.«01_k».proof.Proof.KernelIdealStage
public import proofs.«01_k».proof.Proof.KernelIdealSplat
public import proofs.«01_k».proof.Proof.Gen.KernelIdeal.Regions
public import Idealize.ShloMosaic.Lib.Pipeline.RegionArraysS

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## What the two calls leave -/

/-- The contents at which the staging call is entered. -/
abbrev at0 (c : Dev nD) (b : Ref sig .tc) : Buf (Elt F) ((c : Thread nD τ).loc b) := V3 m c (Proc.devRef .tc b)

/-- What the buffers hold after the staging call. -/
def left0 : Outs (F := F) := fun _ r c => Pipeline.afterRegion (dat0 (at0 m) c) (V3 m c) (Proc.devRef .tc r)

/-- The contents at which the splatting call is entered. -/
abbrev at1 (c : Dev nD) (b : Ref sig .tc) : Buf (Elt F) ((c : Thread nD τ).loc b) := V7 m (left0 m) c (Proc.devRef .tc b)

/-- What the two calls leave: item 3 is the staging call, item 7 the splatting call. -/
def left : Outs (F := F) := fun n r c =>
  if n = 4 then left0 m n r c else Pipeline.afterRegion (dat1 (at1 m) c) (V7 m (left0 m) c) (Proc.devRef .tc r)

theorem left_four (r : Ref sig .tc) (c : Dev nD) : left m 4 r c = left0 m 4 r c := if_pos rfl

theorem left_eight (r : Ref sig .tc) (c : Dev nD) :
    left m 8 r c = Pipeline.afterRegion (dat1 (at1 m) c) (V7 m (left0 m) c) (Proc.devRef .tc r) := if_neg (by decide)

/-- Up to the splatting call only what the staging call left enters. -/
theorem V4_left (c : Dev nD) : V4 m (left m) c = V4 m (left0 m) c := by
  unfold V4; rw [left_four, left_four]

theorem V7_left (c : Dev nD) : V7 m (left m) c = V7 m (left0 m) c := by
  unfold V7 V6 V5; rw [V4_left]

/-- The two calls' proof data, each at the contents it is entered at. -/
def pdats : (p : Fin 2) → (c : Dev nD) → Dat τ (Elt F) Unit ℕ (UR sig nD τ) ℕ (cfgs p) c
  | ⟨0, _⟩ => fun c => dat0 (at0 m) c
  | ⟨1, _⟩ => fun c => dat1 (at1 m) c

/-! ## The calls as segments of @main -/

/-- One level for the TensorCores' counters, none elsewhere. -/
abbrev lset : GSem nD τ sig → Finset Unit := fun g => if g.1.2 = .tc then {()} else ∅
abbrev lval : GSem nD τ sig → Unit → ℕ := fun _ _ => 0

theorem cut (p : Fin 2) : Pipeline.LevelCut (pcfgs (F := F)) adm () lset lval p (fun _ => 0) (fun _ => 0) where
  hι _ _ _ := by rw [lset, if_pos rfl]; exact Finset.mem_singleton_self _
  hιb _ _ _ := le_rfl
  hD _ _ _ h := absurd h (lt_irrefl _)

/-- What rides beside the buffers between the items: nothing owed and the generator register. -/
abbrev rest (c : Dev nD) : sProp 𝕄 :=
  iprop((∃ W, owes (c : Thread nD τ) (0 : CellTallies nD τ sig Unit) W) ∗ (∃ r, prngReg c r) ∗ emp)

set_option backward.isDefEq.respectTransparency.types false in
/-- The staging call as a segment. -/
def reg0 : Pipeline.RegionSeg (pcfgs (F := F)) adm (pdats m) () defs₀ Variants.none lset lval 0 :=
  Pipeline.RegionSeg.ofHeldIn (pcfgs (F := F)) adm (pdats m) () defs₀ Variants.none lset lval 0 (fun _ => 0)
    (Pipeline.ucRefs τ sig) (fun c => iprop(∃ r, prngReg c r)) (fun c => iprop(∃ r, prngReg c r))
    launch0.toP rfl (fun c => (body_obligation0 (at0 m) c).loose) (fun _ _ => rfl) (fun _ => rfl)
    (fun c => (dat0 (at0 m) c).share_full fun _ => rfl) (fun _ => .rfl) (fun _ => .rfl) (fun _ => 0) (cut 0)
    (fun _ => iprop(emp)) (fun c => V3 m c) (fun c w => A_eq0 (at0 m) c w)

set_option backward.isDefEq.respectTransparency.types false in
/-- The splatting call as a segment. -/
def reg1 : Pipeline.RegionSeg (pcfgs (F := F)) adm (pdats m) () defs₀ Variants.none lset lval 1 :=
  Pipeline.RegionSeg.ofHeldIn (pcfgs (F := F)) adm (pdats m) () defs₀ Variants.none lset lval 1 (fun _ => 0)
    (Pipeline.ucRefs τ sig) (fun c => iprop(∃ r, prngReg c r)) (fun c => iprop(∃ r, prngReg c r))
    launch1.toP rfl (fun c => (body_obligation1 (at1 m) c).loose) (fun _ _ => rfl) (fun _ => rfl)
    (fun c => (dat1 (at1 m) c).share_full fun _ => rfl) (fun c => hin1 (at1 m) c) (fun c => hout1 (at1 m) c) (fun _ => 0) (cut 1)
    (fun _ => iprop(emp)) (fun c => V7 m (left0 m) c) (fun c w => A_eq1 (at1 m) c w)

/-- A call's arrays are unscoped buffers. -/
theorem arr_sub0 : Pipeline.arrRefs (τ := τ) spec0 ⊆ Pipeline.ucRefs τ sig := by
  intro b hb
  obtain ⟨r, hr, rfl⟩ := Finset.mem_map.mp hb
  obtain ⟨w, -, rfl⟩ := Finset.mem_image.mp hr
  exact Finset.mem_filter.mpr ⟨StableHlo.devRef_mem_tcRefs _, by revert w; decide⟩

theorem arr_sub1 : Pipeline.arrRefs (τ := τ) spec1 ⊆ Pipeline.ucRefs τ sig := by
  intro b hb
  obtain ⟨r, hr, rfl⟩ := Finset.mem_map.mp hb
  obtain ⟨w, -, rfl⟩ := Finset.mem_image.mp hr
  exact Finset.mem_filter.mpr ⟨StableHlo.devRef_mem_tcRefs _, by revert w; decide⟩

/-- After the staging call the buffers are as before it but for its two results. -/
theorem after0 (c : Dev nD) (b : DevRef τ sig) (hb : b ∈ Pipeline.ucRefs τ sig) :
    Pipeline.afterRegion (dat0 (at0 m) c) (V3 m c) b = V4 m (left m) c b := by
  obtain ⟨r, -, rfl⟩ := Finset.mem_map.mp (Finset.mem_filter.mp hb).1
  change _ = V4 m (left m) c (Proc.devRef .tc r)
  by_cases h0 : r = main_v15_0
  · subst h0
    rw [V4, Function.update_of_ne (StableHlo.devRef_ne_of_ne (by decide)), Function.update_self, left_four]; rfl
  · by_cases h1 : r = main_v15_1
    · subst h1
      rw [V4, Function.update_self, left_four]; rfl
    · refine (Pipeline.afterRegion_keeps (dat0 (at0 m) c) (V3 m c) launch0.win.arr_inj (fun w => A_eq0 (at0 m) c w) r ?_).trans
        (V4_of m (left m) c r (by simp only [List.mem_cons, List.not_mem_nil, _root_.or_false, _root_.not_or]; exact ⟨h0, h1⟩)).symm
      intro w hw
      match w with
      | ⟨0, _⟩ => rfl
      | ⟨1, _⟩ => rfl
      | ⟨2, _⟩ => exact absurd hw.symm h0
      | ⟨3, _⟩ => exact absurd hw.symm h1

/-- After the splatting call the buffers are as before it but for its result. -/
theorem after1 (c : Dev nD) (b : DevRef τ sig) (hb : b ∈ Pipeline.ucRefs τ sig) :
    Pipeline.afterRegion (dat1 (at1 m) c) (V7 m (left0 m) c) b = V8 m (left m) c b := by
  obtain ⟨r, -, rfl⟩ := Finset.mem_map.mp (Finset.mem_filter.mp hb).1
  change _ = V8 m (left m) c (Proc.devRef .tc r)
  by_cases h0 : r = main_v27
  · subst h0
    rw [V8, Function.update_self, left_eight]; rfl
  · refine (Pipeline.afterRegion_keeps (dat1 (at1 m) c) (V7 m (left0 m) c) launch1.win.arr_inj (fun w => A_eq1 (at1 m) c w) r ?_).trans
        ((congrFun (V7_left m c) _).symm.trans (V8_of m (left m) c r (by simp only [List.mem_cons, List.not_mem_nil, _root_.or_false]; exact h0)).symm)
    intro w hw
    match w with
    | ⟨0, _⟩ => rfl
    | ⟨1, _⟩ => exact absurd hw.symm h0

theorem enter0 (c : Dev nD) :
    iprop(StableHlo.held (c : Thread nD τ) (Pipeline.ucRefs τ sig) (V3 m c) ∗ rest (F := F) c) ⊢ (reg0 m).pre c := by
  unfold reg0; exact Pipeline.RegionSeg.ofHeldIn_pre (pcs := pcfgs (F := F)) (a := adm) (p := 0) (D := fun _ => 0) (pdats := pdats m) (X := fun c => iprop(∃ r, prngReg c r))
    (R := fun _ => iprop(emp)) (W := fun c => V3 m c) arr_sub0 c

theorem leave0 (c : Dev nD) :
    (reg0 m).post c ⊢ iprop(StableHlo.held (c : Thread nD τ) (Pipeline.ucRefs τ sig) (V4 m (left m) c) ∗ rest (F := F) c) := by
  rw [← StableHlo.held_congr (c : Thread nD τ) (after0 m c)]
  unfold reg0; exact Pipeline.RegionSeg.ofHeldIn_post arr_sub0 c

theorem enter1 (c : Dev nD) :
    iprop(StableHlo.held (c : Thread nD τ) (Pipeline.ucRefs τ sig) (V7 m (left m) c) ∗ rest (F := F) c) ⊢ (reg1 m).pre c := by
  rw [V7_left]
  unfold reg1; exact Pipeline.RegionSeg.ofHeldIn_pre (pcs := pcfgs (F := F)) (a := adm) (p := 1) (D := fun _ => 0) (pdats := pdats m) (X := fun c => iprop(∃ r, prngReg c r))
    (R := fun _ => iprop(emp)) (W := fun c => V7 m (left0 m) c) arr_sub1 c

theorem leave1 (c : Dev nD) :
    (reg1 m).post c ⊢ iprop(StableHlo.held (c : Thread nD τ) (Pipeline.ucRefs τ sig) (V8 m (left m) c) ∗ rest (F := F) c) := by
  rw [← StableHlo.held_congr (c : Thread nD τ) (after1 m c)]
  unfold reg1; exact Pipeline.RegionSeg.ofHeldIn_post arr_sub1 c

/-! ## The run -/

set_option backward.isDefEq.respectTransparency.types false in
/-- From any memory with zero counters every weakly fair execution of @main on the TensorCores terminates; every final
    state has each unscoped buffer at the last of the items' valuations and every semaphore counter at zero. -/
theorem ran : θ_run defs (onTc (τ := τ) (main (F := F))) ⟨m, fun _ => 0, ρ⟩ (fun r => (∀ c : Dev nD,
      ∀ b ∈ Pipeline.ucRefs τ sig, r.2.mem ((c : Thread nD τ).1, b) = V9 m (left m) c b) ∧ r.2.sem = fun _ => 0) := by
  refine Pipeline.θ_run_regions_kit_dev_sems (pcfgs (F := F)) adm (pdats m) () cellOf_inj emb₁ defs₀ Variants.none lset lval m ρ main
    (segs m (left m) Variants.none lset lval (fun _ => rest) () (pdats m) (reg0 m) (reg1 m))
    (fun c Q => by
      rewrite [main_chain c, Pipeline.Seg.run_eq_chain,
        show (segs m (left m) Variants.none lset lval (fun _ => rest) () (pdats m) (reg0 m) (reg1 m) c).map Pipeline.Seg.prog = [
          StableHlo.seq hostOps0,
          StableHlo.seq hostOps0_1,
          StableHlo.seq hostOps0_2,
          Prog.lift (.customCall (Pipeline.entry 0) ()),
          StableHlo.seq hostOps1,
          StableHlo.seq hostOps1_1,
          StableHlo.seq hostOps1_2,
          Prog.lift (.customCall (Pipeline.entry 1) ()),
          StableHlo.seq hostOps2 ] from rfl]
      dsimp (config := { failIfUnchanged := false }) only
      exact .rfl)
    (fun c => by simp only [segs, Pipeline.Seg.pipes_host, Pipeline.Seg.pipes_region, Pipeline.Seg.pipes_nil]; decide)
    (O₀ := 0) (hL := fun g hg => if_neg hg) (G := fun _ => iprop(emp))
    (u₀ := initOf (Pipeline.cells cfgs cellOf_inj) (Pipeline.launchToks cfgs cellOf_inj))
    (hu₀ := by
      iintro Hu; imodintro
      isplitl [Hu]
      · iapply (show (ownU _ : sProp 𝕄) ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ rest c))
    (Tₙ := fun c => StableHlo.held (c : Thread nD τ) (Pipeline.ucRefs τ sig) (V9 m (left m) c))
    (hch := fun c => ⟨.rfl, .rfl, .rfl, enter0 m c, leave0 m c, .rfl, .rfl, enter1 m c, leave1 m c,
      sep_mono .rfl (show rest (F := F) c ⊢ iprop(∃ W, owes (c : Thread nD τ) (0 : CellTallies nD τ sig Unit) W) from by
        iintro ⟨H, -⟩; iexact H)⟩)
    (hinit := by
      refine Pipeline.initEach lset lval fun c => ?_
      rw [show unscopedBufs c (fun b => m ((c.tc : Thread nD τ).loc b)) = StableHlo.held (c.tc : Thread nD τ) (Pipeline.ucRefs τ sig) (V0 m c)
          from Pipeline.unscopedBufs_held (Ix := Unit) (Name := ℕ) (U := UR sig nD τ) (Lvl := ℕ) c (V0 m c)]
      iintro ⟨⟨Hh, -, HO, -, Hp, -⟩, -⟩
      imodintro
      isplitl [Hh]; · iexact Hh
      isplitl [HO]; · iexists ∅; iexact HO
      isplitl [Hp]; · iexists _; iexact Hp
      iempintro)
    (QY := fun c s => ∀ b ∈ Pipeline.ucRefs τ sig, s.mem ((c : Thread nD τ).1, b) = V9 m (left m) c b)
    (hfin := fun c s' => by
      unfold StableHlo.held
      iintro ⟨Hh, HSI⟩
      ihave Hr := (pointsTo_read_all (Pipeline.ucRefs τ sig) (fun b => ((c.tc : Thread nD τ).1, b)) (V9 m (left m) c) s') $$ [Hh HSI]
      · isplitl [Hh] <;> iassumption
      imodintro; iexact Hr)
    (hQ := fun _ h hz => ⟨h, funext fun g => hz g (.inr (regions_no_unscoped g.2))⟩)

/-- A result or an argument read off the final state: an unscoped buffer. -/
theorem mem_uc (b : Ref sig .tc) (hb : b.isScoped = false) : Proc.devRef .tc b ∈ Pipeline.ucRefs τ sig :=
  Finset.mem_filter.mpr ⟨StableHlo.devRef_mem_tcRefs b, fun h => Bool.false_ne_true (hb.symm.trans h)⟩

/-- The frame claim's statement: the arguments end as launched, every counter at zero. -/
theorem kept : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun _ h => ⟨fun c =>
    ⟨(h.1 c _ (mem_uc main_arg0 rfl)).trans (V9_main_arg0 m (left m) c),
     (h.1 c _ (mem_uc main_arg1 rfl)).trans (V9_main_arg1 m (left m) c),
     (h.1 c _ (mem_uc main_arg2 rfl)).trans (V9_main_arg2 m (left m) c),
     (h.1 c _ (mem_uc main_arg3 rfl)).trans (V9_main_arg3 m (left m) c),
     (h.1 c _ (mem_uc main_arg4 rfl)).trans (V9_main_arg4 m (left m) c),
     (h.1 c _ (mem_uc main_arg5 rfl)).trans (V9_main_arg5 m (left m) c),
     (h.1 c _ (mem_uc main_arg6 rfl)).trans (V9_main_arg6 m (left m) c),
     (h.1 c _ (mem_uc main_arg7 rfl)).trans (V9_main_arg7 m (left m) c)⟩, h.2⟩) (ran m ρ)

end Cert.KernelIdeal.Own

end
-- ==== Proof.Scene.lean ====
/-
  One Gaussian's quantities as extended reals: what both programs compute per Gaussian, as functions of its 59 features
  (position, harmonics, opacity, scales, quaternion), the camera's rotation and its translation.
-/
module

public import Idealize.ShloMosaic.PureOps.Ideal

@[expose] public section

noncomputable section

namespace Cert.Proof.Scene

open Idealize.ShloMosaic

/-- The f32 constant of a bit pattern. -/
abbrev k (b : BitVec 32) : EReal := Ideal.ofBits .f32 b

variable (f : Fin 59 → EReal) (R : Fin 3 → Fin 3 → EReal) (t : Fin 3 → EReal)

/-- The features of a Gaussian from its rows of the five arguments. -/
def feat (p : Fin 3 → EReal) (h : Fin 48 → EReal) (a : EReal) (s : Fin 3 → EReal) (q : Fin 4 → EReal) (n : Fin 59) : EReal :=
  if h0 : n.val < 3 then p ⟨n.val, h0⟩
  else if h1 : n.val < 51 then h ⟨n.val - 3, by omega⟩
  else if h2 : n.val < 52 then a
  else if h3 : n.val < 55 then s ⟨n.val - 52, by omega⟩
  else q ⟨n.val - 55, by omega⟩

/-- The inner product of two triples. -/
def dot (a b : Fin 3 → EReal) : EReal := a 0 * b 0 + a 1 * b 1 + a 2 * b 2

theorem dot_comm (a b : Fin 3 → EReal) : dot a b = dot b a := by
  unfold dot; rw [mul_comm (a 0), mul_comm (a 1), mul_comm (a 2)]

/-- The position. -/
def pos (i : Fin 3) : EReal := f ⟨i.val, by omega⟩

/-- The position in the camera's frame. -/
def pc (i : Fin 3) : EReal := dot (pos f) (R i) + t i

/-- The projected centre. -/
def u (i : Fin 3) : EReal := Ideal.div (k 0x41F00000#32 * pc f R t i) (pc f R t 2) + k 0x41800000#32

/-- The quaternion's norm, kept off zero. -/
def qn : EReal := Ideal.sqrt (f 55 * f 55 + f 56 * f 56 + f 57 * f 57 + f 58 * f 58) + k 0x2B8CBCCC#32

def qw : EReal := Ideal.div (f 55) (qn f)
def qx : EReal := Ideal.div (f 56) (qn f)
def qy : EReal := Ideal.div (f 57) (qn f)
def qz : EReal := Ideal.div (f 58) (qn f)

/-- A unit quaternion's rotation matrix. -/
def rot (w x y z : EReal) (i j : Fin 3) : EReal :=
  match i, j with
  | 0, 0 => 1 - k 0x40000000#32 * (y * y + z * z)
  | 0, 1 => k 0x40000000#32 * (x * y - w * z)
  | 0, 2 => k 0x40000000#32 * (x * z + w * y)
  | 1, 0 => k 0x40000000#32 * (x * y + w * z)
  | 1, 1 => 1 - k 0x40000000#32 * (x * x + z * z)
  | 1, 2 => k 0x40000000#32 * (y * z - w * x)
  | 2, 0 => k 0x40000000#32 * (x * z - w * y)
  | 2, 1 => k 0x40000000#32 * (y * z + w * x)
  | 2, 2 => 1 - k 0x40000000#32 * (x * x + y * y)

/-- The rotation, its columns scaled. -/
def M (i j : Fin 3) : EReal := rot (qw f) (qx f) (qy f) (qz f) i j * Ideal.exp (f ⟨52 + j.val, by omega⟩)

/-- The covariance in space. -/
def S (i j : Fin 3) : EReal := dot (M f i) (M f j)

theorem S_comm (i j : Fin 3) : S f i j = S f j i := dot_comm _ _

/-- The projection's derivative: the two nonzero entries of its two rows. -/
def jd : EReal := Ideal.div (k 0x41F00000#32) (pc f R t 2)
def jo (i : Fin 3) : EReal := Ideal.div (k 0xC1F00000#32 * pc f R t i) (pc f R t 2 * pc f R t 2)

/-- The derivative's rows in the world's frame. -/
def T (r : Fin 2) (i : Fin 3) : EReal :=
  jd f R t * R ⟨r.val, by omega⟩ i + jo f R t ⟨r.val, by omega⟩ * R 2 i

def P (r : Fin 2) (i : Fin 3) : EReal := dot (T f R t r) (S f i)

/-- The covariance on the screen. -/
def ca : EReal := dot (P f R t 0) (T f R t 0) + k 0x3E99999A#32
def cb : EReal := dot (P f R t 0) (T f R t 1)
def cc : EReal := dot (P f R t 1) (T f R t 1) + k 0x3E99999A#32

def det : EReal := ca f R t * cc f R t - cb f R t * cb f R t

/-- The two scales of the exponent: minus half of, and minus, one over the logarithm of two. -/
def kh : EReal := ((-((2 * (Real.log 2))⁻¹) : ℝ) : EReal)
def kl : EReal := ((-((Real.log 2)⁻¹) : ℝ) : EReal)

/-- The exponent's three coefficients. -/
def ea : EReal := kh * Ideal.div (cc f R t) (det f R t)
def eb : EReal := kl * Ideal.div (0 - cb f R t) (det f R t)
def ec : EReal := kh * Ideal.div (ca f R t) (det f R t)

/-- The two sizes on the screen. -/
def area (r : Fin 2) : EReal :=
  Ideal.liftRound Int.ceil (k 0x40400000#32 * Ideal.sqrt (match r with | 0 => ca f R t | 1 => cc f R t))

/-- The camera's centre, by the kernel's sign. -/
def cam (i : Fin 3) : EReal := 0 - (R 0 i * t 0 + R 1 i * t 1 + R 2 i * t 2)

/-- The view direction before it is normalized. -/
def dir (i : Fin 3) : EReal := pos f i - cam R t i

def dn : EReal := Ideal.sqrt (dot (dir f R t) (dir f R t)) + k 0x2B8CBCCC#32

/-- The view direction. -/
def d (i : Fin 3) : EReal := Ideal.div (dir f R t i) (dn f R t)

/-- The harmonics' basis at a direction. -/
def basis (x y z : EReal) (n : Fin 16) : EReal :=
  match n with
  | 0 => k 0x3E906EBB#32
  | 1 => k 0xBEFA2A1C#32 * y
  | 2 => k 0x3EFA2A1C#32 * z
  | 3 => k 0xBEFA2A1C#32 * x
  | 4 => k 0x3F8BD8A1#32 * (x * y)
  | 5 => k 0xBF8BD8A1#32 * (y * z)
  | 6 => k 0x3EA17B01#32 * (k 0x40000000#32 * (z * z) - x * x - y * y)
  | 7 => k 0xBF8BD8A1#32 * (x * z)
  | 8 => k 0x3F0BD8A1#32 * (x * x - y * y)
  | 9 => k 0xBF170D19#32 * y * (k 0x40400000#32 * (x * x) - y * y)
  | 10 => k 0x4038FFC7#32 * (x * y) * z
  | 11 => k 0xBEEA01E8#32 * y * (k 0x40800000#32 * (z * z) - x * x - y * y)
  | 12 => k 0x3EBF10F8#32 * z * (k 0x40000000#32 * (z * z) - k 0x40400000#32 * (x * x) - k 0x40400000#32 * (y * y))
  | 13 => k 0xBEEA01E8#32 * x * (k 0x40800000#32 * (z * z) - x * x - y * y)
  | 14 => k 0x3FB8FFC7#32 * z * (x * x - y * y)
  | _ => k 0xBF170D19#32 * x * (x * x - k 0x40400000#32 * (y * y))

/-- One harmonic's coefficient in one channel. -/
def sh (ch : Fin 3) (n : Fin 16) : EReal := f ⟨3 + 3 * n.val + ch.val, by omega⟩

/-- One term of a channel. -/
def term (ch : Fin 3) (n : Fin 16) : EReal := basis (d f R t 0) (d f R t 1) (d f R t 2) n * sh f ch n

/-- A channel's colour. -/
def col (ch : Fin 3) : EReal :=
  max (term f R t ch 0 + term f R t ch 1 + term f R t ch 2 + term f R t ch 3 + term f R t ch 4 + term f R t ch 5
    + term f R t ch 6 + term f R t ch 7 + term f R t ch 8 + term f R t ch 9 + term f R t ch 10 + term f R t ch 11
    + term f R t ch 12 + term f R t ch 13 + term f R t ch 14 + term f R t ch 15 + k 0x3F000000#32) 0

/-- The opacity. -/
def al : EReal := Ideal.div (1) (1 + Ideal.exp (0 - f 51))

/-- One Gaussian's ten attributes; `pad` says that the place holds no Gaussian, so that its opacity is zero and its depth
last. -/
def attr (pad : Prop) [Decidable pad] (r : Fin 10) : EReal :=
  match r with
  | 0 => u f R t 0
  | 1 => u f R t 1
  | 2 => ea f R t
  | 3 => eb f R t
  | 4 => ec f R t
  | 5 => if pad then 0 else al f
  | 6 => col f R t 0
  | 7 => col f R t 1
  | 8 => col f R t 2
  | _ => if pad then ⊤ else pc f R t 2

end Cert.Proof.Scene

end
-- ==== Proof.Splat2D.lean ====
/-
  The scene's quantities on finite positions and a finite camera: away from depth zero the screen covariance's
  determinant is positive or infinite, whatever the scales and the quaternions.
-/
module

public import proofs.«01_k».proof.Proof.Scene

@[expose] public section

noncomputable section

namespace Cert.Proof.Scene

open Idealize.ShloMosaic

/-- A finite extended real. -/
def Rl (x : EReal) : Prop := ∃ r : ℝ, x = r

theorem Rl.coe (r : ℝ) : Rl r := ⟨r, rfl⟩
theorem Rl.add {x y : EReal} : Rl x → Rl y → Rl (x + y) := by
  rintro ⟨a, rfl⟩ ⟨b, rfl⟩; exact ⟨a + b, by norm_cast⟩
theorem Rl.sub {x y : EReal} : Rl x → Rl y → Rl (x - y) := by
  rintro ⟨a, rfl⟩ ⟨b, rfl⟩; exact ⟨a - b, by norm_cast⟩
theorem Rl.mul {x y : EReal} : Rl x → Rl y → Rl (x * y) := by
  rintro ⟨a, rfl⟩ ⟨b, rfl⟩; exact ⟨a * b, by norm_cast⟩
theorem Rl.exp {x : EReal} : Rl x → Rl (Ideal.exp x) := by
  rintro ⟨a, rfl⟩; exact ⟨Real.exp a, rfl⟩
theorem div_coe' (a b : ℝ) (hb : b ≠ 0) : Ideal.div (a : EReal) (b : EReal) = ((a / b : ℝ) : EReal) := by
  unfold Ideal.div
  rw [if_neg (by exact_mod_cast hb), div_eq_mul_inv, EReal.coe_mul, EReal.coe_inv]
theorem Rl.div {x y : EReal} (hx : Rl x) (hy : Rl y) (h : y ≠ 0) : Rl (Ideal.div x y) := by
  obtain ⟨a, rfl⟩ := hx
  obtain ⟨b, rfl⟩ := hy
  exact ⟨a / b, div_coe' a b (by exact_mod_cast h)⟩
theorem Rl.one : Rl (1 : EReal) := ⟨1, rfl⟩

theorem k30 : k 0x41F00000#32 = ((30 : ℝ) : EReal) := by
  simp [k, Ideal.ofBits, Ideal.ieee]; norm_cast <;> norm_num
theorem k30n : k 0xC1F00000#32 = ((-30 : ℝ) : EReal) := by
  simp [k, Ideal.ofBits, Ideal.ieee]; norm_cast <;> norm_num
theorem k16 : k 0x41800000#32 = ((16 : ℝ) : EReal) := by
  simp [k, Ideal.ofBits, Ideal.ieee]; norm_cast <;> norm_num
theorem k2 : k 0x40000000#32 = ((2 : ℝ) : EReal) := by
  simp [k, Ideal.ofBits, Ideal.ieee]; norm_cast <;> norm_num
theorem khalf : k 0xBF000000#32 = ((-(1/2) : ℝ) : EReal) := by
  simp [k, Ideal.ofBits, Ideal.ieee]; norm_cast <;> norm_num
theorem keps : k 0x2B8CBCCC#32 = ((9223372 / 2 ^ 63 : ℝ) : EReal) := by
  simp [k, Ideal.ofBits, Ideal.ieee]; norm_cast <;> norm_num
/-- The screen covariance's floor, three tenths as a number of 24 bits. -/
def fl : ℝ := 10066330 / 2 ^ 25
theorem fl_pos : 0 < fl := by unfold fl; norm_num
theorem kfl : k 0x3E99999A#32 = (fl : EReal) := by
  unfold fl; simp [k, Ideal.ofBits, Ideal.ieee]; norm_cast <;> norm_num
theorem k99 : k 0x3F7D70A4#32 = ((16609444 / 2 ^ 24 : ℝ) : EReal) := by
  simp [k, Ideal.ofBits, Ideal.ieee]; norm_cast <;> norm_num
theorem kcut : k 0x3B808081#32 = ((8421505 / 2 ^ 31 : ℝ) : EReal) := by
  simp [k, Ideal.ofBits, Ideal.ieee]; norm_cast <;> norm_num

theorem det_pos (a b c x y z e : ℝ) (he : 0 < e) :
    0 < (a * a + b * b + c * c + e) * (x * x + y * y + z * z + e) - (a * x + b * y + c * z) * (a * x + b * y + c * z) := by
  have h : (a * a + b * b + c * c + e) * (x * x + y * y + z * z + e) - (a * x + b * y + c * z) * (a * x + b * y + c * z)
      = (a * y - b * x) ^ 2 + (a * z - c * x) ^ 2 + (b * z - c * y) ^ 2 + e * (a ^ 2 + b ^ 2 + c ^ 2 + x ^ 2 + y ^ 2 + z ^ 2) + e * e := by
    ring
  rw [h]; positivity

/-- An infinity. -/
def Un (x : EReal) : Prop := x = ⊤ ∨ x = ⊥

theorem rl_or_un (x : EReal) : Rl x ∨ Un x := by
  induction x with
  | bot => exact .inr (.inr rfl)
  | top => exact .inr (.inl rfl)
  | coe r => exact .inl ⟨r, rfl⟩

/-- A sum with an infinite term is infinite. -/
theorem Un.add {x : EReal} (y : EReal) : Un x → Un (x + y) := by
  rintro (rfl | rfl) <;> induction y <;> simp [Un]
theorem Un.add' {y : EReal} (x : EReal) (h : Un y) : Un (x + y) := by
  rw [add_comm]; exact h.add x
theorem Un.sub {x : EReal} (y : EReal) (h : Un x) : Un (x - y) := by
  rw [sub_eq_add_neg]; exact h.add _

/-- A product of an infinity and a nonzero factor is infinite. -/
theorem Un.mul {x y : EReal} (h : y ≠ 0) : Un x → Un (x * y) := by
  induction y with
  | bot => rintro (rfl | rfl) <;> simp [Un]
  | top => rintro (rfl | rfl) <;> simp [Un]
  | coe r =>
    have h : r ≠ 0 := by exact_mod_cast h
    rcases lt_or_gt_of_ne h with h | h <;> rintro (rfl | rfl)
    · exact .inr (EReal.top_mul_coe_of_neg h)
    · exact .inl (EReal.bot_mul_coe_of_neg h)
    · exact .inl (EReal.top_mul_coe_of_pos h)
    · exact .inr (EReal.bot_mul_coe_of_pos h)
theorem Un.mul' {x y : EReal} (h : x ≠ 0) (hy : Un y) : Un (x * y) := by
  rw [mul_comm]; exact hy.mul h

theorem Un.ne_zero {x : EReal} : Un x → x ≠ 0 := by
  rintro (rfl | rfl) <;> simp

/-- A square is not negative; an infinity's is the top. -/
theorem sq_nonneg' (x : EReal) : 0 ≤ x * x := by
  induction x with
  | bot => simp
  | top => simp
  | coe r => exact_mod_cast mul_self_nonneg r
theorem Un.sq {x : EReal} : Un x → x * x = ⊤ := by
  rintro (rfl | rfl) <;> simp

theorem add_top' {x y : EReal} (hx : 0 ≤ x) (hy : y = ⊤) : x + y = ⊤ := by
  subst hy; exact EReal.add_top_of_ne_bot (by rintro rfl; simp at hx)
theorem top_add' {x y : EReal} (hy : 0 ≤ y) (hx : x = ⊤) : x + y = ⊤ := by
  rw [add_comm]; exact add_top' hy hx

/-- The sum of three squares, one of an infinity, is the top. -/
theorem dot_self_top {a : Fin 3 → EReal} (i : Fin 3) (h : Un (a i)) : dot a a = ⊤ := by
  unfold dot
  have n := fun i => sq_nonneg' (a i)
  match i, h with
  | 0, h => exact top_add' (n 2) (top_add' (n 1) h.sq)
  | 1, h => exact top_add' (n 2) (add_top' (n 0) h.sq)
  | 2, h => exact add_top' (add_nonneg (n 0) (n 1)) h.sq

/-- A dot product with an infinite term is infinite. -/
theorem dot_un {a b : Fin 3 → EReal} (i : Fin 3) (h : Un (a i * b i)) : Un (dot a b) := by
  unfold dot
  match i, h with
  | 0, h => exact (h.add _).add _
  | 1, h => exact (h.add' _).add _
  | 2, h => exact h.add' _

/-- The quaternion as given. -/
def qua (f : Fin 59 → EReal) (i : Fin 4) : EReal := f ⟨55 + i.val, by omega⟩

theorem div_top (x : EReal) : Ideal.div x ⊤ = 0 := by
  unfold Ideal.div; rw [if_neg (by simp)]; simp
theorem div_bot (x : EReal) : Ideal.div x ⊥ = 0 := by
  unfold Ideal.div; rw [if_neg (by simp)]; simp

variable {f : Fin 59 → EReal} {R : Fin 3 → Fin 3 → EReal} {t : Fin 3 → EReal}

section real

variable (hp : ∀ i, Rl (pos f i)) (hR : ∀ i j, Rl (R i j)) (ht : ∀ i, Rl (t i))

theorem Rl.dot {a b : Fin 3 → EReal} (ha : ∀ i, Rl (a i)) (hb : ∀ i, Rl (b i)) : Rl (dot a b) :=
  (((ha 0).mul (hb 0)).add ((ha 1).mul (hb 1))).add ((ha 2).mul (hb 2))

include hp hR ht in
theorem pc_rl (i : Fin 3) : Rl (pc f R t i) := (Rl.dot hp (hR i)).add (ht i)

theorem qn_rl (hq : ∀ i : Fin 4, Rl (qua f i)) : ∃ r : ℝ, qn f = r ∧ 0 < r := by
  obtain ⟨a, ha⟩ := hq 0
  obtain ⟨b, hb⟩ := hq 1
  obtain ⟨c, hc⟩ := hq 2
  obtain ⟨d, hd⟩ := hq 3
  have e : qn f = Ideal.sqrt ((a * a + b * b + c * c + d * d : ℝ) : EReal) + k 0x2B8CBCCC#32 := by
    unfold qn
    rw [show f 55 = a from ha, show f 56 = b from hb, show f 57 = c from hc, show f 58 = d from hd]
    norm_cast
  have hn : ¬ a * a + b * b + c * c + d * d < 0 := by nlinarith [mul_self_nonneg a, mul_self_nonneg b, mul_self_nonneg c, mul_self_nonneg d]
  refine ⟨Real.sqrt (a * a + b * b + c * c + d * d) + 9223372 / 2 ^ 63, ?_, ?_⟩
  · rw [e, keps]
    show (if a * a + b * b + c * c + d * d < 0 then (⊥ : EReal) else (Real.sqrt (a * a + b * b + c * c + d * d) : EReal)) + _ = _
    rw [if_neg hn, EReal.coe_add]
  · have := Real.sqrt_nonneg (a * a + b * b + c * c + d * d)
    positivity

/-- An infinite component makes the quaternion's norm infinite. -/
theorem qn_top (i : Fin 4) (h : Un (qua f i)) : qn f = ⊤ := by
  have n := fun i => sq_nonneg' (qua f i)
  have e : qn f = Ideal.sqrt (qua f 0 * qua f 0 + qua f 1 * qua f 1 + qua f 2 * qua f 2 + qua f 3 * qua f 3) + k 0x2B8CBCCC#32 := rfl
  have hs : qua f 0 * qua f 0 + qua f 1 * qua f 1 + qua f 2 * qua f 2 + qua f 3 * qua f 3 = ⊤ := by
    match i, h with
    | 0, h => exact top_add' (n 3) (top_add' (n 2) (top_add' (n 1) h.sq))
    | 1, h => exact top_add' (n 3) (top_add' (n 2) (add_top' (n 0) h.sq))
    | 2, h => exact top_add' (n 3) (add_top' (add_nonneg (n 0) (n 1)) h.sq)
    | 3, h => exact add_top' (add_nonneg (add_nonneg (n 0) (n 1)) (n 2)) h.sq
  rw [e, hs, keps]
  rfl

/-- The normalized quaternion is finite, whatever was given. -/
theorem unit_rl (i : Fin 4) : Rl (Ideal.div (qua f i) (qn f)) := by
  by_cases hq : ∀ i : Fin 4, Rl (qua f i)
  · obtain ⟨r, hr, h0⟩ := qn_rl hq
    exact (hq i).div ⟨r, hr⟩ (by rw [hr]; exact_mod_cast h0.ne')
  · obtain ⟨j, hj⟩ := not_forall.mp hq
    rw [qn_top j ((rl_or_un _).resolve_left hj), div_top]
    exact ⟨0, rfl⟩

include hp hR ht in
theorem T_rl (h : pc f R t 2 ≠ 0) (r : Fin 2) (i : Fin 3) : Rl (T f R t r i) := by
  have p := pc_rl hp hR ht
  have h2 : pc f R t 2 * pc f R t 2 ≠ 0 := by
    obtain ⟨a, ha⟩ := p 2
    rw [ha] at h ⊢
    have : a ≠ 0 := by exact_mod_cast h
    exact_mod_cast mul_ne_zero this this
  refine (Rl.mul ?_ (hR _ _)).add (Rl.mul ?_ (hR _ _))
  · exact Rl.div ⟨_, k30⟩ (p 2) h
  · exact Rl.div (Rl.mul ⟨_, k30n⟩ (p _)) ((p 2).mul (p 2)) h2

include hp hR ht in
theorem u_rl (h : pc f R t 2 ≠ 0) (i : Fin 3) : Rl (u f R t i) := by
  have p := pc_rl hp hR ht
  exact (Rl.div (Rl.mul ⟨_, k30⟩ (p i)) (p 2) h).add ⟨_, k16⟩

/-- A row of the scaled rotation is finite, or the covariance's entry on the diagonal is the top. -/
theorem row_cases (i : Fin 3) : (∀ j, Rl (M f i j)) ∨ S f i i = ⊤ := by
  by_cases h : ∀ j, Rl (M f i j)
  · exact .inl h
  · obtain ⟨j, hj⟩ := not_forall.mp h
    exact .inr (dot_self_top j ((rl_or_un _).resolve_left hj))

/-- Row `r` of the derivative meets finite rows of the scaled rotation only. -/
def Tame (f : Fin 59 → EReal) (R : Fin 3 → Fin 3 → EReal) (t : Fin 3 → EReal) (r : Fin 2) : Prop :=
  ∀ i, T f R t r i = 0 ∨ ∀ j, Rl (M f i j)

/-- Where it meets another, the screen covariance's entry on the diagonal is infinite. -/
theorem wild (r : Fin 2) (h : ¬ Tame f R t r) : Un (dot (P f R t r) (T f R t r)) := by
  obtain ⟨i, hi⟩ := not_forall.mp h
  obtain ⟨h0, hm⟩ := not_or.mp hi
  have hS := (row_cases i).resolve_left hm
  have hP : Un (P f R t r i) := dot_un i (Un.mul' h0 (.inl hS))
  exact dot_un i (hP.mul h0)

/-- Where both rows meet finite ones only, the screen covariance's entry is a dot product of two real vectors. -/
theorem tame : ∃ n : (Fin 2 → Fin 3 → ℝ) → Fin 2 → Fin 3 → ℝ, ∀ v : Fin 2 → Fin 3 → ℝ, (∀ r i, T f R t r i = v r i) →
    ∀ r q, Tame f R t r → Tame f R t q →
      dot (P f R t r) (T f R t q) = ((n v r 0 * n v q 0 + n v r 1 * n v q 1 + n v r 2 * n v q 2 : ℝ) : EReal) := by
  have hm : ∀ i j, ∃ m : ℝ, (∀ j, Rl (M f i j)) → M f i j = m := by
    intro i j
    by_cases h : ∀ j, Rl (M f i j)
    · obtain ⟨m, e⟩ := h j
      exact ⟨m, fun _ => e⟩
    · exact ⟨0, fun h' => absurd h' h⟩
  choose m hm using hm
  refine ⟨fun v r l => v r 0 * m 0 l + v r 1 * m 1 l + v r 2 * m 2 l, fun v hv r q hr hq => ?_⟩
  have hS : ∀ i j, (∀ l, Rl (M f i l)) → T f R t r j * S f i j = ((v r j * (m i 0 * m j 0 + m i 1 * m j 1 + m i 2 * m j 2) : ℝ) : EReal) := by
    intro i j hi
    rcases hr j with h0 | hj
    · have z : v r j = 0 := by rw [hv] at h0; exact_mod_cast h0
      rw [h0, z, zero_mul, zero_mul]; rfl
    · rw [hv]
      simp only [S, dot, hm i _ hi, hm j _ hj, ← EReal.coe_mul, ← EReal.coe_add]
  have hP : ∀ i, P f R t r i * T f R t q i = (((v r 0 * (m i 0 * m 0 0 + m i 1 * m 0 1 + m i 2 * m 0 2) + v r 1 * (m i 0 * m 1 0 + m i 1 * m 1 1 + m i 2 * m 1 2)
      + v r 2 * (m i 0 * m 2 0 + m i 1 * m 2 1 + m i 2 * m 2 2)) * v q i : ℝ) : EReal) := by
    intro i
    rcases hq i with h0 | hi
    · have z : v q i = 0 := by rw [hv] at h0; exact_mod_cast h0
      rw [h0, z, mul_zero, mul_zero]; rfl
    · rw [hv q i, EReal.coe_mul]
      congr 1
      unfold P dot
      rw [hS i 0 hi, hS i 1 hi, hS i 2 hi, ← EReal.coe_add, ← EReal.coe_add]
  unfold dot
  rw [hP, hP, hP, ← EReal.coe_add, ← EReal.coe_add]
  congr 1
  ring

include hp hR ht in
/-- Away from depth zero the screen covariance is finite and its determinant positive, or the determinant is infinite. -/
theorem cov_rl (h : pc f R t 2 ≠ 0) :
    (∃ a b c : ℝ, ca f R t = a ∧ cb f R t = b ∧ cc f R t = c ∧ 0 < a * c - b * b) ∨ Un (det f R t) := by
  choose v hv using T_rl hp hR ht h
  obtain ⟨n, hn⟩ := tame (f := f) (R := R) (t := t)
  have e := hn v hv
  have hfl := fl_pos
  have hd : ∀ r, Tame f R t r → dot (P f R t r) (T f R t r) + k 0x3E99999A#32 ≠ 0 := by
    intro r hr
    rw [e r r hr hr, kfl, ← EReal.coe_add]
    have : 0 < n v r 0 * n v r 0 + n v r 1 * n v r 1 + n v r 2 * n v r 2 + fl := by
      nlinarith [mul_self_nonneg (n v r 0), mul_self_nonneg (n v r 1), mul_self_nonneg (n v r 2)]
    exact_mod_cast this.ne'
  have hu : ∀ r, ¬ Tame f R t r → Un (dot (P f R t r) (T f R t r) + k 0x3E99999A#32) := fun r hr => (wild r hr).add _
  have hz : ∀ r, dot (P f R t r) (T f R t r) + k 0x3E99999A#32 ≠ 0 := fun r => by
    by_cases hr : Tame f R t r
    · exact hd r hr
    · exact (hu r hr).ne_zero
  by_cases h0 : Tame f R t 0
  · by_cases h1 : Tame f R t 1
    · refine .inl ⟨_, _, _, by unfold ca; rw [e 0 0 h0 h0, kfl, ← EReal.coe_add], by unfold cb; rw [e 0 1 h0 h1], by unfold cc; rw [e 1 1 h1 h1, kfl, ← EReal.coe_add], ?_⟩
      exact det_pos _ _ _ _ _ _ _ fl_pos
    · exact .inr (Un.sub _ (Un.mul' (hz 0) (hu 1 h1)))
  · exact .inr (Un.sub _ (Un.mul (hz 1) (hu 0 h0)))

end real

end Cert.Proof.Scene

end
-- ==== Proof.Finite.lean ====
/-
  What the precondition says: every entry of the positions, the screen positions' placeholder and the camera is a
  finite number.
-/
module

public import proofs.«01_k».proof.Defs
public import proofs.«01_k».proof.Proof.Splat2D
public import Idealize.ShloMosaic.Lib.ReduceAll
public import Idealize.ShloMosaic.Lib.Pointwise

@[expose] public section

noncomputable section

namespace Cert.Proof.Finite

open Cert.Pre_finite Cert.Proof.Scene
open Idealize.ShloMosaic

/-- The side conditions of the precondition's operations. -/
instance facts : Cert.Pre_finite.Facts where
  bcast_S_S10000x3 := by decide
  reducesTo_S10000x3_S_d0_1 := by decide
  h_S_ := by decide
  bcast_S_S10000x2 := by decide
  reducesTo_S10000x2_S_d0_1 := by decide
  bcast_S_S3x3 := by decide
  reducesTo_S3x3_S_d0_1 := by decide
  bcast_S_S3 := by decide
  reducesTo_S3_S_d0 := by decide

/-- The word of the positive infinity is the top of the extended reals. -/
theorem inf_top : Ideal.ofBits .f32 0x7F800000#32 = (⊤ : EReal) := by
  simp [Ideal.ofBits, Ideal.ieee]

/-- A value whose magnitude is below the top is a finite number. -/
theorem rl_of_lt (x : EReal) (h : Ideal.cmp .olt (max x (-x)) ⊤ = 1#1) : Rl x := by
  induction x with
  | bot => simp [Ideal.cmp] at h
  | top => simp [Ideal.cmp] at h
  | coe r => exact ⟨r, rfl⟩

instance : Subsingleton S_.Idx := ⟨fun a b => funext fun d => d.elim0⟩

/-- An array all of whose magnitudes are below infinity has finite entries only. -/
theorem all_rl {s : Shape} {axes : List (Fin s.rank)} (x : FVec Ideal s .f32) (hb : S_.BroadcastsInDim s (![] : Fin 0 → Fin s.rank))
    (hr : s.ReducesTo axes S_) (h0 : 0 < S_.numel) (j : S_.Idx)
    (e : Host.reduce IntOp.andi (cmpf .olt (Host.absf x) (broadcastInDim s ![] hb (constant (F := Ideal) S_ .f32 0x7F800000#32))) (constantI S_ 1 1#1) hr h0 j = 1#1)
    (i : s.Idx) : Rl (x i) := by
  have h := Host.reduce_andi_all _ _ hr h0 j e i
  refine rl_of_lt (x i) ?_
  rw [← inf_top]
  exact h

/-- The precondition's arrays are finite. -/
theorem all_finite (a0 : FVec Ideal S10000x3 .f32) (a1 : FVec Ideal S10000x48 .f32) (a2 : FVec Ideal S10000x1 .f32)
    (a3 : FVec Ideal S10000x3 .f32) (a4 : FVec Ideal S10000x4 .f32) (a5 : FVec Ideal S10000x2 .f32)
    (a6 : FVec Ideal S3x3 .f32) (a7 : FVec Ideal S3 .f32) (h : fn (F := Ideal) a0 a1 a2 a3 a4 a5 a6 a7 = fun _ => 1#1) :
    (∀ i, Rl (a0 i)) ∧ (∀ i, Rl (a5 i)) ∧ (∀ i, Rl (a6 i)) ∧ (∀ i, Rl (a7 i)) := by
  have h := congrFun h (fun d => d.elim0)
  obtain ⟨h, h7⟩ := IntOp.andi_eq_one.1 h
  obtain ⟨h, h6⟩ := IntOp.andi_eq_one.1 h
  obtain ⟨h0, h5⟩ := IntOp.andi_eq_one.1 h
  exact ⟨all_rl a0 _ _ _ _ h0, all_rl a5 _ _ _ _ h5, all_rl a6 _ _ _ _ h6, all_rl a7 _ _ _ _ h7⟩

end Cert.Proof.Finite

end
-- ==== Proof.SplatTrip.lean ====
/-
  One trip of the splatting kernel's loop, read at one pixel: eight Gaussians of the block are composited in turn.
-/
module

public import proofs.«01_k».proof.Proof.KernelIdealRun
public import proofs.«01_k».proof.Proof.Scene
public import Idealize.ShloMosaic.Lib.Pointwise
public import Idealize.ShloMosaic.Lib.WholeRead

@[expose] public section

set_option maxRecDepth 16384

noncomputable section

namespace Cert.KernelIdeal.Own

open Cert.KernelIdeal Cert.KernelIdeal.Gen Cert.Proof.Scene
open Idealize.ShloMosaic Idealize.ShloMosaic.Pointwise

/-- The opacity of a Gaussian with attributes `a` at a pixel, before its cut. -/
def raw (a : Fin 10 → EReal) (x y : EReal) : EReal :=
  min (a 5 * Ideal.exp2 (min ((a 2 * (x - a 0) + a 3 * (y - a 1)) * (x - a 0) + a 4 * (y - a 1) * (y - a 1)) 0)) (Ideal.ofBits .f32 0x3F7D70A4#32)

/-- The opacity at a pixel: small ones are nothing. -/
def wt (a : Fin 10 → EReal) (x y : EReal) : EReal :=
  if raw a x y < Ideal.ofBits .f32 0x3B808081#32 then 0 else raw a x y

/-- A pixel's state: the light left, and the three colours gathered. -/
abbrev St := EReal × EReal × EReal × EReal

/-- One Gaussian composited over a pixel's state. -/
def step (a : Fin 10 → EReal) (x y : EReal) (st : St) : St :=
  (st.1 - wt a x y * st.1, st.2.1 + wt a x y * st.1 * a 6, st.2.2.1 + wt a x y * st.1 * a 7, st.2.2.2 + wt a x y * st.1 * a 8)

/-- The state of the pixel at sublane `s`, lane `l`. -/
def lane (acc : FVec Ideal S8x128 .f32 × FVec Ideal S8x128 .f32 × FVec Ideal S8x128 .f32 × FVec Ideal S8x128 .f32) (s : Fin 8) (l : Fin 128) : St :=
  (acc.1 (ix2 s l), acc.2.1 (ix2 s l), acc.2.2.1 (ix2 s l), acc.2.2.2 (ix2 s l))

/-- A pixel's row, as the kernel computes it. -/
abbrev yv : FVec Ideal S8x128 .f32 := k1_pay59 k1_pay56 k1_pay57 k1_pay58 0#32

variable (i : grid1.Coords) (a1 : Memref sig .tc .smem S10x512 .f32) (h1 : a1.IsWhole) (x1 : Vec Ideal S10x512 .f32) (k : Fin k1_t1_loop.trips)
  (acc : FVec Ideal S8x128 .f32 × FVec Ideal S8x128 .f32 × FVec Ideal S8x128 .f32 × FVec Ideal S8x128 .f32) (s : Fin 8) (l : Fin 128)

theorem trip_col (j : Fin 8) : 8 * k.val + j.val < 512 := by
  have := lt_of_lt_of_le k.isLt k1_t1_abs.2.1
  omega

/-- The attributes of the Gaussian at unrolled place `j` of trip `k`. -/
def cl (j : Fin 8) (r : Fin 10) : EReal := x1 (ix2 r ⟨8 * k.val + j.val, trip_col k j⟩)

/-- A scalar load of the block. -/
theorem leafc (o : Fin 2 → ℕ) (r : Fin 10) (j : Fin 8) (ho : o = ![r.val, 8 * k.val + j.val]) (inb) (hf) :
    View.readAt (Elt Ideal) a1.view (Rect.unit (s := S10x512) o S1x1.size inb).toLoadRect (h1.unread x1) (Shape.Idx.first hf)
      = cl x1 k j r := by
  subst ho
  refine (h1.readAt_unread _ _ _).trans ?_
  unfold cl
  congr 1
  funext a
  apply Fin.ext
  have h0 : ((Shape.Idx.first hf) 0).val = 0 := Nat.lt_one_iff.mp (Shape.Idx.first hf 0).isLt
  have h1 : ((Shape.Idx.first hf) 1).val = 0 := Nat.lt_one_iff.mp (Shape.Idx.first hf 1).isLt
  fin_cases a
  · change r.val + 1 * ((Shape.Idx.first hf) 0).val = r.val
    omega
  · change 8 * k.val + j.val + 1 * ((Shape.Idx.first hf) 1).val = 8 * k.val + j.val
    omega

theorem ld0_0 : trip_k1_t1.sl.r (F := Ideal) a1 (h1.unread x1) k = cl x1 k 0 0 := leafc a1 h1 x1 k _ 0 0 (k1_off1_eq k 0) _ _

theorem ld0_1 : trip_k1_t1.sl.r_1 (F := Ideal) a1 (h1.unread x1) k = cl x1 k 0 1 := leafc a1 h1 x1 k _ 1 0 (k1_off2_eq k 0) _ _

theorem ld0_2 : trip_k1_t1.sl.r_2 (F := Ideal) a1 (h1.unread x1) k = cl x1 k 0 2 := leafc a1 h1 x1 k _ 2 0 (k1_off3_eq k 0) _ _

theorem ld0_3 : trip_k1_t1.sl.r_3 (F := Ideal) a1 (h1.unread x1) k = cl x1 k 0 3 := leafc a1 h1 x1 k _ 3 0 (k1_off4_eq k 0) _ _

theorem ld0_4 : trip_k1_t1.sl.r_4 (F := Ideal) a1 (h1.unread x1) k = cl x1 k 0 4 := leafc a1 h1 x1 k _ 4 0 (k1_off5_eq k 0) _ _

theorem ld0_5 : trip_k1_t1.sl.r_5 (F := Ideal) a1 (h1.unread x1) k = cl x1 k 0 5 := leafc a1 h1 x1 k _ 5 0 (k1_off6_eq k 0) _ _

theorem ld0_6 : trip_k1_t1.sl.r_6 (F := Ideal) a1 (h1.unread x1) k = cl x1 k 0 6 := leafc a1 h1 x1 k _ 6 0 (k1_off7_eq k 0) _ _

theorem ld0_7 : trip_k1_t1.sl.r_7 (F := Ideal) a1 (h1.unread x1) k = cl x1 k 0 7 := leafc a1 h1 x1 k _ 7 0 (k1_off8_eq k 0) _ _

theorem ld0_8 : trip_k1_t1.sl.r_8 (F := Ideal) a1 (h1.unread x1) k = cl x1 k 0 8 := leafc a1 h1 x1 k _ 8 0 (k1_off9_eq k 0) _ _

theorem ld1_0 : trip_k1_t1.sl.r_9 (F := Ideal) a1 (h1.unread x1) k = cl x1 k 1 0 := leafc a1 h1 x1 k _ 0 1 (k1_off1_eq k 1) _ _

theorem ld1_1 : trip_k1_t1.sl.r_10 (F := Ideal) a1 (h1.unread x1) k = cl x1 k 1 1 := leafc a1 h1 x1 k _ 1 1 (k1_off2_eq k 1) _ _

theorem ld1_2 : trip_k1_t1.sl.r_11 (F := Ideal) a1 (h1.unread x1) k = cl x1 k 1 2 := leafc a1 h1 x1 k _ 2 1 (k1_off3_eq k 1) _ _

theorem ld1_3 : trip_k1_t1.sl.r_12 (F := Ideal) a1 (h1.unread x1) k = cl x1 k 1 3 := leafc a1 h1 x1 k _ 3 1 (k1_off4_eq k 1) _ _

theorem ld1_4 : trip_k1_t1.sl.r_13 (F := Ideal) a1 (h1.unread x1) k = cl x1 k 1 4 := leafc a1 h1 x1 k _ 4 1 (k1_off5_eq k 1) _ _

theorem ld1_5 : trip_k1_t1.sl.r_14 (F := Ideal) a1 (h1.unread x1) k = cl x1 k 1 5 := leafc a1 h1 x1 k _ 5 1 (k1_off6_eq k 1) _ _

theorem ld1_6 : trip_k1_t1.sl.r_15 (F := Ideal) a1 (h1.unread x1) k = cl x1 k 1 6 := leafc a1 h1 x1 k _ 6 1 (k1_off7_eq k 1) _ _

theorem ld1_7 : trip_k1_t1.sl.r_16 (F := Ideal) a1 (h1.unread x1) k = cl x1 k 1 7 := leafc a1 h1 x1 k _ 7 1 (k1_off8_eq k 1) _ _

theorem ld1_8 : trip_k1_t1.sl.r_17 (F := Ideal) a1 (h1.unread x1) k = cl x1 k 1 8 := leafc a1 h1 x1 k _ 8 1 (k1_off9_eq k 1) _ _

theorem ld2_0 : trip_k1_t1.sl.r_18 (F := Ideal) a1 (h1.unread x1) k = cl x1 k 2 0 := leafc a1 h1 x1 k _ 0 2 (k1_off1_eq k 2) _ _

theorem ld2_1 : trip_k1_t1.sl.r_19 (F := Ideal) a1 (h1.unread x1) k = cl x1 k 2 1 := leafc a1 h1 x1 k _ 1 2 (k1_off2_eq k 2) _ _

theorem ld2_2 : trip_k1_t1.sl.r_20 (F := Ideal) a1 (h1.unread x1) k = cl x1 k 2 2 := leafc a1 h1 x1 k _ 2 2 (k1_off3_eq k 2) _ _

theorem ld2_3 : trip_k1_t1.sl.r_21 (F := Ideal) a1 (h1.unread x1) k = cl x1 k 2 3 := leafc a1 h1 x1 k _ 3 2 (k1_off4_eq k 2) _ _

theorem ld2_4 : trip_k1_t1.sl.r_22 (F := Ideal) a1 (h1.unread x1) k = cl x1 k 2 4 := leafc a1 h1 x1 k _ 4 2 (k1_off5_eq k 2) _ _

theorem ld2_5 : trip_k1_t1.sl.r_23 (F := Ideal) a1 (h1.unread x1) k = cl x1 k 2 5 := leafc a1 h1 x1 k _ 5 2 (k1_off6_eq k 2) _ _

theorem ld2_6 : trip_k1_t1.sl.r_24 (F := Ideal) a1 (h1.unread x1) k = cl x1 k 2 6 := leafc a1 h1 x1 k _ 6 2 (k1_off7_eq k 2) _ _

theorem ld2_7 : trip_k1_t1.sl.r_25 (F := Ideal) a1 (h1.unread x1) k = cl x1 k 2 7 := leafc a1 h1 x1 k _ 7 2 (k1_off8_eq k 2) _ _

theorem ld2_8 : trip_k1_t1.sl.r_26 (F := Ideal) a1 (h1.unread x1) k = cl x1 k 2 8 := leafc a1 h1 x1 k _ 8 2 (k1_off9_eq k 2) _ _

theorem ld3_0 : trip_k1_t1.sl.r_27 (F := Ideal) a1 (h1.unread x1) k = cl x1 k 3 0 := leafc a1 h1 x1 k _ 0 3 (k1_off1_eq k 3) _ _

theorem ld3_1 : trip_k1_t1.sl.r_28 (F := Ideal) a1 (h1.unread x1) k = cl x1 k 3 1 := leafc a1 h1 x1 k _ 1 3 (k1_off2_eq k 3) _ _

theorem ld3_2 : trip_k1_t1.sl.r_29 (F := Ideal) a1 (h1.unread x1) k = cl x1 k 3 2 := leafc a1 h1 x1 k _ 2 3 (k1_off3_eq k 3) _ _

theorem ld3_3 : trip_k1_t1.sl.r_30 (F := Ideal) a1 (h1.unread x1) k = cl x1 k 3 3 := leafc a1 h1 x1 k _ 3 3 (k1_off4_eq k 3) _ _

theorem ld3_4 : trip_k1_t1.sl.r_31 (F := Ideal) a1 (h1.unread x1) k = cl x1 k 3 4 := leafc a1 h1 x1 k _ 4 3 (k1_off5_eq k 3) _ _

theorem ld3_5 : trip_k1_t1.sl.r_32 (F := Ideal) a1 (h1.unread x1) k = cl x1 k 3 5 := leafc a1 h1 x1 k _ 5 3 (k1_off6_eq k 3) _ _

theorem ld3_6 : trip_k1_t1.sl.r_33 (F := Ideal) a1 (h1.unread x1) k = cl x1 k 3 6 := leafc a1 h1 x1 k _ 6 3 (k1_off7_eq k 3) _ _

theorem ld3_7 : trip_k1_t1.sl.r_34 (F := Ideal) a1 (h1.unread x1) k = cl x1 k 3 7 := leafc a1 h1 x1 k _ 7 3 (k1_off8_eq k 3) _ _

theorem ld3_8 : trip_k1_t1.sl.r_35 (F := Ideal) a1 (h1.unread x1) k = cl x1 k 3 8 := leafc a1 h1 x1 k _ 8 3 (k1_off9_eq k 3) _ _

theorem ld4_0 : trip_k1_t1.sl.r_36 (F := Ideal) a1 (h1.unread x1) k = cl x1 k 4 0 := leafc a1 h1 x1 k _ 0 4 (k1_off1_eq k 4) _ _

theorem ld4_1 : trip_k1_t1.sl.r_37 (F := Ideal) a1 (h1.unread x1) k = cl x1 k 4 1 := leafc a1 h1 x1 k _ 1 4 (k1_off2_eq k 4) _ _

theorem ld4_2 : trip_k1_t1.sl.r_38 (F := Ideal) a1 (h1.unread x1) k = cl x1 k 4 2 := leafc a1 h1 x1 k _ 2 4 (k1_off3_eq k 4) _ _

theorem ld4_3 : trip_k1_t1.sl.r_39 (F := Ideal) a1 (h1.unread x1) k = cl x1 k 4 3 := leafc a1 h1 x1 k _ 3 4 (k1_off4_eq k 4) _ _

theorem ld4_4 : trip_k1_t1.sl.r_40 (F := Ideal) a1 (h1.unread x1) k = cl x1 k 4 4 := leafc a1 h1 x1 k _ 4 4 (k1_off5_eq k 4) _ _

theorem ld4_5 : trip_k1_t1.sl.r_41 (F := Ideal) a1 (h1.unread x1) k = cl x1 k 4 5 := leafc a1 h1 x1 k _ 5 4 (k1_off6_eq k 4) _ _

theorem ld4_6 : trip_k1_t1.sl.r_42 (F := Ideal) a1 (h1.unread x1) k = cl x1 k 4 6 := leafc a1 h1 x1 k _ 6 4 (k1_off7_eq k 4) _ _

theorem ld4_7 : trip_k1_t1.sl.r_43 (F := Ideal) a1 (h1.unread x1) k = cl x1 k 4 7 := leafc a1 h1 x1 k _ 7 4 (k1_off8_eq k 4) _ _

theorem ld4_8 : trip_k1_t1.sl.r_44 (F := Ideal) a1 (h1.unread x1) k = cl x1 k 4 8 := leafc a1 h1 x1 k _ 8 4 (k1_off9_eq k 4) _ _

theorem ld5_0 : trip_k1_t1.sl.r_45 (F := Ideal) a1 (h1.unread x1) k = cl x1 k 5 0 := leafc a1 h1 x1 k _ 0 5 (k1_off1_eq k 5) _ _

theorem ld5_1 : trip_k1_t1.sl.r_46 (F := Ideal) a1 (h1.unread x1) k = cl x1 k 5 1 := leafc a1 h1 x1 k _ 1 5 (k1_off2_eq k 5) _ _

theorem ld5_2 : trip_k1_t1.sl.r_47 (F := Ideal) a1 (h1.unread x1) k = cl x1 k 5 2 := leafc a1 h1 x1 k _ 2 5 (k1_off3_eq k 5) _ _

theorem ld5_3 : trip_k1_t1.sl.r_48 (F := Ideal) a1 (h1.unread x1) k = cl x1 k 5 3 := leafc a1 h1 x1 k _ 3 5 (k1_off4_eq k 5) _ _

theorem ld5_4 : trip_k1_t1.sl.r_49 (F := Ideal) a1 (h1.unread x1) k = cl x1 k 5 4 := leafc a1 h1 x1 k _ 4 5 (k1_off5_eq k 5) _ _

theorem ld5_5 : trip_k1_t1.sl.r_50 (F := Ideal) a1 (h1.unread x1) k = cl x1 k 5 5 := leafc a1 h1 x1 k _ 5 5 (k1_off6_eq k 5) _ _

theorem ld5_6 : trip_k1_t1.sl.r_51 (F := Ideal) a1 (h1.unread x1) k = cl x1 k 5 6 := leafc a1 h1 x1 k _ 6 5 (k1_off7_eq k 5) _ _

theorem ld5_7 : trip_k1_t1.sl.r_52 (F := Ideal) a1 (h1.unread x1) k = cl x1 k 5 7 := leafc a1 h1 x1 k _ 7 5 (k1_off8_eq k 5) _ _

theorem ld5_8 : trip_k1_t1.sl.r_53 (F := Ideal) a1 (h1.unread x1) k = cl x1 k 5 8 := leafc a1 h1 x1 k _ 8 5 (k1_off9_eq k 5) _ _

theorem ld6_0 : trip_k1_t1.sl.r_54 (F := Ideal) a1 (h1.unread x1) k = cl x1 k 6 0 := leafc a1 h1 x1 k _ 0 6 (k1_off1_eq k 6) _ _

theorem ld6_1 : trip_k1_t1.sl.r_55 (F := Ideal) a1 (h1.unread x1) k = cl x1 k 6 1 := leafc a1 h1 x1 k _ 1 6 (k1_off2_eq k 6) _ _

theorem ld6_2 : trip_k1_t1.sl.r_56 (F := Ideal) a1 (h1.unread x1) k = cl x1 k 6 2 := leafc a1 h1 x1 k _ 2 6 (k1_off3_eq k 6) _ _

theorem ld6_3 : trip_k1_t1.sl.r_57 (F := Ideal) a1 (h1.unread x1) k = cl x1 k 6 3 := leafc a1 h1 x1 k _ 3 6 (k1_off4_eq k 6) _ _

theorem ld6_4 : trip_k1_t1.sl.r_58 (F := Ideal) a1 (h1.unread x1) k = cl x1 k 6 4 := leafc a1 h1 x1 k _ 4 6 (k1_off5_eq k 6) _ _

theorem ld6_5 : trip_k1_t1.sl.r_59 (F := Ideal) a1 (h1.unread x1) k = cl x1 k 6 5 := leafc a1 h1 x1 k _ 5 6 (k1_off6_eq k 6) _ _

theorem ld6_6 : trip_k1_t1.sl.r_60 (F := Ideal) a1 (h1.unread x1) k = cl x1 k 6 6 := leafc a1 h1 x1 k _ 6 6 (k1_off7_eq k 6) _ _

theorem ld6_7 : trip_k1_t1.sl.r_61 (F := Ideal) a1 (h1.unread x1) k = cl x1 k 6 7 := leafc a1 h1 x1 k _ 7 6 (k1_off8_eq k 6) _ _

theorem ld6_8 : trip_k1_t1.sl.r_62 (F := Ideal) a1 (h1.unread x1) k = cl x1 k 6 8 := leafc a1 h1 x1 k _ 8 6 (k1_off9_eq k 6) _ _

theorem ld7_0 : trip_k1_t1.sl.r_63 (F := Ideal) a1 (h1.unread x1) k = cl x1 k 7 0 := leafc a1 h1 x1 k _ 0 7 (k1_off1_eq k 7) _ _

theorem ld7_1 : trip_k1_t1.sl.r_64 (F := Ideal) a1 (h1.unread x1) k = cl x1 k 7 1 := leafc a1 h1 x1 k _ 1 7 (k1_off2_eq k 7) _ _

theorem ld7_2 : trip_k1_t1.sl.r_65 (F := Ideal) a1 (h1.unread x1) k = cl x1 k 7 2 := leafc a1 h1 x1 k _ 2 7 (k1_off3_eq k 7) _ _

theorem ld7_3 : trip_k1_t1.sl.r_66 (F := Ideal) a1 (h1.unread x1) k = cl x1 k 7 3 := leafc a1 h1 x1 k _ 3 7 (k1_off4_eq k 7) _ _

theorem ld7_4 : trip_k1_t1.sl.r_67 (F := Ideal) a1 (h1.unread x1) k = cl x1 k 7 4 := leafc a1 h1 x1 k _ 4 7 (k1_off5_eq k 7) _ _

theorem ld7_5 : trip_k1_t1.sl.r_68 (F := Ideal) a1 (h1.unread x1) k = cl x1 k 7 5 := leafc a1 h1 x1 k _ 5 7 (k1_off6_eq k 7) _ _

theorem ld7_6 : trip_k1_t1.sl.r_69 (F := Ideal) a1 (h1.unread x1) k = cl x1 k 7 6 := leafc a1 h1 x1 k _ 6 7 (k1_off7_eq k 7) _ _

theorem ld7_7 : trip_k1_t1.sl.r_70 (F := Ideal) a1 (h1.unread x1) k = cl x1 k 7 7 := leafc a1 h1 x1 k _ 7 7 (k1_off8_eq k 7) _ _

theorem ld7_8 : trip_k1_t1.sl.r_71 (F := Ideal) a1 (h1.unread x1) k = cl x1 k 7 8 := leafc a1 h1 x1 k _ 8 7 (k1_off9_eq k 7) _ _

theorem wt0 : trip_k1_t1.sl.v119 (F := Ideal) a1 k1_pay55 k1_pay56 k1_pay57 k1_pay58 0#32 (h1.unread x1) k (ix2 s l) = wt (cl x1 k 0) (k1_pay55 (F := Ideal) (ix2 s l)) (yv (ix2 s l)) := by
  pointwise [trip_k1_t1.sl.v95, trip_k1_t1.sl.v96, trip_k1_t1.sl.v97, trip_k1_t1.sl.v98, trip_k1_t1.sl.v99, trip_k1_t1.sl.v100, trip_k1_t1.sl.v101, trip_k1_t1.sl.v102, trip_k1_t1.sl.v103, trip_k1_t1.sl.v104, trip_k1_t1.sl.v105, trip_k1_t1.sl.v106, trip_k1_t1.sl.v107, trip_k1_t1.sl.v108, trip_k1_t1.sl.v109, trip_k1_t1.sl.v110, trip_k1_t1.sl.v111, trip_k1_t1.sl.v112, trip_k1_t1.sl.v113, trip_k1_t1.sl.v114, trip_k1_t1.sl.v115, trip_k1_t1.sl.v116, trip_k1_t1.sl.v117, trip_k1_t1.sl.v119, trip_k1_t1.sl.cst, trip_k1_t1.sl.cst_41, trip_k1_t1.sl.cst_42]
  simp only [ld0_0 a1 h1 x1 k, ld0_1 a1 h1 x1 k, ld0_2 a1 h1 x1 k, ld0_3 a1 h1 x1 k, ld0_4 a1 h1 x1 k, ld0_5 a1 h1 x1 k]
  rfl

theorem wt1 : trip_k1_t1.sl.v174 (F := Ideal) a1 k1_pay55 k1_pay56 k1_pay57 k1_pay58 0#32 (h1.unread x1) k (ix2 s l) = wt (cl x1 k 1) (k1_pay55 (F := Ideal) (ix2 s l)) (yv (ix2 s l)) := by
  pointwise [trip_k1_t1.sl.v109, trip_k1_t1.sl.v114, trip_k1_t1.sl.v116, trip_k1_t1.sl.v150, trip_k1_t1.sl.v151, trip_k1_t1.sl.v152, trip_k1_t1.sl.v153, trip_k1_t1.sl.v154, trip_k1_t1.sl.v155, trip_k1_t1.sl.v156, trip_k1_t1.sl.v157, trip_k1_t1.sl.v158, trip_k1_t1.sl.v159, trip_k1_t1.sl.v160, trip_k1_t1.sl.v161, trip_k1_t1.sl.v162, trip_k1_t1.sl.v163, trip_k1_t1.sl.v165, trip_k1_t1.sl.v166, trip_k1_t1.sl.v167, trip_k1_t1.sl.v168, trip_k1_t1.sl.v170, trip_k1_t1.sl.v172, trip_k1_t1.sl.v174, trip_k1_t1.sl.cst, trip_k1_t1.sl.cst_41, trip_k1_t1.sl.cst_42]
  simp only [ld1_0 a1 h1 x1 k, ld1_1 a1 h1 x1 k, ld1_2 a1 h1 x1 k, ld1_3 a1 h1 x1 k, ld1_4 a1 h1 x1 k, ld1_5 a1 h1 x1 k]
  rfl

theorem wt2 : trip_k1_t1.sl.v229 (F := Ideal) a1 k1_pay55 k1_pay56 k1_pay57 k1_pay58 0#32 (h1.unread x1) k (ix2 s l) = wt (cl x1 k 2) (k1_pay55 (F := Ideal) (ix2 s l)) (yv (ix2 s l)) := by
  pointwise [trip_k1_t1.sl.v109, trip_k1_t1.sl.v114, trip_k1_t1.sl.v116, trip_k1_t1.sl.v205, trip_k1_t1.sl.v206, trip_k1_t1.sl.v207, trip_k1_t1.sl.v208, trip_k1_t1.sl.v209, trip_k1_t1.sl.v210, trip_k1_t1.sl.v211, trip_k1_t1.sl.v212, trip_k1_t1.sl.v213, trip_k1_t1.sl.v214, trip_k1_t1.sl.v215, trip_k1_t1.sl.v216, trip_k1_t1.sl.v217, trip_k1_t1.sl.v218, trip_k1_t1.sl.v220, trip_k1_t1.sl.v221, trip_k1_t1.sl.v222, trip_k1_t1.sl.v223, trip_k1_t1.sl.v225, trip_k1_t1.sl.v227, trip_k1_t1.sl.v229, trip_k1_t1.sl.cst, trip_k1_t1.sl.cst_41, trip_k1_t1.sl.cst_42]
  simp only [ld2_0 a1 h1 x1 k, ld2_1 a1 h1 x1 k, ld2_2 a1 h1 x1 k, ld2_3 a1 h1 x1 k, ld2_4 a1 h1 x1 k, ld2_5 a1 h1 x1 k]
  rfl

theorem wt3 : trip_k1_t1.sl.v284 (F := Ideal) a1 k1_pay55 k1_pay56 k1_pay57 k1_pay58 0#32 (h1.unread x1) k (ix2 s l) = wt (cl x1 k 3) (k1_pay55 (F := Ideal) (ix2 s l)) (yv (ix2 s l)) := by
  pointwise [trip_k1_t1.sl.v109, trip_k1_t1.sl.v114, trip_k1_t1.sl.v116, trip_k1_t1.sl.v260, trip_k1_t1.sl.v261, trip_k1_t1.sl.v262, trip_k1_t1.sl.v263, trip_k1_t1.sl.v264, trip_k1_t1.sl.v265, trip_k1_t1.sl.v266, trip_k1_t1.sl.v267, trip_k1_t1.sl.v268, trip_k1_t1.sl.v269, trip_k1_t1.sl.v270, trip_k1_t1.sl.v271, trip_k1_t1.sl.v272, trip_k1_t1.sl.v273, trip_k1_t1.sl.v275, trip_k1_t1.sl.v276, trip_k1_t1.sl.v277, trip_k1_t1.sl.v278, trip_k1_t1.sl.v280, trip_k1_t1.sl.v282, trip_k1_t1.sl.v284, trip_k1_t1.sl.cst, trip_k1_t1.sl.cst_41, trip_k1_t1.sl.cst_42]
  simp only [ld3_0 a1 h1 x1 k, ld3_1 a1 h1 x1 k, ld3_2 a1 h1 x1 k, ld3_3 a1 h1 x1 k, ld3_4 a1 h1 x1 k, ld3_5 a1 h1 x1 k]
  rfl

theorem wt4 : trip_k1_t1.sl.v339 (F := Ideal) a1 k1_pay55 k1_pay56 k1_pay57 k1_pay58 0#32 (h1.unread x1) k (ix2 s l) = wt (cl x1 k 4) (k1_pay55 (F := Ideal) (ix2 s l)) (yv (ix2 s l)) := by
  pointwise [trip_k1_t1.sl.v109, trip_k1_t1.sl.v114, trip_k1_t1.sl.v116, trip_k1_t1.sl.v315, trip_k1_t1.sl.v316, trip_k1_t1.sl.v317, trip_k1_t1.sl.v318, trip_k1_t1.sl.v319, trip_k1_t1.sl.v320, trip_k1_t1.sl.v321, trip_k1_t1.sl.v322, trip_k1_t1.sl.v323, trip_k1_t1.sl.v324, trip_k1_t1.sl.v325, trip_k1_t1.sl.v326, trip_k1_t1.sl.v327, trip_k1_t1.sl.v328, trip_k1_t1.sl.v330, trip_k1_t1.sl.v331, trip_k1_t1.sl.v332, trip_k1_t1.sl.v333, trip_k1_t1.sl.v335, trip_k1_t1.sl.v337, trip_k1_t1.sl.v339, trip_k1_t1.sl.cst, trip_k1_t1.sl.cst_41, trip_k1_t1.sl.cst_42]
  simp only [ld4_0 a1 h1 x1 k, ld4_1 a1 h1 x1 k, ld4_2 a1 h1 x1 k, ld4_3 a1 h1 x1 k, ld4_4 a1 h1 x1 k, ld4_5 a1 h1 x1 k]
  rfl

theorem wt5 : trip_k1_t1.sl.v394 (F := Ideal) a1 k1_pay55 k1_pay56 k1_pay57 k1_pay58 0#32 (h1.unread x1) k (ix2 s l) = wt (cl x1 k 5) (k1_pay55 (F := Ideal) (ix2 s l)) (yv (ix2 s l)) := by
  pointwise [trip_k1_t1.sl.v109, trip_k1_t1.sl.v114, trip_k1_t1.sl.v116, trip_k1_t1.sl.v370, trip_k1_t1.sl.v371, trip_k1_t1.sl.v372, trip_k1_t1.sl.v373, trip_k1_t1.sl.v374, trip_k1_t1.sl.v375, trip_k1_t1.sl.v376, trip_k1_t1.sl.v377, trip_k1_t1.sl.v378, trip_k1_t1.sl.v379, trip_k1_t1.sl.v380, trip_k1_t1.sl.v381, trip_k1_t1.sl.v382, trip_k1_t1.sl.v383, trip_k1_t1.sl.v385, trip_k1_t1.sl.v386, trip_k1_t1.sl.v387, trip_k1_t1.sl.v388, trip_k1_t1.sl.v390, trip_k1_t1.sl.v392, trip_k1_t1.sl.v394, trip_k1_t1.sl.cst, trip_k1_t1.sl.cst_41, trip_k1_t1.sl.cst_42]
  simp only [ld5_0 a1 h1 x1 k, ld5_1 a1 h1 x1 k, ld5_2 a1 h1 x1 k, ld5_3 a1 h1 x1 k, ld5_4 a1 h1 x1 k, ld5_5 a1 h1 x1 k]
  rfl

theorem wt6 : trip_k1_t1.sl.v449 (F := Ideal) a1 k1_pay55 k1_pay56 k1_pay57 k1_pay58 0#32 (h1.unread x1) k (ix2 s l) = wt (cl x1 k 6) (k1_pay55 (F := Ideal) (ix2 s l)) (yv (ix2 s l)) := by
  pointwise [trip_k1_t1.sl.v109, trip_k1_t1.sl.v114, trip_k1_t1.sl.v116, trip_k1_t1.sl.v425, trip_k1_t1.sl.v426, trip_k1_t1.sl.v427, trip_k1_t1.sl.v428, trip_k1_t1.sl.v429, trip_k1_t1.sl.v430, trip_k1_t1.sl.v431, trip_k1_t1.sl.v432, trip_k1_t1.sl.v433, trip_k1_t1.sl.v434, trip_k1_t1.sl.v435, trip_k1_t1.sl.v436, trip_k1_t1.sl.v437, trip_k1_t1.sl.v438, trip_k1_t1.sl.v440, trip_k1_t1.sl.v441, trip_k1_t1.sl.v442, trip_k1_t1.sl.v443, trip_k1_t1.sl.v445, trip_k1_t1.sl.v447, trip_k1_t1.sl.v449, trip_k1_t1.sl.cst, trip_k1_t1.sl.cst_41, trip_k1_t1.sl.cst_42]
  simp only [ld6_0 a1 h1 x1 k, ld6_1 a1 h1 x1 k, ld6_2 a1 h1 x1 k, ld6_3 a1 h1 x1 k, ld6_4 a1 h1 x1 k, ld6_5 a1 h1 x1 k]
  rfl

theorem wt7 : trip_k1_t1.sl.v500 (F := Ideal) a1 k1_pay55 k1_pay56 k1_pay57 k1_pay58 0#32 (h1.unread x1) k (ix2 s l) = raw (cl x1 k 7) (k1_pay55 (F := Ideal) (ix2 s l)) (yv (ix2 s l)) := by
  pointwise [trip_k1_t1.sl.v109, trip_k1_t1.sl.v114, trip_k1_t1.sl.v116, trip_k1_t1.sl.v480, trip_k1_t1.sl.v481, trip_k1_t1.sl.v482, trip_k1_t1.sl.v483, trip_k1_t1.sl.v484, trip_k1_t1.sl.v485, trip_k1_t1.sl.v486, trip_k1_t1.sl.v487, trip_k1_t1.sl.v488, trip_k1_t1.sl.v489, trip_k1_t1.sl.v490, trip_k1_t1.sl.v491, trip_k1_t1.sl.v492, trip_k1_t1.sl.v493, trip_k1_t1.sl.v495, trip_k1_t1.sl.v496, trip_k1_t1.sl.v497, trip_k1_t1.sl.v498, trip_k1_t1.sl.v500, trip_k1_t1.sl.cst, trip_k1_t1.sl.cst_41, trip_k1_t1.sl.cst_42]
  simp only [ld7_0 a1 h1 x1 k, ld7_1 a1 h1 x1 k, ld7_2 a1 h1 x1 k, ld7_3 a1 h1 x1 k, ld7_4 a1 h1 x1 k, ld7_5 a1 h1 x1 k]
  rfl

theorem st0_0 : trip_k1_t1.sl.v121 (F := Ideal) a1 k1_pay55 k1_pay56 k1_pay57 k1_pay58 0#32 (h1.unread x1) k acc (ix2 s l) = (step (cl x1 k 0) (k1_pay55 (F := Ideal) (ix2 s l)) (yv (ix2 s l)) (lane acc s l)).1 := by
  pointwise [trip_k1_t1.sl.v120, trip_k1_t1.sl.v121]
  simp only [wt0 a1 h1 x1 k s l]
  rfl

theorem st0_1 : trip_k1_t1.sl.v124 (F := Ideal) a1 k1_pay55 k1_pay56 k1_pay57 k1_pay58 0#32 (h1.unread x1) k acc (ix2 s l) = (step (cl x1 k 0) (k1_pay55 (F := Ideal) (ix2 s l)) (yv (ix2 s l)) (lane acc s l)).2.1 := by
  pointwise [trip_k1_t1.sl.v120, trip_k1_t1.sl.v124, trip_k1_t1.sl.v123, trip_k1_t1.sl.v122]
  simp only [wt0 a1 h1 x1 k s l, ld0_6 a1 h1 x1 k]
  rfl

theorem st0_2 : trip_k1_t1.sl.v127 (F := Ideal) a1 k1_pay55 k1_pay56 k1_pay57 k1_pay58 0#32 (h1.unread x1) k acc (ix2 s l) = (step (cl x1 k 0) (k1_pay55 (F := Ideal) (ix2 s l)) (yv (ix2 s l)) (lane acc s l)).2.2.1 := by
  pointwise [trip_k1_t1.sl.v120, trip_k1_t1.sl.v127, trip_k1_t1.sl.v126, trip_k1_t1.sl.v125]
  simp only [wt0 a1 h1 x1 k s l, ld0_7 a1 h1 x1 k]
  rfl

theorem st0_3 : trip_k1_t1.sl.v130 (F := Ideal) a1 k1_pay55 k1_pay56 k1_pay57 k1_pay58 0#32 (h1.unread x1) k acc (ix2 s l) = (step (cl x1 k 0) (k1_pay55 (F := Ideal) (ix2 s l)) (yv (ix2 s l)) (lane acc s l)).2.2.2 := by
  pointwise [trip_k1_t1.sl.v120, trip_k1_t1.sl.v130, trip_k1_t1.sl.v129, trip_k1_t1.sl.v128]
  simp only [wt0 a1 h1 x1 k s l, ld0_8 a1 h1 x1 k]
  rfl

theorem st1_0 : trip_k1_t1.sl.v176 (F := Ideal) a1 k1_pay55 k1_pay56 k1_pay57 k1_pay58 0#32 (h1.unread x1) k acc (ix2 s l) = (step (cl x1 k 1) (k1_pay55 (F := Ideal) (ix2 s l)) (yv (ix2 s l)) (lane (trip_k1_t1.sl.v121 (F := Ideal) a1 k1_pay55 k1_pay56 k1_pay57 k1_pay58 0#32 (h1.unread x1) k acc, trip_k1_t1.sl.v124 (F := Ideal) a1 k1_pay55 k1_pay56 k1_pay57 k1_pay58 0#32 (h1.unread x1) k acc, trip_k1_t1.sl.v127 (F := Ideal) a1 k1_pay55 k1_pay56 k1_pay57 k1_pay58 0#32 (h1.unread x1) k acc, trip_k1_t1.sl.v130 (F := Ideal) a1 k1_pay55 k1_pay56 k1_pay57 k1_pay58 0#32 (h1.unread x1) k acc) s l)).1 := by
  pointwise [trip_k1_t1.sl.v175, trip_k1_t1.sl.v176]
  simp only [wt1 a1 h1 x1 k s l]
  rfl

theorem st1_1 : trip_k1_t1.sl.v179 (F := Ideal) a1 k1_pay55 k1_pay56 k1_pay57 k1_pay58 0#32 (h1.unread x1) k acc (ix2 s l) = (step (cl x1 k 1) (k1_pay55 (F := Ideal) (ix2 s l)) (yv (ix2 s l)) (lane (trip_k1_t1.sl.v121 (F := Ideal) a1 k1_pay55 k1_pay56 k1_pay57 k1_pay58 0#32 (h1.unread x1) k acc, trip_k1_t1.sl.v124 (F := Ideal) a1 k1_pay55 k1_pay56 k1_pay57 k1_pay58 0#32 (h1.unread x1) k acc, trip_k1_t1.sl.v127 (F := Ideal) a1 k1_pay55 k1_pay56 k1_pay57 k1_pay58 0#32 (h1.unread x1) k acc, trip_k1_t1.sl.v130 (F := Ideal) a1 k1_pay55 k1_pay56 k1_pay57 k1_pay58 0#32 (h1.unread x1) k acc) s l)).2.1 := by
  pointwise [trip_k1_t1.sl.v175, trip_k1_t1.sl.v179, trip_k1_t1.sl.v178, trip_k1_t1.sl.v177]
  simp only [wt1 a1 h1 x1 k s l, ld1_6 a1 h1 x1 k]
  rfl

theorem st1_2 : trip_k1_t1.sl.v182 (F := Ideal) a1 k1_pay55 k1_pay56 k1_pay57 k1_pay58 0#32 (h1.unread x1) k acc (ix2 s l) = (step (cl x1 k 1) (k1_pay55 (F := Ideal) (ix2 s l)) (yv (ix2 s l)) (lane (trip_k1_t1.sl.v121 (F := Ideal) a1 k1_pay55 k1_pay56 k1_pay57 k1_pay58 0#32 (h1.unread x1) k acc, trip_k1_t1.sl.v124 (F := Ideal) a1 k1_pay55 k1_pay56 k1_pay57 k1_pay58 0#32 (h1.unread x1) k acc, trip_k1_t1.sl.v127 (F := Ideal) a1 k1_pay55 k1_pay56 k1_pay57 k1_pay58 0#32 (h1.unread x1) k acc, trip_k1_t1.sl.v130 (F := Ideal) a1 k1_pay55 k1_pay56 k1_pay57 k1_pay58 0#32 (h1.unread x1) k acc) s l)).2.2.1 := by
  pointwise [trip_k1_t1.sl.v175, trip_k1_t1.sl.v182, trip_k1_t1.sl.v181, trip_k1_t1.sl.v180]
  simp only [wt1 a1 h1 x1 k s l, ld1_7 a1 h1 x1 k]
  rfl

theorem st1_3 : trip_k1_t1.sl.v185 (F := Ideal) a1 k1_pay55 k1_pay56 k1_pay57 k1_pay58 0#32 (h1.unread x1) k acc (ix2 s l) = (step (cl x1 k 1) (k1_pay55 (F := Ideal) (ix2 s l)) (yv (ix2 s l)) (lane (trip_k1_t1.sl.v121 (F := Ideal) a1 k1_pay55 k1_pay56 k1_pay57 k1_pay58 0#32 (h1.unread x1) k acc, trip_k1_t1.sl.v124 (F := Ideal) a1 k1_pay55 k1_pay56 k1_pay57 k1_pay58 0#32 (h1.unread x1) k acc, trip_k1_t1.sl.v127 (F := Ideal) a1 k1_pay55 k1_pay56 k1_pay57 k1_pay58 0#32 (h1.unread x1) k acc, trip_k1_t1.sl.v130 (F := Ideal) a1 k1_pay55 k1_pay56 k1_pay57 k1_pay58 0#32 (h1.unread x1) k acc) s l)).2.2.2 := by
  pointwise [trip_k1_t1.sl.v175, trip_k1_t1.sl.v185, trip_k1_t1.sl.v184, trip_k1_t1.sl.v183]
  simp only [wt1 a1 h1 x1 k s l, ld1_8 a1 h1 x1 k]
  rfl

theorem st2_0 : trip_k1_t1.sl.v231 (F := Ideal) a1 k1_pay55 k1_pay56 k1_pay57 k1_pay58 0#32 (h1.unread x1) k acc (ix2 s l) = (step (cl x1 k 2) (k1_pay55 (F := Ideal) (ix2 s l)) (yv (ix2 s l)) (lane (trip_k1_t1.sl.v176 (F := Ideal) a1 k1_pay55 k1_pay56 k1_pay57 k1_pay58 0#32 (h1.unread x1) k acc, trip_k1_t1.sl.v179 (F := Ideal) a1 k1_pay55 k1_pay56 k1_pay57 k1_pay58 0#32 (h1.unread x1) k acc, trip_k1_t1.sl.v182 (F := Ideal) a1 k1_pay55 k1_pay56 k1_pay57 k1_pay58 0#32 (h1.unread x1) k acc, trip_k1_t1.sl.v185 (F := Ideal) a1 k1_pay55 k1_pay56 k1_pay57 k1_pay58 0#32 (h1.unread x1) k acc) s l)).1 := by
  pointwise [trip_k1_t1.sl.v230, trip_k1_t1.sl.v231]
  simp only [wt2 a1 h1 x1 k s l]
  rfl

theorem st2_1 : trip_k1_t1.sl.v234 (F := Ideal) a1 k1_pay55 k1_pay56 k1_pay57 k1_pay58 0#32 (h1.unread x1) k acc (ix2 s l) = (step (cl x1 k 2) (k1_pay55 (F := Ideal) (ix2 s l)) (yv (ix2 s l)) (lane (trip_k1_t1.sl.v176 (F := Ideal) a1 k1_pay55 k1_pay56 k1_pay57 k1_pay58 0#32 (h1.unread x1) k acc, trip_k1_t1.sl.v179 (F := Ideal) a1 k1_pay55 k1_pay56 k1_pay57 k1_pay58 0#32 (h1.unread x1) k acc, trip_k1_t1.sl.v182 (F := Ideal) a1 k1_pay55 k1_pay56 k1_pay57 k1_pay58 0#32 (h1.unread x1) k acc, trip_k1_t1.sl.v185 (F := Ideal) a1 k1_pay55 k1_pay56 k1_pay57 k1_pay58 0#32 (h1.unread x1) k acc) s l)).2.1 := by
  pointwise [trip_k1_t1.sl.v230, trip_k1_t1.sl.v234, trip_k1_t1.sl.v233, trip_k1_t1.sl.v232]
  simp only [wt2 a1 h1 x1 k s l, ld2_6 a1 h1 x1 k]
  rfl

theorem st2_2 : trip_k1_t1.sl.v237 (F := Ideal) a1 k1_pay55 k1_pay56 k1_pay57 k1_pay58 0#32 (h1.unread x1) k acc (ix2 s l) = (step (cl x1 k 2) (k1_pay55 (F := Ideal) (ix2 s l)) (yv (ix2 s l)) (lane (trip_k1_t1.sl.v176 (F := Ideal) a1 k1_pay55 k1_pay56 k1_pay57 k1_pay58 0#32 (h1.unread x1) k acc, trip_k1_t1.sl.v179 (F := Ideal) a1 k1_pay55 k1_pay56 k1_pay57 k1_pay58 0#32 (h1.unread x1) k acc, trip_k1_t1.sl.v182 (F := Ideal) a1 k1_pay55 k1_pay56 k1_pay57 k1_pay58 0#32 (h1.unread x1) k acc, trip_k1_t1.sl.v185 (F := Ideal) a1 k1_pay55 k1_pay56 k1_pay57 k1_pay58 0#32 (h1.unread x1) k acc) s l)).2.2.1 := by
  pointwise [trip_k1_t1.sl.v230, trip_k1_t1.sl.v237, trip_k1_t1.sl.v236, trip_k1_t1.sl.v235]
  simp only [wt2 a1 h1 x1 k s l, ld2_7 a1 h1 x1 k]
  rfl

theorem st2_3 : trip_k1_t1.sl.v240 (F := Ideal) a1 k1_pay55 k1_pay56 k1_pay57 k1_pay58 0#32 (h1.unread x1) k acc (ix2 s l) = (step (cl x1 k 2) (k1_pay55 (F := Ideal) (ix2 s l)) (yv (ix2 s l)) (lane (trip_k1_t1.sl.v176 (F := Ideal) a1 k1_pay55 k1_pay56 k1_pay57 k1_pay58 0#32 (h1.unread x1) k acc, trip_k1_t1.sl.v179 (F := Ideal) a1 k1_pay55 k1_pay56 k1_pay57 k1_pay58 0#32 (h1.unread x1) k acc, trip_k1_t1.sl.v182 (F := Ideal) a1 k1_pay55 k1_pay56 k1_pay57 k1_pay58 0#32 (h1.unread x1) k acc, trip_k1_t1.sl.v185 (F := Ideal) a1 k1_pay55 k1_pay56 k1_pay57 k1_pay58 0#32 (h1.unread x1) k acc) s l)).2.2.2 := by
  pointwise [trip_k1_t1.sl.v230, trip_k1_t1.sl.v240, trip_k1_t1.sl.v239, trip_k1_t1.sl.v238]
  simp only [wt2 a1 h1 x1 k s l, ld2_8 a1 h1 x1 k]
  rfl

theorem st3_0 : trip_k1_t1.sl.v286 (F := Ideal) a1 k1_pay55 k1_pay56 k1_pay57 k1_pay58 0#32 (h1.unread x1) k acc (ix2 s l) = (step (cl x1 k 3) (k1_pay55 (F := Ideal) (ix2 s l)) (yv (ix2 s l)) (lane (trip_k1_t1.sl.v231 (F := Ideal) a1 k1_pay55 k1_pay56 k1_pay57 k1_pay58 0#32 (h1.unread x1) k acc, trip_k1_t1.sl.v234 (F := Ideal) a1 k1_pay55 k1_pay56 k1_pay57 k1_pay58 0#32 (h1.unread x1) k acc, trip_k1_t1.sl.v237 (F := Ideal) a1 k1_pay55 k1_pay56 k1_pay57 k1_pay58 0#32 (h1.unread x1) k acc, trip_k1_t1.sl.v240 (F := Ideal) a1 k1_pay55 k1_pay56 k1_pay57 k1_pay58 0#32 (h1.unread x1) k acc) s l)).1 := by
  pointwise [trip_k1_t1.sl.v285, trip_k1_t1.sl.v286]
  simp only [wt3 a1 h1 x1 k s l]
  rfl

theorem st3_1 : trip_k1_t1.sl.v289 (F := Ideal) a1 k1_pay55 k1_pay56 k1_pay57 k1_pay58 0#32 (h1.unread x1) k acc (ix2 s l) = (step (cl x1 k 3) (k1_pay55 (F := Ideal) (ix2 s l)) (yv (ix2 s l)) (lane (trip_k1_t1.sl.v231 (F := Ideal) a1 k1_pay55 k1_pay56 k1_pay57 k1_pay58 0#32 (h1.unread x1) k acc, trip_k1_t1.sl.v234 (F := Ideal) a1 k1_pay55 k1_pay56 k1_pay57 k1_pay58 0#32 (h1.unread x1) k acc, trip_k1_t1.sl.v237 (F := Ideal) a1 k1_pay55 k1_pay56 k1_pay57 k1_pay58 0#32 (h1.unread x1) k acc, trip_k1_t1.sl.v240 (F := Ideal) a1 k1_pay55 k1_pay56 k1_pay57 k1_pay58 0#32 (h1.unread x1) k acc) s l)).2.1 := by
  pointwise [trip_k1_t1.sl.v285, trip_k1_t1.sl.v289, trip_k1_t1.sl.v288, trip_k1_t1.sl.v287]
  simp only [wt3 a1 h1 x1 k s l, ld3_6 a1 h1 x1 k]
  rfl

theorem st3_2 : trip_k1_t1.sl.v292 (F := Ideal) a1 k1_pay55 k1_pay56 k1_pay57 k1_pay58 0#32 (h1.unread x1) k acc (ix2 s l) = (step (cl x1 k 3) (k1_pay55 (F := Ideal) (ix2 s l)) (yv (ix2 s l)) (lane (trip_k1_t1.sl.v231 (F := Ideal) a1 k1_pay55 k1_pay56 k1_pay57 k1_pay58 0#32 (h1.unread x1) k acc, trip_k1_t1.sl.v234 (F := Ideal) a1 k1_pay55 k1_pay56 k1_pay57 k1_pay58 0#32 (h1.unread x1) k acc, trip_k1_t1.sl.v237 (F := Ideal) a1 k1_pay55 k1_pay56 k1_pay57 k1_pay58 0#32 (h1.unread x1) k acc, trip_k1_t1.sl.v240 (F := Ideal) a1 k1_pay55 k1_pay56 k1_pay57 k1_pay58 0#32 (h1.unread x1) k acc) s l)).2.2.1 := by
  pointwise [trip_k1_t1.sl.v285, trip_k1_t1.sl.v292, trip_k1_t1.sl.v291, trip_k1_t1.sl.v290]
  simp only [wt3 a1 h1 x1 k s l, ld3_7 a1 h1 x1 k]
  rfl

theorem st3_3 : trip_k1_t1.sl.v295 (F := Ideal) a1 k1_pay55 k1_pay56 k1_pay57 k1_pay58 0#32 (h1.unread x1) k acc (ix2 s l) = (step (cl x1 k 3) (k1_pay55 (F := Ideal) (ix2 s l)) (yv (ix2 s l)) (lane (trip_k1_t1.sl.v231 (F := Ideal) a1 k1_pay55 k1_pay56 k1_pay57 k1_pay58 0#32 (h1.unread x1) k acc, trip_k1_t1.sl.v234 (F := Ideal) a1 k1_pay55 k1_pay56 k1_pay57 k1_pay58 0#32 (h1.unread x1) k acc, trip_k1_t1.sl.v237 (F := Ideal) a1 k1_pay55 k1_pay56 k1_pay57 k1_pay58 0#32 (h1.unread x1) k acc, trip_k1_t1.sl.v240 (F := Ideal) a1 k1_pay55 k1_pay56 k1_pay57 k1_pay58 0#32 (h1.unread x1) k acc) s l)).2.2.2 := by
  pointwise [trip_k1_t1.sl.v285, trip_k1_t1.sl.v295, trip_k1_t1.sl.v294, trip_k1_t1.sl.v293]
  simp only [wt3 a1 h1 x1 k s l, ld3_8 a1 h1 x1 k]
  rfl

theorem st4_0 : trip_k1_t1.sl.v341 (F := Ideal) a1 k1_pay55 k1_pay56 k1_pay57 k1_pay58 0#32 (h1.unread x1) k acc (ix2 s l) = (step (cl x1 k 4) (k1_pay55 (F := Ideal) (ix2 s l)) (yv (ix2 s l)) (lane (trip_k1_t1.sl.v286 (F := Ideal) a1 k1_pay55 k1_pay56 k1_pay57 k1_pay58 0#32 (h1.unread x1) k acc, trip_k1_t1.sl.v289 (F := Ideal) a1 k1_pay55 k1_pay56 k1_pay57 k1_pay58 0#32 (h1.unread x1) k acc, trip_k1_t1.sl.v292 (F := Ideal) a1 k1_pay55 k1_pay56 k1_pay57 k1_pay58 0#32 (h1.unread x1) k acc, trip_k1_t1.sl.v295 (F := Ideal) a1 k1_pay55 k1_pay56 k1_pay57 k1_pay58 0#32 (h1.unread x1) k acc) s l)).1 := by
  pointwise [trip_k1_t1.sl.v340, trip_k1_t1.sl.v341]
  simp only [wt4 a1 h1 x1 k s l]
  rfl

theorem st4_1 : trip_k1_t1.sl.v344 (F := Ideal) a1 k1_pay55 k1_pay56 k1_pay57 k1_pay58 0#32 (h1.unread x1) k acc (ix2 s l) = (step (cl x1 k 4) (k1_pay55 (F := Ideal) (ix2 s l)) (yv (ix2 s l)) (lane (trip_k1_t1.sl.v286 (F := Ideal) a1 k1_pay55 k1_pay56 k1_pay57 k1_pay58 0#32 (h1.unread x1) k acc, trip_k1_t1.sl.v289 (F := Ideal) a1 k1_pay55 k1_pay56 k1_pay57 k1_pay58 0#32 (h1.unread x1) k acc, trip_k1_t1.sl.v292 (F := Ideal) a1 k1_pay55 k1_pay56 k1_pay57 k1_pay58 0#32 (h1.unread x1) k acc, trip_k1_t1.sl.v295 (F := Ideal) a1 k1_pay55 k1_pay56 k1_pay57 k1_pay58 0#32 (h1.unread x1) k acc) s l)).2.1 := by
  pointwise [trip_k1_t1.sl.v340, trip_k1_t1.sl.v344, trip_k1_t1.sl.v343, trip_k1_t1.sl.v342]
  simp only [wt4 a1 h1 x1 k s l, ld4_6 a1 h1 x1 k]
  rfl

theorem st4_2 : trip_k1_t1.sl.v347 (F := Ideal) a1 k1_pay55 k1_pay56 k1_pay57 k1_pay58 0#32 (h1.unread x1) k acc (ix2 s l) = (step (cl x1 k 4) (k1_pay55 (F := Ideal) (ix2 s l)) (yv (ix2 s l)) (lane (trip_k1_t1.sl.v286 (F := Ideal) a1 k1_pay55 k1_pay56 k1_pay57 k1_pay58 0#32 (h1.unread x1) k acc, trip_k1_t1.sl.v289 (F := Ideal) a1 k1_pay55 k1_pay56 k1_pay57 k1_pay58 0#32 (h1.unread x1) k acc, trip_k1_t1.sl.v292 (F := Ideal) a1 k1_pay55 k1_pay56 k1_pay57 k1_pay58 0#32 (h1.unread x1) k acc, trip_k1_t1.sl.v295 (F := Ideal) a1 k1_pay55 k1_pay56 k1_pay57 k1_pay58 0#32 (h1.unread x1) k acc) s l)).2.2.1 := by
  pointwise [trip_k1_t1.sl.v340, trip_k1_t1.sl.v347, trip_k1_t1.sl.v346, trip_k1_t1.sl.v345]
  simp only [wt4 a1 h1 x1 k s l, ld4_7 a1 h1 x1 k]
  rfl

theorem st4_3 : trip_k1_t1.sl.v350 (F := Ideal) a1 k1_pay55 k1_pay56 k1_pay57 k1_pay58 0#32 (h1.unread x1) k acc (ix2 s l) = (step (cl x1 k 4) (k1_pay55 (F := Ideal) (ix2 s l)) (yv (ix2 s l)) (lane (trip_k1_t1.sl.v286 (F := Ideal) a1 k1_pay55 k1_pay56 k1_pay57 k1_pay58 0#32 (h1.unread x1) k acc, trip_k1_t1.sl.v289 (F := Ideal) a1 k1_pay55 k1_pay56 k1_pay57 k1_pay58 0#32 (h1.unread x1) k acc, trip_k1_t1.sl.v292 (F := Ideal) a1 k1_pay55 k1_pay56 k1_pay57 k1_pay58 0#32 (h1.unread x1) k acc, trip_k1_t1.sl.v295 (F := Ideal) a1 k1_pay55 k1_pay56 k1_pay57 k1_pay58 0#32 (h1.unread x1) k acc) s l)).2.2.2 := by
  pointwise [trip_k1_t1.sl.v340, trip_k1_t1.sl.v350, trip_k1_t1.sl.v349, trip_k1_t1.sl.v348]
  simp only [wt4 a1 h1 x1 k s l, ld4_8 a1 h1 x1 k]
  rfl

theorem st5_0 : trip_k1_t1.sl.v396 (F := Ideal) a1 k1_pay55 k1_pay56 k1_pay57 k1_pay58 0#32 (h1.unread x1) k acc (ix2 s l) = (step (cl x1 k 5) (k1_pay55 (F := Ideal) (ix2 s l)) (yv (ix2 s l)) (lane (trip_k1_t1.sl.v341 (F := Ideal) a1 k1_pay55 k1_pay56 k1_pay57 k1_pay58 0#32 (h1.unread x1) k acc, trip_k1_t1.sl.v344 (F := Ideal) a1 k1_pay55 k1_pay56 k1_pay57 k1_pay58 0#32 (h1.unread x1) k acc, trip_k1_t1.sl.v347 (F := Ideal) a1 k1_pay55 k1_pay56 k1_pay57 k1_pay58 0#32 (h1.unread x1) k acc, trip_k1_t1.sl.v350 (F := Ideal) a1 k1_pay55 k1_pay56 k1_pay57 k1_pay58 0#32 (h1.unread x1) k acc) s l)).1 := by
  pointwise [trip_k1_t1.sl.v395, trip_k1_t1.sl.v396]
  simp only [wt5 a1 h1 x1 k s l]
  rfl

theorem st5_1 : trip_k1_t1.sl.v399 (F := Ideal) a1 k1_pay55 k1_pay56 k1_pay57 k1_pay58 0#32 (h1.unread x1) k acc (ix2 s l) = (step (cl x1 k 5) (k1_pay55 (F := Ideal) (ix2 s l)) (yv (ix2 s l)) (lane (trip_k1_t1.sl.v341 (F := Ideal) a1 k1_pay55 k1_pay56 k1_pay57 k1_pay58 0#32 (h1.unread x1) k acc, trip_k1_t1.sl.v344 (F := Ideal) a1 k1_pay55 k1_pay56 k1_pay57 k1_pay58 0#32 (h1.unread x1) k acc, trip_k1_t1.sl.v347 (F := Ideal) a1 k1_pay55 k1_pay56 k1_pay57 k1_pay58 0#32 (h1.unread x1) k acc, trip_k1_t1.sl.v350 (F := Ideal) a1 k1_pay55 k1_pay56 k1_pay57 k1_pay58 0#32 (h1.unread x1) k acc) s l)).2.1 := by
  pointwise [trip_k1_t1.sl.v395, trip_k1_t1.sl.v399, trip_k1_t1.sl.v398, trip_k1_t1.sl.v397]
  simp only [wt5 a1 h1 x1 k s l, ld5_6 a1 h1 x1 k]
  rfl

theorem st5_2 : trip_k1_t1.sl.v402 (F := Ideal) a1 k1_pay55 k1_pay56 k1_pay57 k1_pay58 0#32 (h1.unread x1) k acc (ix2 s l) = (step (cl x1 k 5) (k1_pay55 (F := Ideal) (ix2 s l)) (yv (ix2 s l)) (lane (trip_k1_t1.sl.v341 (F := Ideal) a1 k1_pay55 k1_pay56 k1_pay57 k1_pay58 0#32 (h1.unread x1) k acc, trip_k1_t1.sl.v344 (F := Ideal) a1 k1_pay55 k1_pay56 k1_pay57 k1_pay58 0#32 (h1.unread x1) k acc, trip_k1_t1.sl.v347 (F := Ideal) a1 k1_pay55 k1_pay56 k1_pay57 k1_pay58 0#32 (h1.unread x1) k acc, trip_k1_t1.sl.v350 (F := Ideal) a1 k1_pay55 k1_pay56 k1_pay57 k1_pay58 0#32 (h1.unread x1) k acc) s l)).2.2.1 := by
  pointwise [trip_k1_t1.sl.v395, trip_k1_t1.sl.v402, trip_k1_t1.sl.v401, trip_k1_t1.sl.v400]
  simp only [wt5 a1 h1 x1 k s l, ld5_7 a1 h1 x1 k]
  rfl

theorem st5_3 : trip_k1_t1.sl.v405 (F := Ideal) a1 k1_pay55 k1_pay56 k1_pay57 k1_pay58 0#32 (h1.unread x1) k acc (ix2 s l) = (step (cl x1 k 5) (k1_pay55 (F := Ideal) (ix2 s l)) (yv (ix2 s l)) (lane (trip_k1_t1.sl.v341 (F := Ideal) a1 k1_pay55 k1_pay56 k1_pay57 k1_pay58 0#32 (h1.unread x1) k acc, trip_k1_t1.sl.v344 (F := Ideal) a1 k1_pay55 k1_pay56 k1_pay57 k1_pay58 0#32 (h1.unread x1) k acc, trip_k1_t1.sl.v347 (F := Ideal) a1 k1_pay55 k1_pay56 k1_pay57 k1_pay58 0#32 (h1.unread x1) k acc, trip_k1_t1.sl.v350 (F := Ideal) a1 k1_pay55 k1_pay56 k1_pay57 k1_pay58 0#32 (h1.unread x1) k acc) s l)).2.2.2 := by
  pointwise [trip_k1_t1.sl.v395, trip_k1_t1.sl.v405, trip_k1_t1.sl.v404, trip_k1_t1.sl.v403]
  simp only [wt5 a1 h1 x1 k s l, ld5_8 a1 h1 x1 k]
  rfl

theorem st6_0 : trip_k1_t1.sl.v451 (F := Ideal) a1 k1_pay55 k1_pay56 k1_pay57 k1_pay58 0#32 (h1.unread x1) k acc (ix2 s l) = (step (cl x1 k 6) (k1_pay55 (F := Ideal) (ix2 s l)) (yv (ix2 s l)) (lane (trip_k1_t1.sl.v396 (F := Ideal) a1 k1_pay55 k1_pay56 k1_pay57 k1_pay58 0#32 (h1.unread x1) k acc, trip_k1_t1.sl.v399 (F := Ideal) a1 k1_pay55 k1_pay56 k1_pay57 k1_pay58 0#32 (h1.unread x1) k acc, trip_k1_t1.sl.v402 (F := Ideal) a1 k1_pay55 k1_pay56 k1_pay57 k1_pay58 0#32 (h1.unread x1) k acc, trip_k1_t1.sl.v405 (F := Ideal) a1 k1_pay55 k1_pay56 k1_pay57 k1_pay58 0#32 (h1.unread x1) k acc) s l)).1 := by
  pointwise [trip_k1_t1.sl.v450, trip_k1_t1.sl.v451]
  simp only [wt6 a1 h1 x1 k s l]
  rfl

theorem st6_1 : trip_k1_t1.sl.v454 (F := Ideal) a1 k1_pay55 k1_pay56 k1_pay57 k1_pay58 0#32 (h1.unread x1) k acc (ix2 s l) = (step (cl x1 k 6) (k1_pay55 (F := Ideal) (ix2 s l)) (yv (ix2 s l)) (lane (trip_k1_t1.sl.v396 (F := Ideal) a1 k1_pay55 k1_pay56 k1_pay57 k1_pay58 0#32 (h1.unread x1) k acc, trip_k1_t1.sl.v399 (F := Ideal) a1 k1_pay55 k1_pay56 k1_pay57 k1_pay58 0#32 (h1.unread x1) k acc, trip_k1_t1.sl.v402 (F := Ideal) a1 k1_pay55 k1_pay56 k1_pay57 k1_pay58 0#32 (h1.unread x1) k acc, trip_k1_t1.sl.v405 (F := Ideal) a1 k1_pay55 k1_pay56 k1_pay57 k1_pay58 0#32 (h1.unread x1) k acc) s l)).2.1 := by
  pointwise [trip_k1_t1.sl.v450, trip_k1_t1.sl.v454, trip_k1_t1.sl.v453, trip_k1_t1.sl.v452]
  simp only [wt6 a1 h1 x1 k s l, ld6_6 a1 h1 x1 k]
  rfl

theorem st6_2 : trip_k1_t1.sl.v457 (F := Ideal) a1 k1_pay55 k1_pay56 k1_pay57 k1_pay58 0#32 (h1.unread x1) k acc (ix2 s l) = (step (cl x1 k 6) (k1_pay55 (F := Ideal) (ix2 s l)) (yv (ix2 s l)) (lane (trip_k1_t1.sl.v396 (F := Ideal) a1 k1_pay55 k1_pay56 k1_pay57 k1_pay58 0#32 (h1.unread x1) k acc, trip_k1_t1.sl.v399 (F := Ideal) a1 k1_pay55 k1_pay56 k1_pay57 k1_pay58 0#32 (h1.unread x1) k acc, trip_k1_t1.sl.v402 (F := Ideal) a1 k1_pay55 k1_pay56 k1_pay57 k1_pay58 0#32 (h1.unread x1) k acc, trip_k1_t1.sl.v405 (F := Ideal) a1 k1_pay55 k1_pay56 k1_pay57 k1_pay58 0#32 (h1.unread x1) k acc) s l)).2.2.1 := by
  pointwise [trip_k1_t1.sl.v450, trip_k1_t1.sl.v457, trip_k1_t1.sl.v456, trip_k1_t1.sl.v455]
  simp only [wt6 a1 h1 x1 k s l, ld6_7 a1 h1 x1 k]
  rfl

theorem st6_3 : trip_k1_t1.sl.v460 (F := Ideal) a1 k1_pay55 k1_pay56 k1_pay57 k1_pay58 0#32 (h1.unread x1) k acc (ix2 s l) = (step (cl x1 k 6) (k1_pay55 (F := Ideal) (ix2 s l)) (yv (ix2 s l)) (lane (trip_k1_t1.sl.v396 (F := Ideal) a1 k1_pay55 k1_pay56 k1_pay57 k1_pay58 0#32 (h1.unread x1) k acc, trip_k1_t1.sl.v399 (F := Ideal) a1 k1_pay55 k1_pay56 k1_pay57 k1_pay58 0#32 (h1.unread x1) k acc, trip_k1_t1.sl.v402 (F := Ideal) a1 k1_pay55 k1_pay56 k1_pay57 k1_pay58 0#32 (h1.unread x1) k acc, trip_k1_t1.sl.v405 (F := Ideal) a1 k1_pay55 k1_pay56 k1_pay57 k1_pay58 0#32 (h1.unread x1) k acc) s l)).2.2.2 := by
  pointwise [trip_k1_t1.sl.v450, trip_k1_t1.sl.v460, trip_k1_t1.sl.v459, trip_k1_t1.sl.v458]
  simp only [wt6 a1 h1 x1 k s l, ld6_8 a1 h1 x1 k]
  rfl

theorem st7_0 : k1_pay65 (F := Ideal) (trip_k1_t1.sl.v451 (F := Ideal) a1 k1_pay55 k1_pay56 k1_pay57 k1_pay58 0#32 (h1.unread x1) k acc) (trip_k1_t1.sl.v500 (F := Ideal) a1 k1_pay55 k1_pay56 k1_pay57 k1_pay58 0#32 (h1.unread x1) k) trip_k1_t1.sl.v116 (ix2 s l) = (step (cl x1 k 7) (k1_pay55 (F := Ideal) (ix2 s l)) (yv (ix2 s l)) (lane (trip_k1_t1.sl.v451 (F := Ideal) a1 k1_pay55 k1_pay56 k1_pay57 k1_pay58 0#32 (h1.unread x1) k acc, trip_k1_t1.sl.v454 (F := Ideal) a1 k1_pay55 k1_pay56 k1_pay57 k1_pay58 0#32 (h1.unread x1) k acc, trip_k1_t1.sl.v457 (F := Ideal) a1 k1_pay55 k1_pay56 k1_pay57 k1_pay58 0#32 (h1.unread x1) k acc, trip_k1_t1.sl.v460 (F := Ideal) a1 k1_pay55 k1_pay56 k1_pay57 k1_pay58 0#32 (h1.unread x1) k acc) s l)).1 := by
  pointwise [k1_pay65, k1_pay64, trip_k1_t1.sl.v116, trip_k1_t1.sl.cst_42]
  simp only [wt7 a1 h1 x1 k s l]
  rfl

theorem st7_1 : k1_pay66 (F := Ideal) (trip_k1_t1.sl.v451 (F := Ideal) a1 k1_pay55 k1_pay56 k1_pay57 k1_pay58 0#32 (h1.unread x1) k acc) (trip_k1_t1.sl.v454 (F := Ideal) a1 k1_pay55 k1_pay56 k1_pay57 k1_pay58 0#32 (h1.unread x1) k acc) (trip_k1_t1.sl.r_69 (F := Ideal) a1 (h1.unread x1) k) (trip_k1_t1.sl.v500 (F := Ideal) a1 k1_pay55 k1_pay56 k1_pay57 k1_pay58 0#32 (h1.unread x1) k) trip_k1_t1.sl.v116 (ix2 s l) = (step (cl x1 k 7) (k1_pay55 (F := Ideal) (ix2 s l)) (yv (ix2 s l)) (lane (trip_k1_t1.sl.v451 (F := Ideal) a1 k1_pay55 k1_pay56 k1_pay57 k1_pay58 0#32 (h1.unread x1) k acc, trip_k1_t1.sl.v454 (F := Ideal) a1 k1_pay55 k1_pay56 k1_pay57 k1_pay58 0#32 (h1.unread x1) k acc, trip_k1_t1.sl.v457 (F := Ideal) a1 k1_pay55 k1_pay56 k1_pay57 k1_pay58 0#32 (h1.unread x1) k acc, trip_k1_t1.sl.v460 (F := Ideal) a1 k1_pay55 k1_pay56 k1_pay57 k1_pay58 0#32 (h1.unread x1) k acc) s l)).2.1 := by
  pointwise [k1_pay66, k1_pay64, trip_k1_t1.sl.v116, trip_k1_t1.sl.cst_42]
  simp only [wt7 a1 h1 x1 k s l, ld7_6 a1 h1 x1 k]
  rfl

theorem st7_2 : k1_pay67 (F := Ideal) (trip_k1_t1.sl.v451 (F := Ideal) a1 k1_pay55 k1_pay56 k1_pay57 k1_pay58 0#32 (h1.unread x1) k acc) (trip_k1_t1.sl.v457 (F := Ideal) a1 k1_pay55 k1_pay56 k1_pay57 k1_pay58 0#32 (h1.unread x1) k acc) (trip_k1_t1.sl.r_70 (F := Ideal) a1 (h1.unread x1) k) (trip_k1_t1.sl.v500 (F := Ideal) a1 k1_pay55 k1_pay56 k1_pay57 k1_pay58 0#32 (h1.unread x1) k) trip_k1_t1.sl.v116 (ix2 s l) = (step (cl x1 k 7) (k1_pay55 (F := Ideal) (ix2 s l)) (yv (ix2 s l)) (lane (trip_k1_t1.sl.v451 (F := Ideal) a1 k1_pay55 k1_pay56 k1_pay57 k1_pay58 0#32 (h1.unread x1) k acc, trip_k1_t1.sl.v454 (F := Ideal) a1 k1_pay55 k1_pay56 k1_pay57 k1_pay58 0#32 (h1.unread x1) k acc, trip_k1_t1.sl.v457 (F := Ideal) a1 k1_pay55 k1_pay56 k1_pay57 k1_pay58 0#32 (h1.unread x1) k acc, trip_k1_t1.sl.v460 (F := Ideal) a1 k1_pay55 k1_pay56 k1_pay57 k1_pay58 0#32 (h1.unread x1) k acc) s l)).2.2.1 := by
  pointwise [k1_pay67, k1_pay64, trip_k1_t1.sl.v116, trip_k1_t1.sl.cst_42]
  simp only [wt7 a1 h1 x1 k s l, ld7_7 a1 h1 x1 k]
  rfl

theorem st7_3 : k1_pay68 (F := Ideal) (trip_k1_t1.sl.v451 (F := Ideal) a1 k1_pay55 k1_pay56 k1_pay57 k1_pay58 0#32 (h1.unread x1) k acc) (trip_k1_t1.sl.v460 (F := Ideal) a1 k1_pay55 k1_pay56 k1_pay57 k1_pay58 0#32 (h1.unread x1) k acc) (trip_k1_t1.sl.r_71 (F := Ideal) a1 (h1.unread x1) k) (trip_k1_t1.sl.v500 (F := Ideal) a1 k1_pay55 k1_pay56 k1_pay57 k1_pay58 0#32 (h1.unread x1) k) trip_k1_t1.sl.v116 (ix2 s l) = (step (cl x1 k 7) (k1_pay55 (F := Ideal) (ix2 s l)) (yv (ix2 s l)) (lane (trip_k1_t1.sl.v451 (F := Ideal) a1 k1_pay55 k1_pay56 k1_pay57 k1_pay58 0#32 (h1.unread x1) k acc, trip_k1_t1.sl.v454 (F := Ideal) a1 k1_pay55 k1_pay56 k1_pay57 k1_pay58 0#32 (h1.unread x1) k acc, trip_k1_t1.sl.v457 (F := Ideal) a1 k1_pay55 k1_pay56 k1_pay57 k1_pay58 0#32 (h1.unread x1) k acc, trip_k1_t1.sl.v460 (F := Ideal) a1 k1_pay55 k1_pay56 k1_pay57 k1_pay58 0#32 (h1.unread x1) k acc) s l)).2.2.2 := by
  pointwise [k1_pay68, k1_pay64, trip_k1_t1.sl.v116, trip_k1_t1.sl.cst_42]
  simp only [wt7 a1 h1 x1 k s l, ld7_8 a1 h1 x1 k]
  rfl

/-- The eight Gaussians of trip `k` composited in turn. -/
def steps (x y : EReal) (st : St) : St :=
  step (cl x1 k 7) x y (step (cl x1 k 6) x y (step (cl x1 k 5) x y (step (cl x1 k 4) x y (step (cl x1 k 3) x y (step (cl x1 k 2) x y (step (cl x1 k 1) x y (step (cl x1 k 0) x y st)))))))

variable (c : Dev nD) (a2 : Memref sig .tc .vmem S3x8x128 .f32) (h2 : a2.IsWhole) (a3 : Memref sig .tc .vmem S4x8x128 .f32) (h3 : a3.IsWhole)

theorem sp0 : lane (trip_k1_t1.sl.v121 (F := Ideal) a1 k1_pay55 k1_pay56 k1_pay57 k1_pay58 0#32 (h1.unread x1) k acc, trip_k1_t1.sl.v124 (F := Ideal) a1 k1_pay55 k1_pay56 k1_pay57 k1_pay58 0#32 (h1.unread x1) k acc, trip_k1_t1.sl.v127 (F := Ideal) a1 k1_pay55 k1_pay56 k1_pay57 k1_pay58 0#32 (h1.unread x1) k acc, trip_k1_t1.sl.v130 (F := Ideal) a1 k1_pay55 k1_pay56 k1_pay57 k1_pay58 0#32 (h1.unread x1) k acc) s l = step (cl x1 k 0) (k1_pay55 (F := Ideal) (ix2 s l)) (yv (ix2 s l)) (lane acc s l) :=
  Prod.ext (st0_0 a1 h1 x1 k acc s l) (Prod.ext (st0_1 a1 h1 x1 k acc s l) (Prod.ext (st0_2 a1 h1 x1 k acc s l) (st0_3 a1 h1 x1 k acc s l)))

theorem sp1 : lane (trip_k1_t1.sl.v176 (F := Ideal) a1 k1_pay55 k1_pay56 k1_pay57 k1_pay58 0#32 (h1.unread x1) k acc, trip_k1_t1.sl.v179 (F := Ideal) a1 k1_pay55 k1_pay56 k1_pay57 k1_pay58 0#32 (h1.unread x1) k acc, trip_k1_t1.sl.v182 (F := Ideal) a1 k1_pay55 k1_pay56 k1_pay57 k1_pay58 0#32 (h1.unread x1) k acc, trip_k1_t1.sl.v185 (F := Ideal) a1 k1_pay55 k1_pay56 k1_pay57 k1_pay58 0#32 (h1.unread x1) k acc) s l = step (cl x1 k 1) (k1_pay55 (F := Ideal) (ix2 s l)) (yv (ix2 s l)) (lane (trip_k1_t1.sl.v121 (F := Ideal) a1 k1_pay55 k1_pay56 k1_pay57 k1_pay58 0#32 (h1.unread x1) k acc, trip_k1_t1.sl.v124 (F := Ideal) a1 k1_pay55 k1_pay56 k1_pay57 k1_pay58 0#32 (h1.unread x1) k acc, trip_k1_t1.sl.v127 (F := Ideal) a1 k1_pay55 k1_pay56 k1_pay57 k1_pay58 0#32 (h1.unread x1) k acc, trip_k1_t1.sl.v130 (F := Ideal) a1 k1_pay55 k1_pay56 k1_pay57 k1_pay58 0#32 (h1.unread x1) k acc) s l) :=
  Prod.ext (st1_0 a1 h1 x1 k acc s l) (Prod.ext (st1_1 a1 h1 x1 k acc s l) (Prod.ext (st1_2 a1 h1 x1 k acc s l) (st1_3 a1 h1 x1 k acc s l)))

theorem sp2 : lane (trip_k1_t1.sl.v231 (F := Ideal) a1 k1_pay55 k1_pay56 k1_pay57 k1_pay58 0#32 (h1.unread x1) k acc, trip_k1_t1.sl.v234 (F := Ideal) a1 k1_pay55 k1_pay56 k1_pay57 k1_pay58 0#32 (h1.unread x1) k acc, trip_k1_t1.sl.v237 (F := Ideal) a1 k1_pay55 k1_pay56 k1_pay57 k1_pay58 0#32 (h1.unread x1) k acc, trip_k1_t1.sl.v240 (F := Ideal) a1 k1_pay55 k1_pay56 k1_pay57 k1_pay58 0#32 (h1.unread x1) k acc) s l = step (cl x1 k 2) (k1_pay55 (F := Ideal) (ix2 s l)) (yv (ix2 s l)) (lane (trip_k1_t1.sl.v176 (F := Ideal) a1 k1_pay55 k1_pay56 k1_pay57 k1_pay58 0#32 (h1.unread x1) k acc, trip_k1_t1.sl.v179 (F := Ideal) a1 k1_pay55 k1_pay56 k1_pay57 k1_pay58 0#32 (h1.unread x1) k acc, trip_k1_t1.sl.v182 (F := Ideal) a1 k1_pay55 k1_pay56 k1_pay57 k1_pay58 0#32 (h1.unread x1) k acc, trip_k1_t1.sl.v185 (F := Ideal) a1 k1_pay55 k1_pay56 k1_pay57 k1_pay58 0#32 (h1.unread x1) k acc) s l) :=
  Prod.ext (st2_0 a1 h1 x1 k acc s l) (Prod.ext (st2_1 a1 h1 x1 k acc s l) (Prod.ext (st2_2 a1 h1 x1 k acc s l) (st2_3 a1 h1 x1 k acc s l)))

theorem sp3 : lane (trip_k1_t1.sl.v286 (F := Ideal) a1 k1_pay55 k1_pay56 k1_pay57 k1_pay58 0#32 (h1.unread x1) k acc, trip_k1_t1.sl.v289 (F := Ideal) a1 k1_pay55 k1_pay56 k1_pay57 k1_pay58 0#32 (h1.unread x1) k acc, trip_k1_t1.sl.v292 (F := Ideal) a1 k1_pay55 k1_pay56 k1_pay57 k1_pay58 0#32 (h1.unread x1) k acc, trip_k1_t1.sl.v295 (F := Ideal) a1 k1_pay55 k1_pay56 k1_pay57 k1_pay58 0#32 (h1.unread x1) k acc) s l = step (cl x1 k 3) (k1_pay55 (F := Ideal) (ix2 s l)) (yv (ix2 s l)) (lane (trip_k1_t1.sl.v231 (F := Ideal) a1 k1_pay55 k1_pay56 k1_pay57 k1_pay58 0#32 (h1.unread x1) k acc, trip_k1_t1.sl.v234 (F := Ideal) a1 k1_pay55 k1_pay56 k1_pay57 k1_pay58 0#32 (h1.unread x1) k acc, trip_k1_t1.sl.v237 (F := Ideal) a1 k1_pay55 k1_pay56 k1_pay57 k1_pay58 0#32 (h1.unread x1) k acc, trip_k1_t1.sl.v240 (F := Ideal) a1 k1_pay55 k1_pay56 k1_pay57 k1_pay58 0#32 (h1.unread x1) k acc) s l) :=
  Prod.ext (st3_0 a1 h1 x1 k acc s l) (Prod.ext (st3_1 a1 h1 x1 k acc s l) (Prod.ext (st3_2 a1 h1 x1 k acc s l) (st3_3 a1 h1 x1 k acc s l)))

theorem sp4 : lane (trip_k1_t1.sl.v341 (F := Ideal) a1 k1_pay55 k1_pay56 k1_pay57 k1_pay58 0#32 (h1.unread x1) k acc, trip_k1_t1.sl.v344 (F := Ideal) a1 k1_pay55 k1_pay56 k1_pay57 k1_pay58 0#32 (h1.unread x1) k acc, trip_k1_t1.sl.v347 (F := Ideal) a1 k1_pay55 k1_pay56 k1_pay57 k1_pay58 0#32 (h1.unread x1) k acc, trip_k1_t1.sl.v350 (F := Ideal) a1 k1_pay55 k1_pay56 k1_pay57 k1_pay58 0#32 (h1.unread x1) k acc) s l = step (cl x1 k 4) (k1_pay55 (F := Ideal) (ix2 s l)) (yv (ix2 s l)) (lane (trip_k1_t1.sl.v286 (F := Ideal) a1 k1_pay55 k1_pay56 k1_pay57 k1_pay58 0#32 (h1.unread x1) k acc, trip_k1_t1.sl.v289 (F := Ideal) a1 k1_pay55 k1_pay56 k1_pay57 k1_pay58 0#32 (h1.unread x1) k acc, trip_k1_t1.sl.v292 (F := Ideal) a1 k1_pay55 k1_pay56 k1_pay57 k1_pay58 0#32 (h1.unread x1) k acc, trip_k1_t1.sl.v295 (F := Ideal) a1 k1_pay55 k1_pay56 k1_pay57 k1_pay58 0#32 (h1.unread x1) k acc) s l) :=
  Prod.ext (st4_0 a1 h1 x1 k acc s l) (Prod.ext (st4_1 a1 h1 x1 k acc s l) (Prod.ext (st4_2 a1 h1 x1 k acc s l) (st4_3 a1 h1 x1 k acc s l)))

theorem sp5 : lane (trip_k1_t1.sl.v396 (F := Ideal) a1 k1_pay55 k1_pay56 k1_pay57 k1_pay58 0#32 (h1.unread x1) k acc, trip_k1_t1.sl.v399 (F := Ideal) a1 k1_pay55 k1_pay56 k1_pay57 k1_pay58 0#32 (h1.unread x1) k acc, trip_k1_t1.sl.v402 (F := Ideal) a1 k1_pay55 k1_pay56 k1_pay57 k1_pay58 0#32 (h1.unread x1) k acc, trip_k1_t1.sl.v405 (F := Ideal) a1 k1_pay55 k1_pay56 k1_pay57 k1_pay58 0#32 (h1.unread x1) k acc) s l = step (cl x1 k 5) (k1_pay55 (F := Ideal) (ix2 s l)) (yv (ix2 s l)) (lane (trip_k1_t1.sl.v341 (F := Ideal) a1 k1_pay55 k1_pay56 k1_pay57 k1_pay58 0#32 (h1.unread x1) k acc, trip_k1_t1.sl.v344 (F := Ideal) a1 k1_pay55 k1_pay56 k1_pay57 k1_pay58 0#32 (h1.unread x1) k acc, trip_k1_t1.sl.v347 (F := Ideal) a1 k1_pay55 k1_pay56 k1_pay57 k1_pay58 0#32 (h1.unread x1) k acc, trip_k1_t1.sl.v350 (F := Ideal) a1 k1_pay55 k1_pay56 k1_pay57 k1_pay58 0#32 (h1.unread x1) k acc) s l) :=
  Prod.ext (st5_0 a1 h1 x1 k acc s l) (Prod.ext (st5_1 a1 h1 x1 k acc s l) (Prod.ext (st5_2 a1 h1 x1 k acc s l) (st5_3 a1 h1 x1 k acc s l)))

theorem sp6 : lane (trip_k1_t1.sl.v451 (F := Ideal) a1 k1_pay55 k1_pay56 k1_pay57 k1_pay58 0#32 (h1.unread x1) k acc, trip_k1_t1.sl.v454 (F := Ideal) a1 k1_pay55 k1_pay56 k1_pay57 k1_pay58 0#32 (h1.unread x1) k acc, trip_k1_t1.sl.v457 (F := Ideal) a1 k1_pay55 k1_pay56 k1_pay57 k1_pay58 0#32 (h1.unread x1) k acc, trip_k1_t1.sl.v460 (F := Ideal) a1 k1_pay55 k1_pay56 k1_pay57 k1_pay58 0#32 (h1.unread x1) k acc) s l = step (cl x1 k 6) (k1_pay55 (F := Ideal) (ix2 s l)) (yv (ix2 s l)) (lane (trip_k1_t1.sl.v396 (F := Ideal) a1 k1_pay55 k1_pay56 k1_pay57 k1_pay58 0#32 (h1.unread x1) k acc, trip_k1_t1.sl.v399 (F := Ideal) a1 k1_pay55 k1_pay56 k1_pay57 k1_pay58 0#32 (h1.unread x1) k acc, trip_k1_t1.sl.v402 (F := Ideal) a1 k1_pay55 k1_pay56 k1_pay57 k1_pay58 0#32 (h1.unread x1) k acc, trip_k1_t1.sl.v405 (F := Ideal) a1 k1_pay55 k1_pay56 k1_pay57 k1_pay58 0#32 (h1.unread x1) k acc) s l) :=
  Prod.ext (st6_0 a1 h1 x1 k acc s l) (Prod.ext (st6_1 a1 h1 x1 k acc s l) (Prod.ext (st6_2 a1 h1 x1 k acc s l) (st6_3 a1 h1 x1 k acc s l)))

theorem sp7 : lane (k1_pay65 (F := Ideal) (trip_k1_t1.sl.v451 (F := Ideal) a1 k1_pay55 k1_pay56 k1_pay57 k1_pay58 0#32 (h1.unread x1) k acc) (trip_k1_t1.sl.v500 (F := Ideal) a1 k1_pay55 k1_pay56 k1_pay57 k1_pay58 0#32 (h1.unread x1) k) trip_k1_t1.sl.v116, k1_pay66 (F := Ideal) (trip_k1_t1.sl.v451 (F := Ideal) a1 k1_pay55 k1_pay56 k1_pay57 k1_pay58 0#32 (h1.unread x1) k acc) (trip_k1_t1.sl.v454 (F := Ideal) a1 k1_pay55 k1_pay56 k1_pay57 k1_pay58 0#32 (h1.unread x1) k acc) (trip_k1_t1.sl.r_69 (F := Ideal) a1 (h1.unread x1) k) (trip_k1_t1.sl.v500 (F := Ideal) a1 k1_pay55 k1_pay56 k1_pay57 k1_pay58 0#32 (h1.unread x1) k) trip_k1_t1.sl.v116, k1_pay67 (F := Ideal) (trip_k1_t1.sl.v451 (F := Ideal) a1 k1_pay55 k1_pay56 k1_pay57 k1_pay58 0#32 (h1.unread x1) k acc) (trip_k1_t1.sl.v457 (F := Ideal) a1 k1_pay55 k1_pay56 k1_pay57 k1_pay58 0#32 (h1.unread x1) k acc) (trip_k1_t1.sl.r_70 (F := Ideal) a1 (h1.unread x1) k) (trip_k1_t1.sl.v500 (F := Ideal) a1 k1_pay55 k1_pay56 k1_pay57 k1_pay58 0#32 (h1.unread x1) k) trip_k1_t1.sl.v116, k1_pay68 (F := Ideal) (trip_k1_t1.sl.v451 (F := Ideal) a1 k1_pay55 k1_pay56 k1_pay57 k1_pay58 0#32 (h1.unread x1) k acc) (trip_k1_t1.sl.v460 (F := Ideal) a1 k1_pay55 k1_pay56 k1_pay57 k1_pay58 0#32 (h1.unread x1) k acc) (trip_k1_t1.sl.r_71 (F := Ideal) a1 (h1.unread x1) k) (trip_k1_t1.sl.v500 (F := Ideal) a1 k1_pay55 k1_pay56 k1_pay57 k1_pay58 0#32 (h1.unread x1) k) trip_k1_t1.sl.v116) s l = step (cl x1 k 7) (k1_pay55 (F := Ideal) (ix2 s l)) (yv (ix2 s l)) (lane (trip_k1_t1.sl.v451 (F := Ideal) a1 k1_pay55 k1_pay56 k1_pay57 k1_pay58 0#32 (h1.unread x1) k acc, trip_k1_t1.sl.v454 (F := Ideal) a1 k1_pay55 k1_pay56 k1_pay57 k1_pay58 0#32 (h1.unread x1) k acc, trip_k1_t1.sl.v457 (F := Ideal) a1 k1_pay55 k1_pay56 k1_pay57 k1_pay58 0#32 (h1.unread x1) k acc, trip_k1_t1.sl.v460 (F := Ideal) a1 k1_pay55 k1_pay56 k1_pay57 k1_pay58 0#32 (h1.unread x1) k acc) s l) :=
  Prod.ext (st7_0 a1 h1 x1 k acc s l) (Prod.ext (st7_1 a1 h1 x1 k acc s l) (Prod.ext (st7_2 a1 h1 x1 k acc s l) (st7_3 a1 h1 x1 k acc s l)))

/-- One trip of the loop at one pixel. -/
theorem trip_lane : lane (tripR_k1_t1 (F := Ideal) Variants.none c none i a1 h1 a2 h2 a3 h3 k1_pay55 k1_pay56 k1_pay57 k1_pay58 0#32 (h1.unread x1) k acc) s l
    = steps x1 k (k1_pay55 (F := Ideal) (ix2 s l)) (yv (ix2 s l)) (lane acc s l) := by
  unfold tripR_k1_t1 trip_k1_t1
  dsimp only
  unfold steps
  rw [← sp0 a1 h1 x1 k acc s l, ← sp1 a1 h1 x1 k acc s l, ← sp2 a1 h1 x1 k acc s l, ← sp3 a1 h1 x1 k acc s l, ← sp4 a1 h1 x1 k acc s l, ← sp5 a1 h1 x1 k acc s l, ← sp6 a1 h1 x1 k acc s l, ← sp7 a1 h1 x1 k acc s l]

end Cert.KernelIdeal.Own

end
-- ==== Proof.SplatFold.lean ====
/-
  What the splatting call leaves: at each pixel, the Gaussians' columns composited in the order they stand.
-/
module

public import proofs.«01_k».proof.Proof.SplatTrip
public import Idealize.ShloMosaic.Lib.WritesUnit

@[expose] public section

set_option maxRecDepth 16384

noncomputable section

namespace Cert.KernelIdeal.Own

open Cert.KernelIdeal Cert.KernelIdeal.Gen Cert.Proof.Scene
open Idealize.ShloMosaic Idealize.ShloMosaic.Pointwise

/-- A pixel's state after the first `n` Gaussians of `A`, from the state `st`. -/
def comp (A : ℕ → Fin 10 → EReal) (x y : EReal) (st : St) : ℕ → St
  | 0 => st
  | n + 1 => step (A n) x y (comp A x y st n)

theorem comp_add (A : ℕ → Fin 10 → EReal) (x y : EReal) (st : St) (m n : ℕ) :
    comp A x y st (m + n) = comp (fun g => A (m + g)) x y (comp A x y st m) n := by
  induction n with
  | zero => rfl
  | succ n ih =>
    change step _ _ _ (comp A x y st (m + n)) = step _ _ _ _
    rw [ih]
    rfl

theorem comp_congr (A B : ℕ → Fin 10 → EReal) (x y : EReal) (st : St) (n : ℕ) (h : ∀ g, g < n → A g = B g) :
    comp A x y st n = comp B x y st n := by
  induction n with
  | zero => rfl
  | succ n ih =>
    change step _ _ _ _ = step _ _ _ _
    rw [ih (fun g hg => h g (by omega)), h n (by omega)]

/-- The block's columns, in order. -/
def cols (x1 : Vec Ideal S10x512 .f32) (g : ℕ) (r : Fin 10) : EReal := if h : g < 512 then x1 (ix2 r ⟨g, h⟩) else 0

theorem cl_eq (x1 : Vec Ideal S10x512 .f32) (k : Fin k1_t1_loop.trips) (j : Fin 8) : cl x1 k j = cols x1 (8 * k.val + j.val) :=
  funext fun r => by
    unfold cl cols
    rw [dif_pos (trip_col k j)]

/-- A pixel's column and row. -/
abbrev px (s : Fin 8) (l : Fin 128) : EReal := k1_pay55 (F := Ideal) (ix2 s l)
abbrev py (s : Fin 8) (l : Fin 128) : EReal := yv (ix2 s l)

variable (i : grid1.Coords) (a1 : Memref sig .tc .smem S10x512 .f32) (h1 : a1.IsWhole) (x1 : Vec Ideal S10x512 .f32)
  (init : FVec Ideal S8x128 .f32 × FVec Ideal S8x128 .f32 × FVec Ideal S8x128 .f32 × FVec Ideal S8x128 .f32) (s : Fin 8) (l : Fin 128)
  (c : Dev nD) (a2 : Memref sig .tc .vmem S3x8x128 .f32) (h2 : a2.IsWhole) (a3 : Memref sig .tc .vmem S4x8x128 .f32) (h3 : a3.IsWhole)

theorem steps_eq (k : Fin k1_t1_loop.trips) (x y : EReal) (st : St) :
    steps x1 k x y st = comp (fun g => cols x1 (8 * k.val + g)) x y st 8 := by
  unfold steps
  simp only [cl_eq]
  rfl

/-- The loop's carried value before trip `k`, at one pixel. -/
theorem st_lane (k : ℕ) (hk : k ≤ k1_t1_loop.trips) :
    lane (st_k1_t1 (F := Ideal) Variants.none c none i a1 h1 a2 h2 a3 h3 k1_pay55 k1_pay56 k1_pay57 k1_pay58 0#32 (h1.unread x1) init k) s l
      = comp (cols x1) (px s l) (py s l) (lane init s l) (8 * k) := by
  induction k with
  | zero => rfl
  | succ k ih =>
    have hs := st_k1_t1_succ (F := Ideal) Variants.none c none i a1 h1 a2 h2 a3 h3 k1_pay55 k1_pay56 k1_pay57 k1_pay58 0#32 (h1.unread x1) init ⟨k, hk⟩
    rw [hs, trip_lane, ih (by omega), steps_eq, show 8 * (k + 1) = 8 * k + 8 by ring, comp_add]

theorem trips_eq : k1_t1_loop.trips = 64 := by decide

/-- The loop, at one pixel. -/
theorem loop_lane :
    lane (st_k1_t1 (F := Ideal) Variants.none c none i a1 h1 a2 h2 a3 h3 k1_pay55 k1_pay56 k1_pay57 k1_pay58 0#32 (h1.unread x1) init
        (Scf.trips 0#32 (Scalar.addi 0#32 64#32) 1#32)) s l
      = comp (cols x1) (px s l) (py s l) (lane init s l) 512 := by
  have h := st_lane i a1 h1 x1 init s l c a2 h2 a3 h3 64 (le_of_eq trips_eq.symm)
  exact h

/-- The four planes of the scratch, at one pixel. -/
def planes (xs : Vec Ideal S4x8x128 .f32) (s : Fin 8) (l : Fin 128) : St := (xs (ix3 0 s l), xs (ix3 1 s l), xs (ix3 2 s l), xs (ix3 3 s l))

/-- Four planes written one after another: each reads back what was written to it. -/
theorem planes_read (v : View sig .tc .vmem S4x8x128 .f32) (f) (L) (w0 w1 w2 w3 : FVec Ideal S1x8x128 .f32) (i0) (i1) (i2) (i3) :
    planes (v.read (Elt Ideal) (v.writes (Elt Ideal) f (⟨Rect.unit (s := S4x8x128) ![3, 0, 0] ![1, 8, 128] i3, w3⟩ :: ⟨Rect.unit (s := S4x8x128) ![2, 0, 0] ![1, 8, 128] i2, w2⟩
      :: ⟨Rect.unit (s := S4x8x128) ![1, 0, 0] ![1, 8, 128] i1, w1⟩ :: ⟨Rect.unit (s := S4x8x128) ![0, 0, 0] ![1, 8, 128] i0, w0⟩ :: L))) s l
      = (w0 (ix3 0 s l), w1 (ix3 0 s l), w2 (ix3 0 s l), w3 (ix3 0 s l)) := by
  unfold planes
  refine Prod.ext ?_ (Prod.ext ?_ (Prod.ext ?_ ?_)) <;> dsimp only
  · rw [View.read_writes_cons_unit_of_not_mem _ _ _ _ _ _ rfl (0 : Fin 3) (Or.inl (by change 0 < 3; omega))]
    rw [View.read_writes_cons_unit_of_not_mem _ _ _ _ _ _ rfl (0 : Fin 3) (Or.inl (by change 0 < 2; omega))]
    rw [View.read_writes_cons_unit_of_not_mem _ _ _ _ _ _ rfl (0 : Fin 3) (Or.inl (by change 0 < 1; omega))]
    refine (View.read_writes_cons_unit_of_mem _ _ _ _ _ _ (by exact ix3 (0 : Fin 1) s l) rfl ?_).trans ?_
    · intro a; fin_cases a <;> simp
    · rfl
  · rw [View.read_writes_cons_unit_of_not_mem _ _ _ _ _ _ rfl (0 : Fin 3) (Or.inl (by change 1 < 3; omega))]
    rw [View.read_writes_cons_unit_of_not_mem _ _ _ _ _ _ rfl (0 : Fin 3) (Or.inl (by change 1 < 2; omega))]
    refine (View.read_writes_cons_unit_of_mem _ _ _ _ _ _ (by exact ix3 (0 : Fin 1) s l) rfl ?_).trans ?_
    · intro a; fin_cases a <;> simp
    · rfl
  · rw [View.read_writes_cons_unit_of_not_mem _ _ _ _ _ _ rfl (0 : Fin 3) (Or.inl (by change 2 < 3; omega))]
    refine (View.read_writes_cons_unit_of_mem _ _ _ _ _ _ (by exact ix3 (0 : Fin 1) s l) rfl ?_).trans ?_
    · intro a; fin_cases a <;> simp
    · rfl
  · refine (View.read_writes_cons_unit_of_mem _ _ _ _ _ _ (by exact ix3 (0 : Fin 1) s l) rfl ?_).trans ?_
    · intro a; fin_cases a <;> simp
    · rfl

/-- A load of one plane of the scratch. -/
theorem leafp (q : Fin 4) (inb) (xs0 : Vec Ideal S4x8x128 .f32) :
    View.readAt (Elt Ideal) a3.view (Rect.unit (s := S4x8x128) ![q.val, 0, 0] ![1, 8, 128] inb).toLoadRect (h3.unread xs0) (ix3 0 s l)
      = xs0 (ix3 q s l) := by
  refine (h3.readAt_unread _ _ _).trans ?_
  congr 1
  idx_ext

theorem pl60 (z : FVec Ideal S1x8x128 .f32) : k1_pay60 z (ix2 s l) = z (ix3 0 s l) := by pointwise [k1_pay60]
theorem pl61 (z : FVec Ideal S1x8x128 .f32) : k1_pay61 z (ix2 s l) = z (ix3 0 s l) := by pointwise [k1_pay61]
theorem pl62 (z : FVec Ideal S1x8x128 .f32) : k1_pay62 z (ix2 s l) = z (ix3 0 s l) := by pointwise [k1_pay62]
theorem pl63 (z : FVec Ideal S1x8x128 .f32) : k1_pay63 z (ix2 s l) = z (ix3 0 s l) := by pointwise [k1_pay63]
theorem pl69 (z : FVec Ideal S8x128 .f32) : k1_pay69 z (ix3 0 s l) = z (ix2 s l) := by pointwise [k1_pay69]
theorem pl70 (z : FVec Ideal S8x128 .f32) : k1_pay70 z (ix3 0 s l) = z (ix2 s l) := by pointwise [k1_pay70]
theorem pl71 (z : FVec Ideal S8x128 .f32) : k1_pay71 z (ix3 0 s l) = z (ix2 s l) := by pointwise [k1_pay71]
theorem pl1 (z : FVec Ideal S8x128 .f32) : k1_pay1 z (ix3 0 s l) = z (ix2 s l) := by pointwise [k1_pay1]
theorem pl2 (z : FVec Ideal S8x128 .f32) : k1_pay2 z (ix3 0 s l) = z (ix2 s l) := by pointwise [k1_pay2]
theorem pl3 (z : FVec Ideal S8x128 .f32) : k1_pay3 z (ix3 0 s l) = z (ix2 s l) := by pointwise [k1_pay3]
theorem pl4 (z : FVec Ideal S8x128 .f32) : k1_pay4 z (ix3 0 s l) = z (ix2 s l) := by pointwise [k1_pay4]

/-- The scratch's planes, loaded. -/
theorem init_eq (xs0 : Vec Ideal S4x8x128 .f32) (i0) (i1) (i2) (i3) :
    lane (k1_pay60 (View.readAt (Elt Ideal) a3.view (Rect.unit (s := S4x8x128) ![0, 0, 0] S1x8x128.size i0).toLoadRect (h3.unread xs0)),
      k1_pay61 (View.readAt (Elt Ideal) a3.view (Rect.unit (s := S4x8x128) ![1, 0, 0] S1x8x128.size i1).toLoadRect (h3.unread xs0)),
      k1_pay62 (View.readAt (Elt Ideal) a3.view (Rect.unit (s := S4x8x128) ![2, 0, 0] S1x8x128.size i2).toLoadRect (h3.unread xs0)),
      k1_pay63 (View.readAt (Elt Ideal) a3.view (Rect.unit (s := S4x8x128) ![3, 0, 0] S1x8x128.size i3).toLoadRect (h3.unread xs0))) s l = planes xs0 s l :=
  Prod.ext ((pl60 s l _).trans (leafp s l a3 h3 0 i0 xs0)) (Prod.ext ((pl61 s l _).trans (leafp s l a3 h3 1 i1 xs0))
    (Prod.ext ((pl62 s l _).trans (leafp s l a3 h3 2 i2 xs0)) ((pl63 s l _).trans (leafp s l a3 h3 3 i3 xs0))))

/-- The scratch's planes, as its first filling leaves them. -/
theorem init_A : lane (k1_pay60 (kernelRun1_A.sl.v50 (F := Ideal) c a3), k1_pay61 (kernelRun1_A.sl.v52 (F := Ideal) c a3),
      k1_pay62 (kernelRun1_A.sl.v54 (F := Ideal) c a3), k1_pay63 (kernelRun1_A.sl.v56 (F := Ideal) c a3)) s l = (1, 0, 0, 0) := by
  have h := planes_read s l a3.view a3.view.junk [] k1_pay50 k1_pay51 k1_pay52 k1_pay53 inb_S4x8x128_S1x8x128_0_0_0 inb_S4x8x128_S1x8x128_1_0_0 inb_S4x8x128_S1x8x128_2_0_0 inb_S4x8x128_S1x8x128_3_0_0
  have e : (k1_pay50 (F := Ideal) (ix3 0 s l), k1_pay51 (F := Ideal) (ix3 0 s l), k1_pay52 (F := Ideal) (ix3 0 s l), k1_pay53 (F := Ideal) (ix3 0 s l)) = ((1, 0, 0, 0) : St) := by
    refine Prod.ext ?_ (Prod.ext ?_ (Prod.ext ?_ ?_)) <;> dsimp only
    · pointwise [k1_pay50]
    · pointwise [k1_pay51]
    · pointwise [k1_pay52]
    · pointwise [k1_pay53]
  rw [e] at h
  refine Eq.trans ?_ h
  refine Prod.ext ((pl60 s l (kernelRun1_A.sl.v50 (F := Ideal) c a3)).trans ?_) (Prod.ext ((pl61 s l (kernelRun1_A.sl.v52 (F := Ideal) c a3)).trans ?_) (Prod.ext ((pl62 s l (kernelRun1_A.sl.v54 (F := Ideal) c a3)).trans ?_) ((pl63 s l (kernelRun1_A.sl.v56 (F := Ideal) c a3)).trans ?_)))
  all_goals
    refine congrArg (a3.view.read (Elt Ideal) _) ?_
    idx_ext

/-- A middle point: the block's columns composited over the scratch. -/
theorem pointB (hc0 : ¬cond1_0 i) (hc1 : ¬cond1_1 i) (xs0 : Vec Ideal S4x8x128 .f32) :
    planes (sout1_B_0 (F := Ideal) c i a1 h1 a2 h2 a3 h3 hc0 hc1 x1 xs0) s l = comp (cols x1) (px s l) (py s l) (planes xs0 s l) 512 := by
  unfold sout1_B_0 kernelRun1_B
  dsimp only
  refine (planes_read s l _ _ _ _ _ _ _ _ _ _ _).trans ?_
  rw [pl69, pl70, pl71, pl1, ← init_eq s l a3 h3 xs0 inb_S4x8x128_S1x8x128_0_0_0 inb_S4x8x128_S1x8x128_1_0_0 inb_S4x8x128_S1x8x128_2_0_0 inb_S4x8x128_S1x8x128_3_0_0]
  exact loop_lane i a1 h1 x1 _ s l c a2 h2 a3 h3

/-- The first point: the block's columns composited over nothing. -/
theorem pointA (hc0 : cond1_0 i) (hc1 : ¬cond1_1 i) :
    planes (sout1_A_0 (F := Ideal) c i a1 h1 a2 h2 a3 h3 hc0 hc1 x1) s l = comp (cols x1) (px s l) (py s l) (1, 0, 0, 0) 512 := by
  unfold sout1_A_0 kernelRun1_A
  dsimp only
  refine (planes_read s l _ _ _ _ _ _ _ _ _ _ _).trans ?_
  rw [pl69, pl70, pl71, pl1, ← init_A s l c a3]
  exact loop_lane i a1 h1 x1 _ s l c a2 h2 a3 h3

/-- Three planes written one after another. -/
theorem out_read (v : View sig .tc .vmem S3x8x128 .f32) (f) (L) (w0 w1 w2 : FVec Ideal S1x8x128 .f32) (i0) (i1) (i2) :
    ∀ q : Fin 3, v.read (Elt Ideal) (v.writes (Elt Ideal) f (⟨Rect.unit (s := S3x8x128) ![2, 0, 0] ![1, 8, 128] i2, w2⟩
      :: ⟨Rect.unit (s := S3x8x128) ![1, 0, 0] ![1, 8, 128] i1, w1⟩ :: ⟨Rect.unit (s := S3x8x128) ![0, 0, 0] ![1, 8, 128] i0, w0⟩ :: L)) (ix3 q s l)
      = ![w0 (ix3 0 s l), w1 (ix3 0 s l), w2 (ix3 0 s l)] q := by
  intro q
  fin_cases q
  · refine (View.read_writes_cons_unit_of_not_mem _ _ _ _ _ _ rfl (0 : Fin 3) (Or.inl (by change 0 < 2; omega))).trans ?_
    refine (View.read_writes_cons_unit_of_not_mem _ _ _ _ _ _ rfl (0 : Fin 3) (Or.inl (by change 0 < 1; omega))).trans ?_
    refine (View.read_writes_cons_unit_of_mem _ _ _ _ _ _ (by exact ix3 (0 : Fin 1) s l) rfl ?_).trans ?_
    · intro a; fin_cases a <;> simp
    · rfl
  · refine (View.read_writes_cons_unit_of_not_mem _ _ _ _ _ _ rfl (0 : Fin 3) (Or.inl (by change 1 < 2; omega))).trans ?_
    refine (View.read_writes_cons_unit_of_mem _ _ _ _ _ _ (by exact ix3 (0 : Fin 1) s l) rfl ?_).trans ?_
    · intro a; fin_cases a <;> simp
    · rfl
  · refine (View.read_writes_cons_unit_of_mem _ _ _ _ _ _ (by exact ix3 (0 : Fin 1) s l) rfl ?_).trans ?_
    · intro a; fin_cases a <;> simp
    · rfl

/-- The colours of a pixel's state. -/
def hue (st : St) (q : Fin 3) : EReal := ![st.2.1, st.2.2.1, st.2.2.2] q

/-- The last point: what it puts out. -/
theorem pointC (hc0 : ¬cond1_0 i) (hc1 : cond1_1 i) (xs0 : Vec Ideal S4x8x128 .f32) (q : Fin 3) :
    out1_C_1 (F := Ideal) c i a1 h1 a2 h2 a3 h3 hc0 hc1 x1 xs0 (ix3 q s l) = hue (comp (cols x1) (px s l) (py s l) (planes xs0 s l) 512) q := by
  unfold out1_C_1 kernelRun1_C
  dsimp only
  refine (out_read s l _ _ _ _ _ _ _ _ _ q).trans ?_
  rw [pl2, pl3, pl4, ← init_eq s l a3 h3 xs0 inb_S4x8x128_S1x8x128_0_0_0 inb_S4x8x128_S1x8x128_1_0_0 inb_S4x8x128_S1x8x128_2_0_0 inb_S4x8x128_S1x8x128_3_0_0]
  rw [← loop_lane i a1 h1 x1 _ s l c a2 h2 a3 h3]
  rfl

end Cert.KernelIdeal.Own

end
-- ==== Proof.StageValue.lean ====
/-
  What the staging kernel computes for one Gaussian: each named value of its body, read at a lane, is the quantity of
  Scene.lean at that lane's features and the two camera tables' entries.
-/
module

public import proofs.«01_k».proof.Proof.KernelIdealStageBody
public import proofs.«01_k».proof.Proof.Scene
public import Idealize.ShloMosaic.Lib.Pointwise
public import Idealize.ShloMosaic.Lib.WholeRead

@[expose] public section

set_option maxRecDepth 16384

noncomputable section

namespace Cert.KernelIdeal.Own

open Cert.KernelIdeal Cert.KernelIdeal.Gen Cert.Proof.Scene
open Idealize.ShloMosaic Idealize.ShloMosaic.Pointwise

/-- A lane's features, and the camera's rotation (the table holds it twice) and translation. -/
def ft (x1 : Vec Ideal S64x8x1280 .f32) (s : Fin 8) (l : Fin 1280) (n : Fin 59) : EReal := x1 (ix3 ⟨n.val, by omega⟩ s l)
def Rc (x0 : Vec Ideal S32 .f32) (i j : Fin 3) : EReal := x0 (ix1 ⟨3 * i.val + j.val, by omega⟩)
def Rm (x0 : Vec Ideal S32 .f32) (i j : Fin 3) : EReal := x0 (ix1 ⟨16 + (3 * i.val + j.val), by omega⟩)
def tv (x0 : Vec Ideal S32 .f32) (i : Fin 3) : EReal := x0 (ix1 ⟨9 + i.val, by omega⟩)

variable (c : Dev nD) (a0 : Memref sig .tc .smem S32 .f32) (h0 : a0.IsWhole) (a1 : Memref sig .tc .vmem S64x8x1280 .f32) (h1 : a1.IsWhole)
  (x0 : Vec Ideal S32 .f32) (x1 : Vec Ideal S64x8x1280 .f32) (hR : Rc x0 = Rm x0)

/-- A scalar load of the camera table. -/
theorem leaf0 (n : ℕ) (inb) (hf) :
    View.readAt (Elt Ideal) a0.view (Rect.unit (s := S32) ![n] S1.size inb).toLoadRect (h0.unread x0) (Shape.Idx.first hf)
      = x0 (ix1 ⟨n, lt_of_lt_of_le (Nat.lt_succ_self n) (inb 0)⟩) := by
  refine (h0.readAt_unread _ _ _).trans ?_
  congr 1
  funext a
  have ha : a = 0 := Subsingleton.elim _ _
  subst ha
  apply Fin.ext
  have hz : ((Shape.Idx.first hf) 0).val = 0 := Nat.lt_one_iff.mp (Shape.Idx.first hf 0).isLt
  change n + 1 * ((Shape.Idx.first hf) 0).val = n
  omega

/-- A load of one feature's plane. -/
theorem leaf1 (n : ℕ) (inb) (s : Fin 8) (l : Fin 1280) :
    View.readAt (Elt Ideal) a1.view (Rect.unit (s := S64x8x1280) ![n, 0, 0] ![1, 8, 1280] inb).toLoadRect (h1.unread x1) (ix3 0 s l)
      = x1 (ix3 ⟨n, lt_of_lt_of_le (Nat.lt_succ_self n) (inb 0)⟩ s l) := by
  refine (h1.readAt_unread _ _ _).trans ?_
  congr 1
  idx_ext

include c a0 h0 a1 h1 x0 x1 hR

theorem s0 : kernelRun0_A.sl.r c a0 h0 x0 = Rm x0 0 0 := by rw [← hR]; exact leaf0 a0 h0 x0 0 _ _

theorem s1 : kernelRun0_A.sl.r_1 c a0 h0 x0 = Rm x0 0 1 := by rw [← hR]; exact leaf0 a0 h0 x0 1 _ _

theorem s2 : kernelRun0_A.sl.r_2 c a0 h0 x0 = Rm x0 0 2 := by rw [← hR]; exact leaf0 a0 h0 x0 2 _ _

theorem s3 : kernelRun0_A.sl.r_3 c a0 h0 x0 = Rm x0 1 0 := by rw [← hR]; exact leaf0 a0 h0 x0 3 _ _

theorem s4 : kernelRun0_A.sl.r_4 c a0 h0 x0 = Rm x0 1 1 := by rw [← hR]; exact leaf0 a0 h0 x0 4 _ _

theorem s5 : kernelRun0_A.sl.r_5 c a0 h0 x0 = Rm x0 1 2 := by rw [← hR]; exact leaf0 a0 h0 x0 5 _ _

theorem s6 : kernelRun0_A.sl.r_6 c a0 h0 x0 = Rm x0 2 0 := by rw [← hR]; exact leaf0 a0 h0 x0 6 _ _

theorem s7 : kernelRun0_A.sl.r_7 c a0 h0 x0 = Rm x0 2 1 := by rw [← hR]; exact leaf0 a0 h0 x0 7 _ _

theorem s8 : kernelRun0_A.sl.r_8 c a0 h0 x0 = Rm x0 2 2 := by rw [← hR]; exact leaf0 a0 h0 x0 8 _ _

theorem s9 : kernelRun0_A.sl.r_9 c a0 h0 x0 = tv x0 0 := leaf0 a0 h0 x0 9 _ _

theorem s10 : kernelRun0_A.sl.r_10 c a0 h0 x0 = tv x0 1 := leaf0 a0 h0 x0 10 _ _

theorem s11 : kernelRun0_A.sl.r_11 c a0 h0 x0 = tv x0 2 := leaf0 a0 h0 x0 11 _ _

theorem s12 : kernelRun0_A.sl.r_12 c a0 h0 x0 = Rm x0 0 0 := leaf0 a0 h0 x0 16 _ _

theorem s13 : kernelRun0_A.sl.r_13 c a0 h0 x0 = Rm x0 0 1 := leaf0 a0 h0 x0 17 _ _

theorem s14 : kernelRun0_A.sl.r_14 c a0 h0 x0 = Rm x0 0 2 := leaf0 a0 h0 x0 18 _ _

theorem s15 : kernelRun0_A.sl.r_15 c a0 h0 x0 = Rm x0 1 0 := leaf0 a0 h0 x0 19 _ _

theorem s16 : kernelRun0_A.sl.r_16 c a0 h0 x0 = Rm x0 1 1 := leaf0 a0 h0 x0 20 _ _

theorem s17 : kernelRun0_A.sl.r_17 c a0 h0 x0 = Rm x0 1 2 := leaf0 a0 h0 x0 21 _ _

theorem s18 : kernelRun0_A.sl.r_18 c a0 h0 x0 = Rm x0 2 0 := leaf0 a0 h0 x0 22 _ _

theorem s19 : kernelRun0_A.sl.r_19 c a0 h0 x0 = Rm x0 2 1 := leaf0 a0 h0 x0 23 _ _

theorem s20 : kernelRun0_A.sl.r_20 c a0 h0 x0 = Rm x0 2 2 := leaf0 a0 h0 x0 24 _ _

theorem p26 (s : Fin 8) (l : Fin 1280) : kernelRun0_A.sl.r_26 c a0 h0 a1 h1 x0 x1 (ix2 s l) = pc (ft x1 s l) (Rm x0) (tv x0) 0 := by
  pointwise [kernelRun0_A.sl.r_26, kernelRun0_A.sl.r_23, kernelRun0_A.sl.r_24, kernelRun0_A.sl.r_25, k0_pay14, k0_pay12, k0_pay13, k0_pay9, k0_pay10, k0_pay7, k0_pay11, k0_pay8]
  simp only [s9 c a0 h0 a1 h1 x0 x1 hR, s12 c a0 h0 a1 h1 x0 x1 hR, s13 c a0 h0 a1 h1 x0 x1 hR, s14 c a0 h0 a1 h1 x0 x1 hR, leaf1]
  all_goals rfl

theorem p27 (s : Fin 8) (l : Fin 1280) : kernelRun0_A.sl.r_27 c a0 h0 a1 h1 x0 x1 (ix2 s l) = pc (ft x1 s l) (Rm x0) (tv x0) 1 := by
  pointwise [kernelRun0_A.sl.r_27, kernelRun0_A.sl.r_23, kernelRun0_A.sl.r_24, kernelRun0_A.sl.r_25, k0_pay15, k0_pay12, k0_pay13, k0_pay9, k0_pay10, k0_pay7, k0_pay11, k0_pay8]
  simp only [s10 c a0 h0 a1 h1 x0 x1 hR, s15 c a0 h0 a1 h1 x0 x1 hR, s16 c a0 h0 a1 h1 x0 x1 hR, s17 c a0 h0 a1 h1 x0 x1 hR, leaf1]
  all_goals rfl

theorem p28 (s : Fin 8) (l : Fin 1280) : kernelRun0_A.sl.r_28 c a0 h0 a1 h1 x0 x1 (ix2 s l) = pc (ft x1 s l) (Rm x0) (tv x0) 2 := by
  pointwise [kernelRun0_A.sl.r_28, kernelRun0_A.sl.r_23, kernelRun0_A.sl.r_24, kernelRun0_A.sl.r_25, k0_pay16, k0_pay12, k0_pay13, k0_pay9, k0_pay10, k0_pay7, k0_pay11, k0_pay8]
  simp only [s11 c a0 h0 a1 h1 x0 x1 hR, s18 c a0 h0 a1 h1 x0 x1 hR, s19 c a0 h0 a1 h1 x0 x1 hR, s20 c a0 h0 a1 h1 x0 x1 hR, leaf1]
  all_goals rfl

theorem p29 (s : Fin 8) (l : Fin 1280) : kernelRun0_A.sl.r_29 c a0 h0 a1 h1 x0 x1 (ix2 s l) = u (ft x1 s l) (Rm x0) (tv x0) 0 := by
  pointwise [kernelRun0_A.sl.r_29, kernelRun0_A.sl.r_23, kernelRun0_A.sl.r_24, kernelRun0_A.sl.r_25, k0_pay17, k0_pay14, k0_pay12, k0_pay13, k0_pay16, k0_pay9, k0_pay10, k0_pay7, k0_pay11, k0_pay8]
  simp only [s9 c a0 h0 a1 h1 x0 x1 hR, s11 c a0 h0 a1 h1 x0 x1 hR, s12 c a0 h0 a1 h1 x0 x1 hR, s13 c a0 h0 a1 h1 x0 x1 hR, s14 c a0 h0 a1 h1 x0 x1 hR, s18 c a0 h0 a1 h1 x0 x1 hR, s19 c a0 h0 a1 h1 x0 x1 hR, s20 c a0 h0 a1 h1 x0 x1 hR, leaf1]
  all_goals rfl

theorem p30 (s : Fin 8) (l : Fin 1280) : kernelRun0_A.sl.r_30 c a0 h0 a1 h1 x0 x1 (ix2 s l) = u (ft x1 s l) (Rm x0) (tv x0) 1 := by
  pointwise [kernelRun0_A.sl.r_30, kernelRun0_A.sl.r_23, kernelRun0_A.sl.r_24, kernelRun0_A.sl.r_25, k0_pay18, k0_pay15, k0_pay12, k0_pay13, k0_pay16, k0_pay9, k0_pay10, k0_pay7, k0_pay11, k0_pay8]
  simp only [s10 c a0 h0 a1 h1 x0 x1 hR, s11 c a0 h0 a1 h1 x0 x1 hR, s15 c a0 h0 a1 h1 x0 x1 hR, s16 c a0 h0 a1 h1 x0 x1 hR, s17 c a0 h0 a1 h1 x0 x1 hR, s18 c a0 h0 a1 h1 x0 x1 hR, s19 c a0 h0 a1 h1 x0 x1 hR, s20 c a0 h0 a1 h1 x0 x1 hR, leaf1]
  all_goals rfl

theorem p33 (s : Fin 8) (l : Fin 1280) : kernelRun0_A.sl.r_33 c a1 h1 x1 (ix2 s l) = qw (ft x1 s l) := by
  pointwise [kernelRun0_A.sl.r_33, kernelRun0_A.sl.r_31, kernelRun0_A.sl.r_32, k0_pay24, k0_pay23, k0_pay21, k0_pay22, k0_pay19, k0_pay20]
  simp only [leaf1]
  all_goals rfl

theorem p34 (s : Fin 8) (l : Fin 1280) : kernelRun0_A.sl.r_34 c a1 h1 x1 (ix2 s l) = qx (ft x1 s l) := by
  pointwise [kernelRun0_A.sl.r_34, kernelRun0_A.sl.r_31, kernelRun0_A.sl.r_32, k0_pay25, k0_pay23, k0_pay21, k0_pay22, k0_pay19, k0_pay20]
  simp only [leaf1]
  all_goals rfl

theorem p35 (s : Fin 8) (l : Fin 1280) : kernelRun0_A.sl.r_35 c a1 h1 x1 (ix2 s l) = qy (ft x1 s l) := by
  pointwise [kernelRun0_A.sl.r_35, kernelRun0_A.sl.r_31, kernelRun0_A.sl.r_32, k0_pay26, k0_pay21, k0_pay23, k0_pay22, k0_pay19, k0_pay20]
  simp only [leaf1]
  all_goals rfl

theorem p36 (s : Fin 8) (l : Fin 1280) : kernelRun0_A.sl.r_36 c a1 h1 x1 (ix2 s l) = qz (ft x1 s l) := by
  pointwise [kernelRun0_A.sl.r_36, kernelRun0_A.sl.r_31, kernelRun0_A.sl.r_32, k0_pay27, k0_pay22, k0_pay23, k0_pay21, k0_pay19, k0_pay20]
  simp only [leaf1]
  all_goals rfl

theorem p37 (s : Fin 8) (l : Fin 1280) : kernelRun0_A.sl.r_37 c a1 h1 x1 (ix2 s l) = rot (qw (ft x1 s l)) (qx (ft x1 s l)) (qy (ft x1 s l)) (qz (ft x1 s l)) 0 0 := by
  pointwise [kernelRun0_A.sl.r_37, kernelRun0_A.sl.r_31, kernelRun0_A.sl.r_32, k0_pay28, k0_pay26, k0_pay21, k0_pay23, k0_pay22, k0_pay27, k0_pay19, k0_pay20]
  simp only [leaf1]
  all_goals rfl

theorem p38 (s : Fin 8) (l : Fin 1280) : kernelRun0_A.sl.r_38 c a1 h1 x1 (ix2 s l) = rot (qw (ft x1 s l)) (qx (ft x1 s l)) (qy (ft x1 s l)) (qz (ft x1 s l)) 0 1 := by
  pointwise [kernelRun0_A.sl.r_38, kernelRun0_A.sl.r_31, kernelRun0_A.sl.r_32, k0_pay29, k0_pay25, k0_pay23, k0_pay21, k0_pay22, k0_pay26, k0_pay24, k0_pay27, k0_pay19, k0_pay20]
  simp only [leaf1]
  all_goals rfl

theorem p39 (s : Fin 8) (l : Fin 1280) : kernelRun0_A.sl.r_39 c a1 h1 x1 (ix2 s l) = rot (qw (ft x1 s l)) (qx (ft x1 s l)) (qy (ft x1 s l)) (qz (ft x1 s l)) 0 2 := by
  pointwise [kernelRun0_A.sl.r_39, kernelRun0_A.sl.r_31, kernelRun0_A.sl.r_32, k0_pay30, k0_pay25, k0_pay23, k0_pay21, k0_pay22, k0_pay27, k0_pay24, k0_pay26, k0_pay19, k0_pay20]
  simp only [leaf1]
  all_goals rfl

theorem p40 (s : Fin 8) (l : Fin 1280) : kernelRun0_A.sl.r_40 c a1 h1 x1 (ix2 s l) = rot (qw (ft x1 s l)) (qx (ft x1 s l)) (qy (ft x1 s l)) (qz (ft x1 s l)) 1 0 := by
  pointwise [kernelRun0_A.sl.r_40, kernelRun0_A.sl.r_31, kernelRun0_A.sl.r_32, k0_pay31, k0_pay25, k0_pay23, k0_pay21, k0_pay22, k0_pay26, k0_pay24, k0_pay27, k0_pay19, k0_pay20]
  simp only [leaf1]
  all_goals rfl

theorem p41 (s : Fin 8) (l : Fin 1280) : kernelRun0_A.sl.r_41 c a1 h1 x1 (ix2 s l) = rot (qw (ft x1 s l)) (qx (ft x1 s l)) (qy (ft x1 s l)) (qz (ft x1 s l)) 1 1 := by
  pointwise [kernelRun0_A.sl.r_41, kernelRun0_A.sl.r_31, kernelRun0_A.sl.r_32, k0_pay32, k0_pay25, k0_pay23, k0_pay21, k0_pay22, k0_pay27, k0_pay19, k0_pay20]
  simp only [leaf1]
  all_goals rfl

theorem p42 (s : Fin 8) (l : Fin 1280) : kernelRun0_A.sl.r_42 c a1 h1 x1 (ix2 s l) = qy (ft x1 s l) * qz (ft x1 s l) := by
  pointwise [kernelRun0_A.sl.r_42, kernelRun0_A.sl.r_31, kernelRun0_A.sl.r_32, k0_pay33, k0_pay26, k0_pay21, k0_pay23, k0_pay22, k0_pay27, k0_pay19, k0_pay20]
  simp only [leaf1]
  all_goals rfl

theorem p43 (s : Fin 8) (l : Fin 1280) : kernelRun0_A.sl.r_43 c a1 h1 x1 (ix2 s l) = qw (ft x1 s l) * qx (ft x1 s l) := by
  pointwise [kernelRun0_A.sl.r_43, kernelRun0_A.sl.r_31, kernelRun0_A.sl.r_32, k0_pay34, k0_pay24, k0_pay23, k0_pay21, k0_pay22, k0_pay25, k0_pay19, k0_pay20]
  simp only [leaf1]
  all_goals rfl

theorem p44 (s : Fin 8) (l : Fin 1280) : kernelRun0_A.sl.r_44 c a1 h1 x1 (ix2 s l) = rot (qw (ft x1 s l)) (qx (ft x1 s l)) (qy (ft x1 s l)) (qz (ft x1 s l)) 2 0 := by
  pointwise [kernelRun0_A.sl.r_44, k0_pay35]
  simp only [p33 c a0 h0 a1 h1 x0 x1 hR s l, p34 c a0 h0 a1 h1 x0 x1 hR s l, p35 c a0 h0 a1 h1 x0 x1 hR s l, p36 c a0 h0 a1 h1 x0 x1 hR s l, leaf1]
  all_goals rfl

theorem p45 (s : Fin 8) (l : Fin 1280) : kernelRun0_A.sl.r_45 c a1 h1 x1 (ix2 s l) = rot (qw (ft x1 s l)) (qx (ft x1 s l)) (qy (ft x1 s l)) (qz (ft x1 s l)) 2 1 := by
  pointwise [kernelRun0_A.sl.r_45, k0_pay36]
  simp only [p33 c a0 h0 a1 h1 x0 x1 hR s l, p34 c a0 h0 a1 h1 x0 x1 hR s l, p35 c a0 h0 a1 h1 x0 x1 hR s l, p36 c a0 h0 a1 h1 x0 x1 hR s l, leaf1]
  all_goals rfl

theorem p46 (s : Fin 8) (l : Fin 1280) : kernelRun0_A.sl.r_46 c a1 h1 x1 (ix2 s l) = rot (qw (ft x1 s l)) (qx (ft x1 s l)) (qy (ft x1 s l)) (qz (ft x1 s l)) 2 2 := by
  pointwise [kernelRun0_A.sl.r_46, k0_pay37]
  simp only [p34 c a0 h0 a1 h1 x0 x1 hR s l, p35 c a0 h0 a1 h1 x0 x1 hR s l, leaf1]
  all_goals rfl

theorem p47 (s : Fin 8) (l : Fin 1280) : kernelRun0_A.sl.r_47 c a1 h1 x1 (ix2 s l) = Ideal.exp ((ft x1 s l) 52) := by
  pointwise [kernelRun0_A.sl.r_47, k0_pay38]
  simp only [leaf1]
  all_goals rfl

theorem p48 (s : Fin 8) (l : Fin 1280) : kernelRun0_A.sl.r_48 c a1 h1 x1 (ix2 s l) = Ideal.exp ((ft x1 s l) 53) := by
  pointwise [kernelRun0_A.sl.r_48, k0_pay39]
  simp only [leaf1]
  all_goals rfl

theorem p49 (s : Fin 8) (l : Fin 1280) : kernelRun0_A.sl.r_49 c a1 h1 x1 (ix2 s l) = Ideal.exp ((ft x1 s l) 54) := by
  pointwise [kernelRun0_A.sl.r_49, k0_pay40]
  simp only [leaf1]
  all_goals rfl

theorem p50 (s : Fin 8) (l : Fin 1280) : kernelRun0_A.sl.r_50 c a1 h1 x1 (ix2 s l) = M (ft x1 s l) 0 0 := by
  pointwise [kernelRun0_A.sl.r_50, k0_pay41, k0_pay38]
  simp only [p37 c a0 h0 a1 h1 x0 x1 hR s l, leaf1]
  all_goals rfl

theorem p51 (s : Fin 8) (l : Fin 1280) : kernelRun0_A.sl.r_51 c a1 h1 x1 (ix2 s l) = M (ft x1 s l) 0 1 := by
  pointwise [kernelRun0_A.sl.r_51, k0_pay42, k0_pay39]
  simp only [p38 c a0 h0 a1 h1 x0 x1 hR s l, leaf1]
  all_goals rfl

theorem p52 (s : Fin 8) (l : Fin 1280) : kernelRun0_A.sl.r_52 c a1 h1 x1 (ix2 s l) = M (ft x1 s l) 0 2 := by
  pointwise [kernelRun0_A.sl.r_52, k0_pay43, k0_pay40]
  simp only [p39 c a0 h0 a1 h1 x0 x1 hR s l, leaf1]
  all_goals rfl

theorem p53 (s : Fin 8) (l : Fin 1280) : kernelRun0_A.sl.r_53 c a1 h1 x1 (ix2 s l) = M (ft x1 s l) 1 0 := by
  pointwise [kernelRun0_A.sl.r_53, k0_pay44, k0_pay38]
  simp only [p40 c a0 h0 a1 h1 x0 x1 hR s l, leaf1]
  all_goals rfl

theorem p54 (s : Fin 8) (l : Fin 1280) : kernelRun0_A.sl.r_54 c a1 h1 x1 (ix2 s l) = M (ft x1 s l) 1 1 := by
  pointwise [kernelRun0_A.sl.r_54, k0_pay45, k0_pay39]
  simp only [p41 c a0 h0 a1 h1 x0 x1 hR s l, leaf1]
  all_goals rfl

theorem p55 (s : Fin 8) (l : Fin 1280) : kernelRun0_A.sl.r_55 c a1 h1 x1 (ix2 s l) = M (ft x1 s l) 1 2 := by
  pointwise [kernelRun0_A.sl.r_55, k0_pay46, k0_pay40]
  simp only [p42 c a0 h0 a1 h1 x0 x1 hR s l, p43 c a0 h0 a1 h1 x0 x1 hR s l, leaf1]
  all_goals rfl

theorem p56 (s : Fin 8) (l : Fin 1280) : kernelRun0_A.sl.r_56 c a1 h1 x1 (ix2 s l) = S (ft x1 s l) 0 0 := by
  pointwise [kernelRun0_A.sl.r_56, k0_pay51]
  simp only [p50 c a0 h0 a1 h1 x0 x1 hR s l, p51 c a0 h0 a1 h1 x0 x1 hR s l, p52 c a0 h0 a1 h1 x0 x1 hR s l, leaf1]
  simp only [S, dot]
  all_goals rfl

theorem p57 (s : Fin 8) (l : Fin 1280) : kernelRun0_A.sl.r_57 c a1 h1 x1 (ix2 s l) = S (ft x1 s l) 0 1 := by
  pointwise [kernelRun0_A.sl.r_57, k0_pay52, k0_pay47]
  simp only [p50 c a0 h0 a1 h1 x0 x1 hR s l, p51 c a0 h0 a1 h1 x0 x1 hR s l, p52 c a0 h0 a1 h1 x0 x1 hR s l, p53 c a0 h0 a1 h1 x0 x1 hR s l, p54 c a0 h0 a1 h1 x0 x1 hR s l, p55 c a0 h0 a1 h1 x0 x1 hR s l, leaf1]
  simp only [S, dot]
  all_goals rfl

theorem p58 (s : Fin 8) (l : Fin 1280) : kernelRun0_A.sl.r_58 c a1 h1 x1 (ix2 s l) = S (ft x1 s l) 0 2 := by
  pointwise [kernelRun0_A.sl.r_58, k0_pay53, k0_pay48, k0_pay49, k0_pay50]
  simp only [p44 c a0 h0 a1 h1 x0 x1 hR s l, p45 c a0 h0 a1 h1 x0 x1 hR s l, p46 c a0 h0 a1 h1 x0 x1 hR s l, p47 c a0 h0 a1 h1 x0 x1 hR s l, p48 c a0 h0 a1 h1 x0 x1 hR s l, p49 c a0 h0 a1 h1 x0 x1 hR s l, p50 c a0 h0 a1 h1 x0 x1 hR s l, p51 c a0 h0 a1 h1 x0 x1 hR s l, p52 c a0 h0 a1 h1 x0 x1 hR s l, leaf1]
  simp only [S, dot]
  all_goals rfl

theorem p59 (s : Fin 8) (l : Fin 1280) : kernelRun0_A.sl.r_59 c a1 h1 x1 (ix2 s l) = S (ft x1 s l) 1 1 := by
  pointwise [kernelRun0_A.sl.r_59, k0_pay54, k0_pay47]
  simp only [p53 c a0 h0 a1 h1 x0 x1 hR s l, p54 c a0 h0 a1 h1 x0 x1 hR s l, p55 c a0 h0 a1 h1 x0 x1 hR s l, leaf1]
  simp only [S, dot]
  all_goals rfl

theorem p60 (s : Fin 8) (l : Fin 1280) : kernelRun0_A.sl.r_60 c a1 h1 x1 (ix2 s l) = S (ft x1 s l) 1 2 := by
  pointwise [kernelRun0_A.sl.r_60, k0_pay55, k0_pay48, k0_pay49, k0_pay47, k0_pay50]
  simp only [p44 c a0 h0 a1 h1 x0 x1 hR s l, p45 c a0 h0 a1 h1 x0 x1 hR s l, p46 c a0 h0 a1 h1 x0 x1 hR s l, p47 c a0 h0 a1 h1 x0 x1 hR s l, p48 c a0 h0 a1 h1 x0 x1 hR s l, p49 c a0 h0 a1 h1 x0 x1 hR s l, p53 c a0 h0 a1 h1 x0 x1 hR s l, p54 c a0 h0 a1 h1 x0 x1 hR s l, p55 c a0 h0 a1 h1 x0 x1 hR s l, leaf1]
  simp only [S, dot]
  all_goals rfl

theorem p61 (s : Fin 8) (l : Fin 1280) : kernelRun0_A.sl.r_61 c a1 h1 x1 (ix2 s l) = S (ft x1 s l) 2 2 := by
  pointwise [kernelRun0_A.sl.r_61, k0_pay56, k0_pay48, k0_pay49, k0_pay50]
  simp only [p44 c a0 h0 a1 h1 x0 x1 hR s l, p45 c a0 h0 a1 h1 x0 x1 hR s l, p46 c a0 h0 a1 h1 x0 x1 hR s l, p47 c a0 h0 a1 h1 x0 x1 hR s l, p48 c a0 h0 a1 h1 x0 x1 hR s l, p49 c a0 h0 a1 h1 x0 x1 hR s l, leaf1]
  simp only [S, dot]
  all_goals rfl

theorem p62 (s : Fin 8) (l : Fin 1280) : kernelRun0_A.sl.r_62 c a0 h0 a1 h1 x0 x1 (ix2 s l) = jd (ft x1 s l) (Rm x0) (tv x0) := by
  pointwise [kernelRun0_A.sl.r_62, k0_pay57]
  simp only [p28 c a0 h0 a1 h1 x0 x1 hR s l, leaf1]
  all_goals rfl

theorem p63 (s : Fin 8) (l : Fin 1280) : kernelRun0_A.sl.r_63 c a0 h0 a1 h1 x0 x1 (ix2 s l) = k 0xC1F00000#32 * pc (ft x1 s l) (Rm x0) (tv x0) 0 := by
  pointwise [kernelRun0_A.sl.r_63, k0_pay58]
  simp only [p26 c a0 h0 a1 h1 x0 x1 hR s l, leaf1]
  all_goals rfl

theorem p64 (s : Fin 8) (l : Fin 1280) : kernelRun0_A.sl.r_64 c a0 h0 a1 h1 x0 x1 (ix2 s l) = T (ft x1 s l) (Rm x0) (tv x0) 0 0 := by
  pointwise [kernelRun0_A.sl.r_64, k0_pay62, k0_pay59]
  simp only [s12 c a0 h0 a1 h1 x0 x1 hR, s18 c a0 h0 a1 h1 x0 x1 hR, p28 c a0 h0 a1 h1 x0 x1 hR s l, p62 c a0 h0 a1 h1 x0 x1 hR s l, p63 c a0 h0 a1 h1 x0 x1 hR s l, leaf1]
  all_goals rfl

theorem p65 (s : Fin 8) (l : Fin 1280) : kernelRun0_A.sl.r_65 c a0 h0 a1 h1 x0 x1 (ix2 s l) = T (ft x1 s l) (Rm x0) (tv x0) 0 1 := by
  pointwise [kernelRun0_A.sl.r_65, k0_pay63, k0_pay59]
  simp only [s13 c a0 h0 a1 h1 x0 x1 hR, s19 c a0 h0 a1 h1 x0 x1 hR, p28 c a0 h0 a1 h1 x0 x1 hR s l, p62 c a0 h0 a1 h1 x0 x1 hR s l, p63 c a0 h0 a1 h1 x0 x1 hR s l, leaf1]
  all_goals rfl

theorem p66 (s : Fin 8) (l : Fin 1280) : kernelRun0_A.sl.r_66 c a0 h0 a1 h1 x0 x1 (ix2 s l) = T (ft x1 s l) (Rm x0) (tv x0) 0 2 := by
  pointwise [kernelRun0_A.sl.r_66, k0_pay64, k0_pay59]
  simp only [s14 c a0 h0 a1 h1 x0 x1 hR, s20 c a0 h0 a1 h1 x0 x1 hR, p28 c a0 h0 a1 h1 x0 x1 hR s l, p62 c a0 h0 a1 h1 x0 x1 hR s l, p63 c a0 h0 a1 h1 x0 x1 hR s l, leaf1]
  all_goals rfl

theorem p67 (s : Fin 8) (l : Fin 1280) : kernelRun0_A.sl.r_67 c a0 h0 a1 h1 x0 x1 (ix2 s l) = T (ft x1 s l) (Rm x0) (tv x0) 1 0 := by
  pointwise [kernelRun0_A.sl.r_67, k0_pay65, k0_pay60, k0_pay61]
  simp only [s15 c a0 h0 a1 h1 x0 x1 hR, s18 c a0 h0 a1 h1 x0 x1 hR, p27 c a0 h0 a1 h1 x0 x1 hR s l, p28 c a0 h0 a1 h1 x0 x1 hR s l, leaf1]
  all_goals rfl

theorem p68 (s : Fin 8) (l : Fin 1280) : kernelRun0_A.sl.r_68 c a0 h0 a1 h1 x0 x1 (ix2 s l) = T (ft x1 s l) (Rm x0) (tv x0) 1 1 := by
  pointwise [kernelRun0_A.sl.r_68, k0_pay66, k0_pay60, k0_pay61]
  simp only [s16 c a0 h0 a1 h1 x0 x1 hR, s19 c a0 h0 a1 h1 x0 x1 hR, p27 c a0 h0 a1 h1 x0 x1 hR s l, p28 c a0 h0 a1 h1 x0 x1 hR s l, leaf1]
  all_goals rfl

theorem p69 (s : Fin 8) (l : Fin 1280) : kernelRun0_A.sl.r_69 c a0 h0 a1 h1 x0 x1 (ix2 s l) = T (ft x1 s l) (Rm x0) (tv x0) 1 2 := by
  pointwise [kernelRun0_A.sl.r_69, k0_pay67, k0_pay60, k0_pay61]
  simp only [s17 c a0 h0 a1 h1 x0 x1 hR, s20 c a0 h0 a1 h1 x0 x1 hR, p27 c a0 h0 a1 h1 x0 x1 hR s l, p28 c a0 h0 a1 h1 x0 x1 hR s l, leaf1]
  all_goals rfl

theorem p70 (s : Fin 8) (l : Fin 1280) : kernelRun0_A.sl.r_70 c a0 h0 a1 h1 x0 x1 (ix2 s l) = T (ft x1 s l) (Rm x0) (tv x0) 0 0 * S (ft x1 s l) 0 0 := by
  pointwise [kernelRun0_A.sl.r_70, k0_pay68, k0_pay62, k0_pay59]
  simp only [s12 c a0 h0 a1 h1 x0 x1 hR, s18 c a0 h0 a1 h1 x0 x1 hR, p28 c a0 h0 a1 h1 x0 x1 hR s l, p56 c a0 h0 a1 h1 x0 x1 hR s l, p62 c a0 h0 a1 h1 x0 x1 hR s l, p63 c a0 h0 a1 h1 x0 x1 hR s l, leaf1]
  all_goals rfl

theorem p71 (s : Fin 8) (l : Fin 1280) : kernelRun0_A.sl.r_71 c a0 h0 a1 h1 x0 x1 (ix2 s l) = T (ft x1 s l) (Rm x0) (tv x0) 0 1 * S (ft x1 s l) 0 1 := by
  pointwise [kernelRun0_A.sl.r_71, k0_pay69, k0_pay63, k0_pay59]
  simp only [s13 c a0 h0 a1 h1 x0 x1 hR, s19 c a0 h0 a1 h1 x0 x1 hR, p28 c a0 h0 a1 h1 x0 x1 hR s l, p57 c a0 h0 a1 h1 x0 x1 hR s l, p62 c a0 h0 a1 h1 x0 x1 hR s l, p63 c a0 h0 a1 h1 x0 x1 hR s l, leaf1]
  all_goals rfl

theorem p72 (s : Fin 8) (l : Fin 1280) : kernelRun0_A.sl.r_72 c a0 h0 a1 h1 x0 x1 (ix2 s l) = ca (ft x1 s l) (Rm x0) (tv x0) := by
  pointwise [kernelRun0_A.sl.r_72, k0_pay73, k0_pay70, k0_pay71, k0_pay72]
  simp only [p57 c a0 h0 a1 h1 x0 x1 hR s l, p58 c a0 h0 a1 h1 x0 x1 hR s l, p59 c a0 h0 a1 h1 x0 x1 hR s l, p60 c a0 h0 a1 h1 x0 x1 hR s l, p61 c a0 h0 a1 h1 x0 x1 hR s l, p64 c a0 h0 a1 h1 x0 x1 hR s l, p65 c a0 h0 a1 h1 x0 x1 hR s l, p66 c a0 h0 a1 h1 x0 x1 hR s l, p70 c a0 h0 a1 h1 x0 x1 hR s l, p71 c a0 h0 a1 h1 x0 x1 hR s l, leaf1]
  simp only [ca, cb, P, dot, S_comm _ 1 0, S_comm _ 2 0, S_comm _ 2 1]

theorem p73 (s : Fin 8) (l : Fin 1280) : kernelRun0_A.sl.r_73 c a0 h0 a1 h1 x0 x1 (ix2 s l) = cb (ft x1 s l) (Rm x0) (tv x0) := by
  pointwise [kernelRun0_A.sl.r_73, k0_pay74, k0_pay70, k0_pay71, k0_pay72]
  simp only [p57 c a0 h0 a1 h1 x0 x1 hR s l, p58 c a0 h0 a1 h1 x0 x1 hR s l, p59 c a0 h0 a1 h1 x0 x1 hR s l, p60 c a0 h0 a1 h1 x0 x1 hR s l, p61 c a0 h0 a1 h1 x0 x1 hR s l, p64 c a0 h0 a1 h1 x0 x1 hR s l, p65 c a0 h0 a1 h1 x0 x1 hR s l, p66 c a0 h0 a1 h1 x0 x1 hR s l, p67 c a0 h0 a1 h1 x0 x1 hR s l, p68 c a0 h0 a1 h1 x0 x1 hR s l, p69 c a0 h0 a1 h1 x0 x1 hR s l, p70 c a0 h0 a1 h1 x0 x1 hR s l, p71 c a0 h0 a1 h1 x0 x1 hR s l, leaf1]
  simp only [ca, cb, P, dot, S_comm _ 1 0, S_comm _ 2 0, S_comm _ 2 1]

theorem p74 (s : Fin 8) (l : Fin 1280) : kernelRun0_A.sl.r_74 c a0 h0 a1 h1 x0 x1 (ix2 s l) = dot (P (ft x1 s l) (Rm x0) (tv x0) 1) (T (ft x1 s l) (Rm x0) (tv x0) 1) := by
  pointwise [kernelRun0_A.sl.r_74, k0_pay75]
  simp only [p56 c a0 h0 a1 h1 x0 x1 hR s l, p57 c a0 h0 a1 h1 x0 x1 hR s l, p58 c a0 h0 a1 h1 x0 x1 hR s l, p59 c a0 h0 a1 h1 x0 x1 hR s l, p60 c a0 h0 a1 h1 x0 x1 hR s l, p61 c a0 h0 a1 h1 x0 x1 hR s l, p67 c a0 h0 a1 h1 x0 x1 hR s l, p68 c a0 h0 a1 h1 x0 x1 hR s l, p69 c a0 h0 a1 h1 x0 x1 hR s l, leaf1]
  simp only [ca, cb, P, dot, S_comm _ 1 0, S_comm _ 2 0, S_comm _ 2 1]

theorem p75 (s : Fin 8) (l : Fin 1280) : kernelRun0_A.sl.r_75 c a0 h0 a1 h1 x0 x1 (ix2 s l) = ea (ft x1 s l) (Rm x0) (tv x0) := by
  pointwise [kernelRun0_A.sl.r_75, k0_pay79, k0_pay77, k0_pay78, k0_pay76]
  simp only [p72 c a0 h0 a1 h1 x0 x1 hR s l, p73 c a0 h0 a1 h1 x0 x1 hR s l, p74 c a0 h0 a1 h1 x0 x1 hR s l, leaf1]
  simp only [IdealRules.named_const.ideal_named_scalar, ea, eb, ec, cc, det, kh, kl]
  all_goals rfl

theorem p76 (s : Fin 8) (l : Fin 1280) : kernelRun0_A.sl.r_76 c a0 h0 a1 h1 x0 x1 (ix2 s l) = eb (ft x1 s l) (Rm x0) (tv x0) := by
  pointwise [kernelRun0_A.sl.r_76, k0_pay80, k0_pay78, k0_pay77, k0_pay76]
  simp only [p72 c a0 h0 a1 h1 x0 x1 hR s l, p73 c a0 h0 a1 h1 x0 x1 hR s l, p74 c a0 h0 a1 h1 x0 x1 hR s l, leaf1]
  simp only [IdealRules.named_const.ideal_named_scalar, ea, eb, ec, cc, det, kh, kl]
  all_goals rfl

theorem p77 (s : Fin 8) (l : Fin 1280) : kernelRun0_A.sl.r_77 c a0 h0 a1 h1 x0 x1 (ix2 s l) = ec (ft x1 s l) (Rm x0) (tv x0) := by
  pointwise [kernelRun0_A.sl.r_77, k0_pay81, k0_pay78, k0_pay77, k0_pay76]
  simp only [p72 c a0 h0 a1 h1 x0 x1 hR s l, p73 c a0 h0 a1 h1 x0 x1 hR s l, p74 c a0 h0 a1 h1 x0 x1 hR s l, leaf1]
  simp only [IdealRules.named_const.ideal_named_scalar, ea, eb, ec, cc, det, kh, kl]
  all_goals rfl

theorem p78 (s : Fin 8) (l : Fin 1280) : kernelRun0_A.sl.r_78 c a0 h0 a1 h1 x0 x1 (ix2 s l) = area (ft x1 s l) (Rm x0) (tv x0) 0 := by
  pointwise [kernelRun0_A.sl.r_78, k0_pay82]
  simp only [p72 c a0 h0 a1 h1 x0 x1 hR s l, leaf1]
  all_goals rfl

theorem p79 (s : Fin 8) (l : Fin 1280) : kernelRun0_A.sl.r_79 c a0 h0 a1 h1 x0 x1 (ix2 s l) = area (ft x1 s l) (Rm x0) (tv x0) 1 := by
  pointwise [kernelRun0_A.sl.r_79, k0_pay83, k0_pay77, k0_pay76]
  simp only [p74 c a0 h0 a1 h1 x0 x1 hR s l, leaf1]
  all_goals rfl

theorem p80 (s : Fin 8) (l : Fin 1280) : kernelRun0_A.sl.r_80 c a0 h0 a1 h1 x0 x1 (ix2 s l) = dir (ft x1 s l) (Rm x0) (tv x0) 0 := by
  pointwise [kernelRun0_A.sl.r_80, kernelRun0_A.sl.r_21, k0_pay84, k0_pay7]
  simp only [s0 c a0 h0 a1 h1 x0 x1 hR, s3 c a0 h0 a1 h1 x0 x1 hR, s6 c a0 h0 a1 h1 x0 x1 hR, s9 c a0 h0 a1 h1 x0 x1 hR, s10 c a0 h0 a1 h1 x0 x1 hR, s11 c a0 h0 a1 h1 x0 x1 hR, leaf1]
  all_goals rfl

theorem p81 (s : Fin 8) (l : Fin 1280) : kernelRun0_A.sl.r_81 c a0 h0 a1 h1 x0 x1 (ix2 s l) = dir (ft x1 s l) (Rm x0) (tv x0) 1 := by
  pointwise [kernelRun0_A.sl.r_81, kernelRun0_A.sl.r_22, k0_pay85, k0_pay8]
  simp only [s1 c a0 h0 a1 h1 x0 x1 hR, s4 c a0 h0 a1 h1 x0 x1 hR, s7 c a0 h0 a1 h1 x0 x1 hR, s9 c a0 h0 a1 h1 x0 x1 hR, s10 c a0 h0 a1 h1 x0 x1 hR, s11 c a0 h0 a1 h1 x0 x1 hR, leaf1]
  all_goals rfl

theorem p82 (s : Fin 8) (l : Fin 1280) : kernelRun0_A.sl.r_82 c a0 h0 a1 h1 x0 x1 (ix2 s l) = dir (ft x1 s l) (Rm x0) (tv x0) 2 := by
  pointwise [kernelRun0_A.sl.r_82, kernelRun0_A.sl.r_23, k0_pay86, k0_pay9]
  simp only [s2 c a0 h0 a1 h1 x0 x1 hR, s5 c a0 h0 a1 h1 x0 x1 hR, s8 c a0 h0 a1 h1 x0 x1 hR, s9 c a0 h0 a1 h1 x0 x1 hR, s10 c a0 h0 a1 h1 x0 x1 hR, s11 c a0 h0 a1 h1 x0 x1 hR, leaf1]
  all_goals rfl

theorem p83 (s : Fin 8) (l : Fin 1280) : kernelRun0_A.sl.r_83 c a0 h0 a1 h1 x0 x1 (ix2 s l) = dir (ft x1 s l) (Rm x0) (tv x0) 0 * dir (ft x1 s l) (Rm x0) (tv x0) 0 + dir (ft x1 s l) (Rm x0) (tv x0) 1 * dir (ft x1 s l) (Rm x0) (tv x0) 1 := by
  pointwise [kernelRun0_A.sl.r_83, kernelRun0_A.sl.r_21, kernelRun0_A.sl.r_22, k0_pay87, k0_pay84, k0_pay85, k0_pay7, k0_pay8]
  simp only [s0 c a0 h0 a1 h1 x0 x1 hR, s1 c a0 h0 a1 h1 x0 x1 hR, s3 c a0 h0 a1 h1 x0 x1 hR, s4 c a0 h0 a1 h1 x0 x1 hR, s6 c a0 h0 a1 h1 x0 x1 hR, s7 c a0 h0 a1 h1 x0 x1 hR, s9 c a0 h0 a1 h1 x0 x1 hR, s10 c a0 h0 a1 h1 x0 x1 hR, s11 c a0 h0 a1 h1 x0 x1 hR, leaf1]
  all_goals rfl

theorem p84 (s : Fin 8) (l : Fin 1280) : kernelRun0_A.sl.r_84 c a0 h0 a1 h1 x0 x1 (ix2 s l) = dir (ft x1 s l) (Rm x0) (tv x0) 2 * dir (ft x1 s l) (Rm x0) (tv x0) 2 := by
  pointwise [kernelRun0_A.sl.r_84, kernelRun0_A.sl.r_23, k0_pay88, k0_pay86, k0_pay9]
  simp only [s2 c a0 h0 a1 h1 x0 x1 hR, s5 c a0 h0 a1 h1 x0 x1 hR, s8 c a0 h0 a1 h1 x0 x1 hR, s9 c a0 h0 a1 h1 x0 x1 hR, s10 c a0 h0 a1 h1 x0 x1 hR, s11 c a0 h0 a1 h1 x0 x1 hR, leaf1]
  all_goals rfl

theorem p85 (s : Fin 8) (l : Fin 1280) : kernelRun0_A.sl.r_85 c a0 h0 a1 h1 x0 x1 (ix2 s l) = d (ft x1 s l) (Rm x0) (tv x0) 0 := by
  pointwise [kernelRun0_A.sl.r_85, k0_pay90, k0_pay89]
  simp only [p80 c a0 h0 a1 h1 x0 x1 hR s l, p83 c a0 h0 a1 h1 x0 x1 hR s l, p84 c a0 h0 a1 h1 x0 x1 hR s l, leaf1]
  all_goals rfl

theorem p86 (s : Fin 8) (l : Fin 1280) : kernelRun0_A.sl.r_86 c a0 h0 a1 h1 x0 x1 (ix2 s l) = d (ft x1 s l) (Rm x0) (tv x0) 2 := by
  pointwise [kernelRun0_A.sl.r_86, k0_pay92, k0_pay89]
  simp only [p82 c a0 h0 a1 h1 x0 x1 hR s l, p83 c a0 h0 a1 h1 x0 x1 hR s l, p84 c a0 h0 a1 h1 x0 x1 hR s l, leaf1]
  all_goals rfl

theorem p87 (s : Fin 8) (l : Fin 1280) : kernelRun0_A.sl.r_87 c a0 h0 a1 h1 x0 x1 (ix2 s l) = d (ft x1 s l) (Rm x0) (tv x0) 0 * d (ft x1 s l) (Rm x0) (tv x0) 0 := by
  pointwise [kernelRun0_A.sl.r_87, k0_pay93, k0_pay90, k0_pay89]
  simp only [p80 c a0 h0 a1 h1 x0 x1 hR s l, p83 c a0 h0 a1 h1 x0 x1 hR s l, p84 c a0 h0 a1 h1 x0 x1 hR s l, leaf1]
  all_goals rfl

theorem p88 (s : Fin 8) (l : Fin 1280) : kernelRun0_A.sl.r_88 c a0 h0 a1 h1 x0 x1 (ix2 s l) = d (ft x1 s l) (Rm x0) (tv x0) 1 * d (ft x1 s l) (Rm x0) (tv x0) 1 := by
  pointwise [kernelRun0_A.sl.r_88, k0_pay94, k0_pay91, k0_pay89]
  simp only [p81 c a0 h0 a1 h1 x0 x1 hR s l, p83 c a0 h0 a1 h1 x0 x1 hR s l, p84 c a0 h0 a1 h1 x0 x1 hR s l, leaf1]
  all_goals rfl

theorem p89 (s : Fin 8) (l : Fin 1280) : kernelRun0_A.sl.r_89 c a0 h0 a1 h1 x0 x1 (ix2 s l) = d (ft x1 s l) (Rm x0) (tv x0) 2 * d (ft x1 s l) (Rm x0) (tv x0) 2 := by
  pointwise [kernelRun0_A.sl.r_89, k0_pay95, k0_pay92, k0_pay89]
  simp only [p82 c a0 h0 a1 h1 x0 x1 hR s l, p83 c a0 h0 a1 h1 x0 x1 hR s l, p84 c a0 h0 a1 h1 x0 x1 hR s l, leaf1]
  all_goals rfl

theorem p90 (s : Fin 8) (l : Fin 1280) : kernelRun0_A.sl.r_90 c a0 h0 a1 h1 x0 x1 (ix2 s l) = basis (d (ft x1 s l) (Rm x0) (tv x0) 0) (d (ft x1 s l) (Rm x0) (tv x0) 1) (d (ft x1 s l) (Rm x0) (tv x0) 2) 1 := by
  pointwise [kernelRun0_A.sl.r_90, k0_pay97, k0_pay91, k0_pay89]
  simp only [p81 c a0 h0 a1 h1 x0 x1 hR s l, p83 c a0 h0 a1 h1 x0 x1 hR s l, p84 c a0 h0 a1 h1 x0 x1 hR s l, leaf1]
  all_goals rfl

theorem p91 (s : Fin 8) (l : Fin 1280) : kernelRun0_A.sl.r_91 c a0 h0 a1 h1 x0 x1 (ix2 s l) = basis (d (ft x1 s l) (Rm x0) (tv x0) 0) (d (ft x1 s l) (Rm x0) (tv x0) 1) (d (ft x1 s l) (Rm x0) (tv x0) 2) 2 := by
  pointwise [kernelRun0_A.sl.r_91, k0_pay98, k0_pay92, k0_pay89]
  simp only [p82 c a0 h0 a1 h1 x0 x1 hR s l, p83 c a0 h0 a1 h1 x0 x1 hR s l, p84 c a0 h0 a1 h1 x0 x1 hR s l, leaf1]
  all_goals rfl

theorem p92 (s : Fin 8) (l : Fin 1280) : kernelRun0_A.sl.r_92 c a0 h0 a1 h1 x0 x1 (ix2 s l) = basis (d (ft x1 s l) (Rm x0) (tv x0) 0) (d (ft x1 s l) (Rm x0) (tv x0) 1) (d (ft x1 s l) (Rm x0) (tv x0) 2) 3 := by
  pointwise [kernelRun0_A.sl.r_92, k0_pay99, k0_pay90, k0_pay89]
  simp only [p80 c a0 h0 a1 h1 x0 x1 hR s l, p83 c a0 h0 a1 h1 x0 x1 hR s l, p84 c a0 h0 a1 h1 x0 x1 hR s l, leaf1]
  all_goals rfl

theorem p93 (s : Fin 8) (l : Fin 1280) : kernelRun0_A.sl.r_93 c a0 h0 a1 h1 x0 x1 (ix2 s l) = basis (d (ft x1 s l) (Rm x0) (tv x0) 0) (d (ft x1 s l) (Rm x0) (tv x0) 1) (d (ft x1 s l) (Rm x0) (tv x0) 2) 4 := by
  pointwise [kernelRun0_A.sl.r_93, k0_pay100, k0_pay96, k0_pay90, k0_pay89, k0_pay91]
  simp only [p80 c a0 h0 a1 h1 x0 x1 hR s l, p81 c a0 h0 a1 h1 x0 x1 hR s l, p83 c a0 h0 a1 h1 x0 x1 hR s l, p84 c a0 h0 a1 h1 x0 x1 hR s l, leaf1]
  all_goals rfl

theorem p94 (s : Fin 8) (l : Fin 1280) : kernelRun0_A.sl.r_94 c a0 h0 a1 h1 x0 x1 (ix2 s l) = basis (d (ft x1 s l) (Rm x0) (tv x0) 0) (d (ft x1 s l) (Rm x0) (tv x0) 1) (d (ft x1 s l) (Rm x0) (tv x0) 2) 5 := by
  pointwise [kernelRun0_A.sl.r_94, k0_pay101, k0_pay91, k0_pay89, k0_pay92]
  simp only [p81 c a0 h0 a1 h1 x0 x1 hR s l, p82 c a0 h0 a1 h1 x0 x1 hR s l, p83 c a0 h0 a1 h1 x0 x1 hR s l, p84 c a0 h0 a1 h1 x0 x1 hR s l, leaf1]
  all_goals rfl

theorem p95 (s : Fin 8) (l : Fin 1280) : kernelRun0_A.sl.r_95 c a0 h0 a1 h1 x0 x1 (ix2 s l) = basis (d (ft x1 s l) (Rm x0) (tv x0) 0) (d (ft x1 s l) (Rm x0) (tv x0) 1) (d (ft x1 s l) (Rm x0) (tv x0) 2) 6 := by
  pointwise [kernelRun0_A.sl.r_95, k0_pay102, k0_pay95, k0_pay92, k0_pay89, k0_pay93, k0_pay90, k0_pay94, k0_pay91]
  simp only [p80 c a0 h0 a1 h1 x0 x1 hR s l, p81 c a0 h0 a1 h1 x0 x1 hR s l, p82 c a0 h0 a1 h1 x0 x1 hR s l, p83 c a0 h0 a1 h1 x0 x1 hR s l, p84 c a0 h0 a1 h1 x0 x1 hR s l, leaf1]
  all_goals rfl

theorem p96 (s : Fin 8) (l : Fin 1280) : kernelRun0_A.sl.r_96 c a0 h0 a1 h1 x0 x1 (ix2 s l) = basis (d (ft x1 s l) (Rm x0) (tv x0) 0) (d (ft x1 s l) (Rm x0) (tv x0) 1) (d (ft x1 s l) (Rm x0) (tv x0) 2) 7 := by
  pointwise [kernelRun0_A.sl.r_96, k0_pay103, k0_pay90, k0_pay89, k0_pay92]
  simp only [p80 c a0 h0 a1 h1 x0 x1 hR s l, p82 c a0 h0 a1 h1 x0 x1 hR s l, p83 c a0 h0 a1 h1 x0 x1 hR s l, p84 c a0 h0 a1 h1 x0 x1 hR s l, leaf1]
  all_goals rfl

theorem p97 (s : Fin 8) (l : Fin 1280) : kernelRun0_A.sl.r_97 c a0 h0 a1 h1 x0 x1 (ix2 s l) = basis (d (ft x1 s l) (Rm x0) (tv x0) 0) (d (ft x1 s l) (Rm x0) (tv x0) 1) (d (ft x1 s l) (Rm x0) (tv x0) 2) 8 := by
  pointwise [kernelRun0_A.sl.r_97, k0_pay104, k0_pay93, k0_pay90, k0_pay89, k0_pay94, k0_pay91]
  simp only [p80 c a0 h0 a1 h1 x0 x1 hR s l, p81 c a0 h0 a1 h1 x0 x1 hR s l, p83 c a0 h0 a1 h1 x0 x1 hR s l, p84 c a0 h0 a1 h1 x0 x1 hR s l, leaf1]
  all_goals rfl

theorem p98 (s : Fin 8) (l : Fin 1280) : kernelRun0_A.sl.r_98 c a0 h0 a1 h1 x0 x1 (ix2 s l) = basis (d (ft x1 s l) (Rm x0) (tv x0) 0) (d (ft x1 s l) (Rm x0) (tv x0) 1) (d (ft x1 s l) (Rm x0) (tv x0) 2) 9 := by
  pointwise [kernelRun0_A.sl.r_98, k0_pay105, k0_pay91, k0_pay89, k0_pay93, k0_pay90, k0_pay94]
  simp only [p80 c a0 h0 a1 h1 x0 x1 hR s l, p81 c a0 h0 a1 h1 x0 x1 hR s l, p83 c a0 h0 a1 h1 x0 x1 hR s l, p84 c a0 h0 a1 h1 x0 x1 hR s l, leaf1]
  all_goals rfl

theorem p99 (s : Fin 8) (l : Fin 1280) : kernelRun0_A.sl.r_99 c a0 h0 a1 h1 x0 x1 (ix2 s l) = basis (d (ft x1 s l) (Rm x0) (tv x0) 0) (d (ft x1 s l) (Rm x0) (tv x0) 1) (d (ft x1 s l) (Rm x0) (tv x0) 2) 10 := by
  pointwise [kernelRun0_A.sl.r_99, k0_pay106, k0_pay96, k0_pay90, k0_pay89, k0_pay91, k0_pay92]
  simp only [p80 c a0 h0 a1 h1 x0 x1 hR s l, p81 c a0 h0 a1 h1 x0 x1 hR s l, p82 c a0 h0 a1 h1 x0 x1 hR s l, p83 c a0 h0 a1 h1 x0 x1 hR s l, p84 c a0 h0 a1 h1 x0 x1 hR s l, leaf1]
  all_goals rfl

theorem p101 (s : Fin 8) (l : Fin 1280) : kernelRun0_A.sl.r_101 c a0 h0 a1 h1 x0 x1 (ix2 s l) = basis (d (ft x1 s l) (Rm x0) (tv x0) 0) (d (ft x1 s l) (Rm x0) (tv x0) 1) (d (ft x1 s l) (Rm x0) (tv x0) 2) 11 := by
  pointwise [kernelRun0_A.sl.r_101, kernelRun0_A.sl.r_100, kernelRun0_A.sl.cst_68, k0_pay108, k0_pay107, k0_pay91, k0_pay89]
  simp only [p87 c a0 h0 a1 h1 x0 x1 hR s l, p88 c a0 h0 a1 h1 x0 x1 hR s l, p89 c a0 h0 a1 h1 x0 x1 hR s l, p81 c a0 h0 a1 h1 x0 x1 hR s l, p83 c a0 h0 a1 h1 x0 x1 hR s l, p84 c a0 h0 a1 h1 x0 x1 hR s l, leaf1]
  all_goals rfl

theorem p102 (s : Fin 8) (l : Fin 1280) : kernelRun0_A.sl.r_102 c a0 h0 a1 h1 x0 x1 (ix2 s l) = basis (d (ft x1 s l) (Rm x0) (tv x0) 0) (d (ft x1 s l) (Rm x0) (tv x0) 1) (d (ft x1 s l) (Rm x0) (tv x0) 2) 12 := by
  pointwise [kernelRun0_A.sl.r_102, k0_pay109]
  simp only [p86 c a0 h0 a1 h1 x0 x1 hR s l, p87 c a0 h0 a1 h1 x0 x1 hR s l, p88 c a0 h0 a1 h1 x0 x1 hR s l, p89 c a0 h0 a1 h1 x0 x1 hR s l, leaf1]
  all_goals rfl

theorem p103 (s : Fin 8) (l : Fin 1280) : kernelRun0_A.sl.r_103 c a0 h0 a1 h1 x0 x1 (ix2 s l) = basis (d (ft x1 s l) (Rm x0) (tv x0) 0) (d (ft x1 s l) (Rm x0) (tv x0) 1) (d (ft x1 s l) (Rm x0) (tv x0) 2) 13 := by
  pointwise [kernelRun0_A.sl.r_103, k0_pay110]
  simp only [p85 c a0 h0 a1 h1 x0 x1 hR s l, p87 c a0 h0 a1 h1 x0 x1 hR s l, p88 c a0 h0 a1 h1 x0 x1 hR s l, p89 c a0 h0 a1 h1 x0 x1 hR s l, leaf1]
  all_goals rfl

theorem p104 (s : Fin 8) (l : Fin 1280) : kernelRun0_A.sl.r_104 c a0 h0 a1 h1 x0 x1 (ix2 s l) = basis (d (ft x1 s l) (Rm x0) (tv x0) 0) (d (ft x1 s l) (Rm x0) (tv x0) 1) (d (ft x1 s l) (Rm x0) (tv x0) 2) 14 := by
  pointwise [kernelRun0_A.sl.r_104, k0_pay111]
  simp only [p86 c a0 h0 a1 h1 x0 x1 hR s l, p87 c a0 h0 a1 h1 x0 x1 hR s l, p88 c a0 h0 a1 h1 x0 x1 hR s l, leaf1]
  all_goals rfl

theorem p105 (s : Fin 8) (l : Fin 1280) : kernelRun0_A.sl.r_105 c a0 h0 a1 h1 x0 x1 (ix2 s l) = basis (d (ft x1 s l) (Rm x0) (tv x0) 0) (d (ft x1 s l) (Rm x0) (tv x0) 1) (d (ft x1 s l) (Rm x0) (tv x0) 2) 15 := by
  pointwise [kernelRun0_A.sl.r_105, k0_pay112]
  simp only [p85 c a0 h0 a1 h1 x0 x1 hR s l, p87 c a0 h0 a1 h1 x0 x1 hR s l, p88 c a0 h0 a1 h1 x0 x1 hR s l, leaf1]
  all_goals rfl

theorem p108 (s : Fin 8) (l : Fin 1280) : kernelRun0_A.sl.r_108 c a0 h0 a1 h1 x0 x1 (ix2 s l) = col (ft x1 s l) (Rm x0) (tv x0) 0 := by
  pointwise [kernelRun0_A.sl.r_108, kernelRun0_A.sl.r_107, kernelRun0_A.sl.r_106, k0_pay115, k0_pay114, k0_pay113]
  simp only [p101 c a0 h0 a1 h1 x0 x1 hR s l, p102 c a0 h0 a1 h1 x0 x1 hR s l, p103 c a0 h0 a1 h1 x0 x1 hR s l, p104 c a0 h0 a1 h1 x0 x1 hR s l, p105 c a0 h0 a1 h1 x0 x1 hR s l, p91 c a0 h0 a1 h1 x0 x1 hR s l, p92 c a0 h0 a1 h1 x0 x1 hR s l, p93 c a0 h0 a1 h1 x0 x1 hR s l, p94 c a0 h0 a1 h1 x0 x1 hR s l, p95 c a0 h0 a1 h1 x0 x1 hR s l, p96 c a0 h0 a1 h1 x0 x1 hR s l, p97 c a0 h0 a1 h1 x0 x1 hR s l, p98 c a0 h0 a1 h1 x0 x1 hR s l, p99 c a0 h0 a1 h1 x0 x1 hR s l, p90 c a0 h0 a1 h1 x0 x1 hR s l, leaf1]
  all_goals rfl

theorem p112 (s : Fin 8) (l : Fin 1280) : kernelRun0_A.sl.r_112 c a0 h0 a1 h1 x0 x1 (ix2 s l) = col (ft x1 s l) (Rm x0) (tv x0) 1 := by
  pointwise [kernelRun0_A.sl.r_112, kernelRun0_A.sl.r_110, kernelRun0_A.sl.r_109, kernelRun0_A.sl.r_111, k0_pay119, k0_pay117, k0_pay116, k0_pay118]
  simp only [p101 c a0 h0 a1 h1 x0 x1 hR s l, p102 c a0 h0 a1 h1 x0 x1 hR s l, p103 c a0 h0 a1 h1 x0 x1 hR s l, p104 c a0 h0 a1 h1 x0 x1 hR s l, p105 c a0 h0 a1 h1 x0 x1 hR s l, p91 c a0 h0 a1 h1 x0 x1 hR s l, p92 c a0 h0 a1 h1 x0 x1 hR s l, p93 c a0 h0 a1 h1 x0 x1 hR s l, p94 c a0 h0 a1 h1 x0 x1 hR s l, p95 c a0 h0 a1 h1 x0 x1 hR s l, p96 c a0 h0 a1 h1 x0 x1 hR s l, p97 c a0 h0 a1 h1 x0 x1 hR s l, p98 c a0 h0 a1 h1 x0 x1 hR s l, p90 c a0 h0 a1 h1 x0 x1 hR s l, p99 c a0 h0 a1 h1 x0 x1 hR s l, leaf1]
  all_goals rfl

theorem p116 (s : Fin 8) (l : Fin 1280) : kernelRun0_A.sl.r_116 c a0 h0 a1 h1 x0 x1 (ix2 s l) = col (ft x1 s l) (Rm x0) (tv x0) 2 := by
  pointwise [kernelRun0_A.sl.r_116, kernelRun0_A.sl.r_114, kernelRun0_A.sl.r_113, kernelRun0_A.sl.r_115, k0_pay123, k0_pay121, k0_pay120, k0_pay122]
  simp only [p99 c a0 h0 a1 h1 x0 x1 hR s l, p101 c a0 h0 a1 h1 x0 x1 hR s l, p102 c a0 h0 a1 h1 x0 x1 hR s l, p103 c a0 h0 a1 h1 x0 x1 hR s l, p104 c a0 h0 a1 h1 x0 x1 hR s l, p105 c a0 h0 a1 h1 x0 x1 hR s l, p91 c a0 h0 a1 h1 x0 x1 hR s l, p92 c a0 h0 a1 h1 x0 x1 hR s l, p93 c a0 h0 a1 h1 x0 x1 hR s l, p94 c a0 h0 a1 h1 x0 x1 hR s l, p95 c a0 h0 a1 h1 x0 x1 hR s l, p96 c a0 h0 a1 h1 x0 x1 hR s l, p97 c a0 h0 a1 h1 x0 x1 hR s l, p98 c a0 h0 a1 h1 x0 x1 hR s l, p90 c a0 h0 a1 h1 x0 x1 hR s l, leaf1]
  all_goals rfl

theorem p117 (s : Fin 8) (l : Fin 1280) : kernelRun0_A.sl.r_117 c a1 h1 x1 (ix2 s l) = al (ft x1 s l) := by
  pointwise [kernelRun0_A.sl.r_117, k0_pay124]
  simp only [leaf1]
  all_goals rfl

end Cert.KernelIdeal.Own
end
-- ==== Proof.StageOut.lean ====
/-
  What the staging call leaves in its two arrays: at row `r`, sublane `s`, lane `l`, attribute `r` (or size `r`) of the
  Gaussian staged at that sublane and lane.
-/
module

public import proofs.«01_k».proof.Proof.KernelIdealRun
public import proofs.«01_k».proof.Proof.StageValue
public import Idealize.ShloMosaic.Lib.WritesUnit

@[expose] public section

set_option maxRecDepth 16384

noncomputable section

namespace Cert.KernelIdeal.Own

open Cert.KernelIdeal Cert.KernelIdeal.Gen Cert.Proof.Scene
open Idealize.ShloMosaic Idealize.ShloMosaic.Pointwise Idealize.ShloMosaic.TcCoe
open Idealize.ShloMosaic.Pipeline (Dat)

theorem top_bits : Ideal.ofBits .f32 0x7F800000#32 = ⊤ := by
  simp [Ideal.ofBits, Ideal.ieee]

theorem mask (s : Fin 8) (l : Fin 1280) : k0_pay125 (ix2 s l) = 1#1 ↔ 10000 ≤ s.val * 1280 + l.val := by
  pointwise [k0_pay125]
  have e : IntOp.addi (IntOp.muli (BitVec.ofNat 32 s.val) 1280#32) (BitVec.ofNat 32 l.val) = BitVec.ofNat 32 (s.val * 1280 + l.val) := by
    apply BitVec.eq_of_toNat_eq
    simp [IntOp.addi, IntOp.muli]
  rw [e]
  have hs := s.isLt
  have hl := l.isLt
  have h : (10000#32 : BitVec 32).sle (BitVec.ofNat 32 (s.val * 1280 + l.val)) = true ↔ 10000 ≤ s.val * 1280 + l.val := by
    have hm : (s.val * 1280 + l.val) % 2 ^ 32 = s.val * 1280 + l.val := Nat.mod_eq_of_lt (by omega)
    rw [BitVec.sle_iff_toInt_le, BitVec.toInt_eq_toNat_of_lt (by simp), BitVec.toInt_eq_toNat_of_lt (by rw [BitVec.toNat_ofNat, hm]; omega), BitVec.toNat_ofNat, BitVec.toNat_ofNat, hm]
    omega
  change BitVec.ofBool ((10000#32 : BitVec 32).sle (BitVec.ofNat 32 (s.val * 1280 + l.val))) = 1#1 ↔ _
  rw [← h]
  cases (10000#32 : BitVec 32).sle (BitVec.ofNat 32 (s.val * 1280 + l.val)) <;> decide

variable (c : Dev nD) (a0 : Memref sig .tc .smem S32 .f32) (h0 : a0.IsWhole) (a1 : Memref sig .tc .vmem S64x8x1280 .f32) (h1 : a1.IsWhole)
  (a2 : Memref sig .tc .vmem S10x8x1280 .f32) (h2 : a2.IsWhole) (a3 : Memref sig .tc .vmem S2x8x1280 .f32) (h3 : a3.IsWhole)
  (x0 : Vec Ideal S32 .f32) (x1 : Vec Ideal S64x8x1280 .f32) (hR : Rc x0 = Rm x0)

include hR

theorem row0 (s : Fin 8) (l : Fin 1280) : out0_A_2 (F := Ideal) c a0 h0 a1 h1 a2 h2 a3 h3 x0 x1 (ix3 0 s l)
    = attr (ft x1 s l) (Rm x0) (tv x0) (10000 ≤ s.val * 1280 + l.val) 0 := by
  unfold out0_A_2 kernelRun0_A
  dsimp only
  rw [View.read_writes_cons_unit_of_not_mem _ _ _ _ _ _ rfl (0 : Fin 3) (Or.inl (by change 0 < 9; omega))]
  rw [View.read_writes_cons_unit_of_not_mem _ _ _ _ _ _ rfl (0 : Fin 3) (Or.inl (by change 0 < 8; omega))]
  rw [View.read_writes_cons_unit_of_not_mem _ _ _ _ _ _ rfl (0 : Fin 3) (Or.inl (by change 0 < 7; omega))]
  rw [View.read_writes_cons_unit_of_not_mem _ _ _ _ _ _ rfl (0 : Fin 3) (Or.inl (by change 0 < 6; omega))]
  rw [View.read_writes_cons_unit_of_not_mem _ _ _ _ _ _ rfl (0 : Fin 3) (Or.inl (by change 0 < 5; omega))]
  rw [View.read_writes_cons_unit_of_not_mem _ _ _ _ _ _ rfl (0 : Fin 3) (Or.inl (by change 0 < 4; omega))]
  rw [View.read_writes_cons_unit_of_not_mem _ _ _ _ _ _ rfl (0 : Fin 3) (Or.inl (by change 0 < 3; omega))]
  rw [View.read_writes_cons_unit_of_not_mem _ _ _ _ _ _ rfl (0 : Fin 3) (Or.inl (by change 0 < 2; omega))]
  rw [View.read_writes_cons_unit_of_not_mem _ _ _ _ _ _ rfl (0 : Fin 3) (Or.inl (by change 0 < 1; omega))]
  refine (View.read_writes_cons_unit_of_mem _ _ _ _ _ _ (by exact ix3 (0 : Fin 1) s l) rfl ?_).trans ?_
  · intro a; fin_cases a <;> simp
  pointwise [k0_pay127]
  simp only [p29 c a0 h0 a1 h1 x0 x1 hR s l]
  rfl

theorem row1 (s : Fin 8) (l : Fin 1280) : out0_A_2 (F := Ideal) c a0 h0 a1 h1 a2 h2 a3 h3 x0 x1 (ix3 1 s l)
    = attr (ft x1 s l) (Rm x0) (tv x0) (10000 ≤ s.val * 1280 + l.val) 1 := by
  unfold out0_A_2 kernelRun0_A
  dsimp only
  rw [View.read_writes_cons_unit_of_not_mem _ _ _ _ _ _ rfl (0 : Fin 3) (Or.inl (by change 1 < 9; omega))]
  rw [View.read_writes_cons_unit_of_not_mem _ _ _ _ _ _ rfl (0 : Fin 3) (Or.inl (by change 1 < 8; omega))]
  rw [View.read_writes_cons_unit_of_not_mem _ _ _ _ _ _ rfl (0 : Fin 3) (Or.inl (by change 1 < 7; omega))]
  rw [View.read_writes_cons_unit_of_not_mem _ _ _ _ _ _ rfl (0 : Fin 3) (Or.inl (by change 1 < 6; omega))]
  rw [View.read_writes_cons_unit_of_not_mem _ _ _ _ _ _ rfl (0 : Fin 3) (Or.inl (by change 1 < 5; omega))]
  rw [View.read_writes_cons_unit_of_not_mem _ _ _ _ _ _ rfl (0 : Fin 3) (Or.inl (by change 1 < 4; omega))]
  rw [View.read_writes_cons_unit_of_not_mem _ _ _ _ _ _ rfl (0 : Fin 3) (Or.inl (by change 1 < 3; omega))]
  rw [View.read_writes_cons_unit_of_not_mem _ _ _ _ _ _ rfl (0 : Fin 3) (Or.inl (by change 1 < 2; omega))]
  refine (View.read_writes_cons_unit_of_mem _ _ _ _ _ _ (by exact ix3 (0 : Fin 1) s l) rfl ?_).trans ?_
  · intro a; fin_cases a <;> simp
  pointwise [k0_pay128]
  simp only [p30 c a0 h0 a1 h1 x0 x1 hR s l]
  rfl

theorem row2 (s : Fin 8) (l : Fin 1280) : out0_A_2 (F := Ideal) c a0 h0 a1 h1 a2 h2 a3 h3 x0 x1 (ix3 2 s l)
    = attr (ft x1 s l) (Rm x0) (tv x0) (10000 ≤ s.val * 1280 + l.val) 2 := by
  unfold out0_A_2 kernelRun0_A
  dsimp only
  rw [View.read_writes_cons_unit_of_not_mem _ _ _ _ _ _ rfl (0 : Fin 3) (Or.inl (by change 2 < 9; omega))]
  rw [View.read_writes_cons_unit_of_not_mem _ _ _ _ _ _ rfl (0 : Fin 3) (Or.inl (by change 2 < 8; omega))]
  rw [View.read_writes_cons_unit_of_not_mem _ _ _ _ _ _ rfl (0 : Fin 3) (Or.inl (by change 2 < 7; omega))]
  rw [View.read_writes_cons_unit_of_not_mem _ _ _ _ _ _ rfl (0 : Fin 3) (Or.inl (by change 2 < 6; omega))]
  rw [View.read_writes_cons_unit_of_not_mem _ _ _ _ _ _ rfl (0 : Fin 3) (Or.inl (by change 2 < 5; omega))]
  rw [View.read_writes_cons_unit_of_not_mem _ _ _ _ _ _ rfl (0 : Fin 3) (Or.inl (by change 2 < 4; omega))]
  rw [View.read_writes_cons_unit_of_not_mem _ _ _ _ _ _ rfl (0 : Fin 3) (Or.inl (by change 2 < 3; omega))]
  refine (View.read_writes_cons_unit_of_mem _ _ _ _ _ _ (by exact ix3 (0 : Fin 1) s l) rfl ?_).trans ?_
  · intro a; fin_cases a <;> simp
  pointwise [k0_pay129]
  simp only [p75 c a0 h0 a1 h1 x0 x1 hR s l]
  rfl

theorem row3 (s : Fin 8) (l : Fin 1280) : out0_A_2 (F := Ideal) c a0 h0 a1 h1 a2 h2 a3 h3 x0 x1 (ix3 3 s l)
    = attr (ft x1 s l) (Rm x0) (tv x0) (10000 ≤ s.val * 1280 + l.val) 3 := by
  unfold out0_A_2 kernelRun0_A
  dsimp only
  rw [View.read_writes_cons_unit_of_not_mem _ _ _ _ _ _ rfl (0 : Fin 3) (Or.inl (by change 3 < 9; omega))]
  rw [View.read_writes_cons_unit_of_not_mem _ _ _ _ _ _ rfl (0 : Fin 3) (Or.inl (by change 3 < 8; omega))]
  rw [View.read_writes_cons_unit_of_not_mem _ _ _ _ _ _ rfl (0 : Fin 3) (Or.inl (by change 3 < 7; omega))]
  rw [View.read_writes_cons_unit_of_not_mem _ _ _ _ _ _ rfl (0 : Fin 3) (Or.inl (by change 3 < 6; omega))]
  rw [View.read_writes_cons_unit_of_not_mem _ _ _ _ _ _ rfl (0 : Fin 3) (Or.inl (by change 3 < 5; omega))]
  rw [View.read_writes_cons_unit_of_not_mem _ _ _ _ _ _ rfl (0 : Fin 3) (Or.inl (by change 3 < 4; omega))]
  refine (View.read_writes_cons_unit_of_mem _ _ _ _ _ _ (by exact ix3 (0 : Fin 1) s l) rfl ?_).trans ?_
  · intro a; fin_cases a <;> simp
  pointwise [k0_pay130]
  simp only [p76 c a0 h0 a1 h1 x0 x1 hR s l]
  rfl

theorem row4 (s : Fin 8) (l : Fin 1280) : out0_A_2 (F := Ideal) c a0 h0 a1 h1 a2 h2 a3 h3 x0 x1 (ix3 4 s l)
    = attr (ft x1 s l) (Rm x0) (tv x0) (10000 ≤ s.val * 1280 + l.val) 4 := by
  unfold out0_A_2 kernelRun0_A
  dsimp only
  rw [View.read_writes_cons_unit_of_not_mem _ _ _ _ _ _ rfl (0 : Fin 3) (Or.inl (by change 4 < 9; omega))]
  rw [View.read_writes_cons_unit_of_not_mem _ _ _ _ _ _ rfl (0 : Fin 3) (Or.inl (by change 4 < 8; omega))]
  rw [View.read_writes_cons_unit_of_not_mem _ _ _ _ _ _ rfl (0 : Fin 3) (Or.inl (by change 4 < 7; omega))]
  rw [View.read_writes_cons_unit_of_not_mem _ _ _ _ _ _ rfl (0 : Fin 3) (Or.inl (by change 4 < 6; omega))]
  rw [View.read_writes_cons_unit_of_not_mem _ _ _ _ _ _ rfl (0 : Fin 3) (Or.inl (by change 4 < 5; omega))]
  refine (View.read_writes_cons_unit_of_mem _ _ _ _ _ _ (by exact ix3 (0 : Fin 1) s l) rfl ?_).trans ?_
  · intro a; fin_cases a <;> simp
  pointwise [k0_pay131]
  simp only [p77 c a0 h0 a1 h1 x0 x1 hR s l]
  rfl

theorem row5 (s : Fin 8) (l : Fin 1280) : out0_A_2 (F := Ideal) c a0 h0 a1 h1 a2 h2 a3 h3 x0 x1 (ix3 5 s l)
    = attr (ft x1 s l) (Rm x0) (tv x0) (10000 ≤ s.val * 1280 + l.val) 5 := by
  unfold out0_A_2 kernelRun0_A
  dsimp only
  rw [View.read_writes_cons_unit_of_not_mem _ _ _ _ _ _ rfl (0 : Fin 3) (Or.inl (by change 5 < 9; omega))]
  rw [View.read_writes_cons_unit_of_not_mem _ _ _ _ _ _ rfl (0 : Fin 3) (Or.inl (by change 5 < 8; omega))]
  rw [View.read_writes_cons_unit_of_not_mem _ _ _ _ _ _ rfl (0 : Fin 3) (Or.inl (by change 5 < 7; omega))]
  rw [View.read_writes_cons_unit_of_not_mem _ _ _ _ _ _ rfl (0 : Fin 3) (Or.inl (by change 5 < 6; omega))]
  refine (View.read_writes_cons_unit_of_mem _ _ _ _ _ _ (by exact ix3 (0 : Fin 1) s l) rfl ?_).trans ?_
  · intro a; fin_cases a <;> simp
  pointwise [k0_pay132]
  simp only [p117 c a0 h0 a1 h1 x0 x1 hR s l]
  exact if_congr (mask s l) rfl rfl

theorem row6 (s : Fin 8) (l : Fin 1280) : out0_A_2 (F := Ideal) c a0 h0 a1 h1 a2 h2 a3 h3 x0 x1 (ix3 6 s l)
    = attr (ft x1 s l) (Rm x0) (tv x0) (10000 ≤ s.val * 1280 + l.val) 6 := by
  unfold out0_A_2 kernelRun0_A
  dsimp only
  rw [View.read_writes_cons_unit_of_not_mem _ _ _ _ _ _ rfl (0 : Fin 3) (Or.inl (by change 6 < 9; omega))]
  rw [View.read_writes_cons_unit_of_not_mem _ _ _ _ _ _ rfl (0 : Fin 3) (Or.inl (by change 6 < 8; omega))]
  rw [View.read_writes_cons_unit_of_not_mem _ _ _ _ _ _ rfl (0 : Fin 3) (Or.inl (by change 6 < 7; omega))]
  refine (View.read_writes_cons_unit_of_mem _ _ _ _ _ _ (by exact ix3 (0 : Fin 1) s l) rfl ?_).trans ?_
  · intro a; fin_cases a <;> simp
  pointwise [k0_pay1]
  simp only [p108 c a0 h0 a1 h1 x0 x1 hR s l]
  rfl

theorem row7 (s : Fin 8) (l : Fin 1280) : out0_A_2 (F := Ideal) c a0 h0 a1 h1 a2 h2 a3 h3 x0 x1 (ix3 7 s l)
    = attr (ft x1 s l) (Rm x0) (tv x0) (10000 ≤ s.val * 1280 + l.val) 7 := by
  unfold out0_A_2 kernelRun0_A
  dsimp only
  rw [View.read_writes_cons_unit_of_not_mem _ _ _ _ _ _ rfl (0 : Fin 3) (Or.inl (by change 7 < 9; omega))]
  rw [View.read_writes_cons_unit_of_not_mem _ _ _ _ _ _ rfl (0 : Fin 3) (Or.inl (by change 7 < 8; omega))]
  refine (View.read_writes_cons_unit_of_mem _ _ _ _ _ _ (by exact ix3 (0 : Fin 1) s l) rfl ?_).trans ?_
  · intro a; fin_cases a <;> simp
  pointwise [k0_pay2]
  simp only [p112 c a0 h0 a1 h1 x0 x1 hR s l]
  rfl

theorem row8 (s : Fin 8) (l : Fin 1280) : out0_A_2 (F := Ideal) c a0 h0 a1 h1 a2 h2 a3 h3 x0 x1 (ix3 8 s l)
    = attr (ft x1 s l) (Rm x0) (tv x0) (10000 ≤ s.val * 1280 + l.val) 8 := by
  unfold out0_A_2 kernelRun0_A
  dsimp only
  rw [View.read_writes_cons_unit_of_not_mem _ _ _ _ _ _ rfl (0 : Fin 3) (Or.inl (by change 8 < 9; omega))]
  refine (View.read_writes_cons_unit_of_mem _ _ _ _ _ _ (by exact ix3 (0 : Fin 1) s l) rfl ?_).trans ?_
  · intro a; fin_cases a <;> simp
  pointwise [k0_pay3]
  simp only [p116 c a0 h0 a1 h1 x0 x1 hR s l]
  rfl

theorem row9 (s : Fin 8) (l : Fin 1280) : out0_A_2 (F := Ideal) c a0 h0 a1 h1 a2 h2 a3 h3 x0 x1 (ix3 9 s l)
    = attr (ft x1 s l) (Rm x0) (tv x0) (10000 ≤ s.val * 1280 + l.val) 9 := by
  unfold out0_A_2 kernelRun0_A
  dsimp only
  refine (View.read_writes_cons_unit_of_mem _ _ _ _ _ _ (by exact ix3 (0 : Fin 1) s l) rfl ?_).trans ?_
  · intro a; fin_cases a <;> simp
  pointwise [kernelRun0_A.sl.r_118, k0_pay126, k0_pay4]
  simp only [p28 c a0 h0 a1 h1 x0 x1 hR s l, top_bits]
  exact if_congr (mask s l) rfl rfl

theorem size0 (s : Fin 8) (l : Fin 1280) : out0_A_3 (F := Ideal) c a0 h0 a1 h1 a2 h2 a3 h3 x0 x1 (ix3 0 s l)
    = area (ft x1 s l) (Rm x0) (tv x0) 0 := by
  unfold out0_A_3 kernelRun0_A
  dsimp only
  rw [View.read_writes_cons_unit_of_not_mem _ _ _ _ _ _ rfl (0 : Fin 3) (Or.inl (by change 0 < 1; omega))]
  refine (View.read_writes_cons_unit_of_mem _ _ _ _ _ _ (by exact ix3 (0 : Fin 1) s l) rfl ?_).trans ?_
  · intro a; fin_cases a <;> simp
  pointwise [k0_pay5]
  exact p78 c a0 h0 a1 h1 x0 x1 hR s l

theorem size1 (s : Fin 8) (l : Fin 1280) : out0_A_3 (F := Ideal) c a0 h0 a1 h1 a2 h2 a3 h3 x0 x1 (ix3 1 s l)
    = area (ft x1 s l) (Rm x0) (tv x0) 1 := by
  unfold out0_A_3 kernelRun0_A
  dsimp only
  refine (View.read_writes_cons_unit_of_mem _ _ _ _ _ _ (by exact ix3 (0 : Fin 1) s l) rfl ?_).trans ?_
  · intro a; fin_cases a <;> simp
  pointwise [k0_pay6]
  exact p79 c a0 h0 a1 h1 x0 x1 hR s l

theorem rows (s : Fin 8) (l : Fin 1280) (r : Fin 10) : out0_A_2 (F := Ideal) c a0 h0 a1 h1 a2 h2 a3 h3 x0 x1 (ix3 r s l)
    = attr (ft x1 s l) (Rm x0) (tv x0) (10000 ≤ s.val * 1280 + l.val) r := by
  match r with
  | ⟨0, _⟩ => exact row0 c a0 h0 a1 h1 a2 h2 a3 h3 x0 x1 hR s l
  | ⟨1, _⟩ => exact row1 c a0 h0 a1 h1 a2 h2 a3 h3 x0 x1 hR s l
  | ⟨2, _⟩ => exact row2 c a0 h0 a1 h1 a2 h2 a3 h3 x0 x1 hR s l
  | ⟨3, _⟩ => exact row3 c a0 h0 a1 h1 a2 h2 a3 h3 x0 x1 hR s l
  | ⟨4, _⟩ => exact row4 c a0 h0 a1 h1 a2 h2 a3 h3 x0 x1 hR s l
  | ⟨5, _⟩ => exact row5 c a0 h0 a1 h1 a2 h2 a3 h3 x0 x1 hR s l
  | ⟨6, _⟩ => exact row6 c a0 h0 a1 h1 a2 h2 a3 h3 x0 x1 hR s l
  | ⟨7, _⟩ => exact row7 c a0 h0 a1 h1 a2 h2 a3 h3 x0 x1 hR s l
  | ⟨8, _⟩ => exact row8 c a0 h0 a1 h1 a2 h2 a3 h3 x0 x1 hR s l
  | ⟨9, _⟩ => exact row9 c a0 h0 a1 h1 a2 h2 a3 h3 x0 x1 hR s l

theorem sizes (s : Fin 8) (l : Fin 1280) (r : Fin 2) : out0_A_3 (F := Ideal) c a0 h0 a1 h1 a2 h2 a3 h3 x0 x1 (ix3 r s l)
    = area (ft x1 s l) (Rm x0) (tv x0) r := by
  match r with
  | ⟨0, _⟩ => exact size0 c a0 h0 a1 h1 a2 h2 a3 h3 x0 x1 hR s l
  | ⟨1, _⟩ => exact size1 c a0 h0 a1 h1 a2 h2 a3 h3 x0 x1 hR s l

omit hR

theorem point_zero (t : Fin cfg0.N) : t = t0_0 := by
  have h : cfg0.N = 1 := by decide
  exact Fin.ext (by have := t.isLt; change t.val = 0; omega)

variable (V : (c : Dev nD) → (b : Ref sig .tc) → Buf (Elt Ideal) ((c : Thread nD τ).loc b))

/-- A block of the first output is the whole array, and the array ends at what the one point leaves. -/
theorem emb2 (i : S10x8x1280.Idx) : ((cfg0.win 2).blk t0_0).view.emb i = i :=
  funext fun a => Fin.ext (win0_2.rect_emb_val_of_index_zero t0_0 a ((by decide : ∀ a, win0_2.index t0_0 a = 0) a) i)
theorem emb3 (i : S2x8x1280.Idx) : ((cfg0.win 3).blk t0_0).view.emb i = i :=
  funext fun a => Fin.ext (win0_3.rect_emb_val_of_index_zero t0_0 a ((by decide : ∀ a, win0_3.index t0_0 a = 0) a) i)

theorem arr2 (c : Dev nD) (i : S10x8x1280.Idx) : (dat0 V c).arrAt 2 cfg0.N i = (outsAt0 V c t0_0).1 i := by
  have h := (dat0 V c).arrAt_emb_eq_flushed 2 (fun t t' _ _ hne => absurd ((point_zero t).trans (point_zero t').symm) hne) t0_0 rfl i
  rw [emb2] at h
  refine h.trans ?_
  change (cfg0.win 2).cut (grid0.coords t0_0) ((dat0 V c).after 2 t0_0) i = _
  rw [after0_2]
  generalize (outsAt0 V c t0_0).1 = X
  rfl

theorem arr3 (c : Dev nD) (i : S2x8x1280.Idx) : (dat0 V c).arrAt 3 cfg0.N i = (outsAt0 V c t0_0).2 i := by
  have h := (dat0 V c).arrAt_emb_eq_flushed 3 (fun t t' _ _ hne => absurd ((point_zero t).trans (point_zero t').symm) hne) t0_0 rfl i
  rw [emb3] at h
  refine h.trans ?_
  change (cfg0.win 3).cut (grid0.coords t0_0) ((dat0 V c).after 3 t0_0) i = _
  rw [after0_3]
  generalize (outsAt0 V c t0_0).2 = X
  rfl

/-- The call's two input blocks are the whole tables it is handed. -/
theorem in0 (c : Dev nD) (i : S32.Idx) : iblk0 V c 0 t0_0 i = V c main_v14 i := by
  have he : ((cfg0.win 0).blk t0_0).view.emb i = i :=
    funext fun a => Fin.ext (win0_0.rect_emb_val_of_index_zero t0_0 a ((by decide : ∀ a, win0_0.index t0_0 a = 0) a) i)
  change V c main_v14 (((cfg0.win 0).blk t0_0).view.emb i) = _
  rw [he]
theorem in1 (c : Dev nD) (i : S64x8x1280.Idx) : iblk0 V c 1 t0_0 i = V c main_v7 i := by
  have he : ((cfg0.win 1).blk t0_0).view.emb i = i :=
    funext fun a => Fin.ext (win0_1.rect_emb_val_of_index_zero t0_0 a ((by decide : ∀ a, win0_1.index t0_0 a = 0) a) i)
  change V c main_v7 (((cfg0.win 1).blk t0_0).view.emb i) = _
  rw [he]

end Cert.KernelIdeal.Own
end
-- ==== Proof.HostIn.lean ====
/-
  The staging call's two tables, from the arguments: each lane's features and the camera's entries.
-/
module

public import proofs.«01_k».proof.Proof.StageOut
public import Idealize.ShloMosaic.Lib.StableHlo.ReadAt

@[expose] public section

set_option maxRecDepth 16384

noncomputable section

namespace Cert.KernelIdeal.Own

open Cert.KernelIdeal Cert.KernelIdeal.Gen Cert.Proof.Scene
open Idealize.ShloMosaic Idealize.ShloMosaic.Pointwise Idealize.ShloMosaic.TcCoe

variable (m : (ℓ : Loc nD τ sig) → Buf (Elt Ideal) ℓ) (c : Dev nD)

/-- The arguments' entries, by row. -/
def pos0 (n : Fin 10000) (i : Fin 3) : EReal := m ((c : Thread nD τ).loc main_arg0) (ix2 n i)
def sh0 (n : Fin 10000) (i : Fin 48) : EReal := m ((c : Thread nD τ).loc main_arg1) (ix2 n i)
def al0 (n : Fin 10000) : EReal := m ((c : Thread nD τ).loc main_arg2) (ix2 n 0)
def sc0 (n : Fin 10000) (i : Fin 3) : EReal := m ((c : Thread nD τ).loc main_arg3) (ix2 n i)
def qu0 (n : Fin 10000) (i : Fin 4) : EReal := m ((c : Thread nD τ).loc main_arg4) (ix2 n i)
def ro0 (i j : Fin 3) : EReal := m ((c : Thread nD τ).loc main_arg6) (ix2 i j)
def tr0 (i : Fin 3) : EReal := m ((c : Thread nD τ).loc main_arg7) (ix1 i)
def f0 (n : Fin 10000) : Fin 59 → EReal := feat (pos0 m c n) (sh0 m c n) (al0 m c n) (sc0 m c n) (qu0 m c n)

theorem Rc_eq : Rc (at0 m c main_v14) = ro0 m c := by
  funext i j
  unfold Rc ro0
  after_reads_at
  rw [dif_pos (by omega)]
  after_reads_at

theorem Rm_eq : Rm (at0 m c main_v14) = ro0 m c := by
  funext i j
  unfold Rm ro0
  after_reads_at
  rw [dif_neg (by omega), dif_neg (by omega), dif_neg (by omega), dif_pos (by omega)]
  after_reads_at
  change m ((c : Thread nD τ).loc main_arg6) _ = _
  congr 2
  · apply Fin.ext; change (16 + (3 * i.val + j.val) - 9 - 3 - 4) / 3 = i.val; omega
  · apply Fin.ext; change (16 + (3 * i.val + j.val) - 9 - 3 - 4) % 3 = j.val; omega

theorem tv_eq : tv (at0 m c main_v14) = tr0 m c := by
  funext i
  unfold tv tr0
  after_reads_at

set_option maxHeartbeats 4000000 in
theorem ft_eq (s : Fin 8) (l : Fin 1280) (h : s.val * 1280 + l.val < 10000) : ft (at0 m c main_v7) s l = f0 m c ⟨s.val * 1280 + l.val, h⟩ := by
  funext n
  unfold ft f0 feat pos0 sh0 al0 sc0 qu0
  have hn := n.isLt
  after_reads_at
  rw [dif_pos h]
  by_cases h0 : n.val < 3
  · rw [dif_pos h0, dif_pos h0]
    after_reads_at
  rw [dif_neg h0, dif_neg h0]
  by_cases h1 : n.val < 51
  · rw [dif_pos (by omega), dif_pos h1]
    after_reads_at
  rw [dif_neg (by omega), dif_neg h1]
  by_cases h2 : n.val < 52
  · rw [dif_pos (by omega), dif_pos h2]
    after_reads_at
    change m ((c : Thread nD τ).loc main_arg2) _ = _
    congr 2
    apply Fin.ext; change n.val - 3 - 48 = 0; omega
  rw [dif_neg (by omega), dif_neg h2]
  by_cases h3 : n.val < 55
  · rw [dif_pos (by omega), dif_pos h3]
    after_reads_at
    change m ((c : Thread nD τ).loc main_arg3) _ = _
    congr 2
  rw [dif_neg (by omega), dif_neg h3]
  after_reads_at
  change m ((c : Thread nD τ).loc main_arg4) _ = _
  congr 2

theorem in0_eq : iblk0 (at0 m) c 0 t0_0 = at0 m c main_v14 := funext (in0 (at0 m) c)
theorem in1_eq : iblk0 (at0 m) c 1 t0_0 = at0 m c main_v7 := funext (in1 (at0 m) c)

theorem e2 : V4 m (left m) c (Proc.devRef .tc main_v15_0) = (dat0 (at0 m) c).arrAt 2 cfg0.N := by
  rw [V4, Function.update_of_ne (StableHlo.devRef_ne_of_ne (by decide)), Function.update_self, left_four]
  exact Pipeline.afterRegion_arr (dat0 (at0 m) c) (V3 m c) launch0.win.arr_inj 2

theorem hRR : Rc (at0 m c main_v14) = Rm (at0 m c main_v14) := (Rc_eq m c).trans (Rm_eq m c).symm

theorem outs2 (s : Fin 8) (l : Fin 1280) (r : Fin 10) : (outsAt0 (at0 m) c t0_0).1 (ix3 r s l)
   = attr (ft (at0 m c main_v7) s l) (ro0 m c) (tr0 m c) (10000 ≤ s.val * 1280 + l.val) r := by
  rw [outsAt0, in0_eq, in1_eq, ← Rm_eq, ← tv_eq]
  have hR := hRR m c
  generalize at0 m c main_v14 = x0 at hR ⊢
  generalize at0 m c main_v7 = x1
  dsimp only
  have := rows c (ms0_0 t0_0) (hs0_0 t0_0) (ms0_1 t0_0) (hs0_1 t0_0) (ms0_2 t0_0) (hs0_2 t0_0) (ms0_3 t0_0) (hs0_3 t0_0) x0 x1 hR s l r
  rw [this]

/-- What the staging call leaves in its first result, by feature row and lane. -/
theorem attrs_at (s : Fin 8) (l : Fin 1280) (r : Fin 10) :
    V4 m (left m) c (Proc.devRef .tc main_v15_0) (ix3 r s l)
      = attr (ft (at0 m c main_v7) s l) (ro0 m c) (tr0 m c) (10000 ≤ s.val * 1280 + l.val) r := by
  rw [e2, arr2, outs2]

theorem e3 : V4 m (left m) c (Proc.devRef .tc main_v15_1) = (dat0 (at0 m) c).arrAt 3 cfg0.N := by
  rw [V4, Function.update_self, left_four]
  exact Pipeline.afterRegion_arr (dat0 (at0 m) c) (V3 m c) launch0.win.arr_inj 3

theorem outs3 (s : Fin 8) (l : Fin 1280) (r : Fin 2) : (outsAt0 (at0 m) c t0_0).2 (ix3 r s l)
   = area (ft (at0 m c main_v7) s l) (ro0 m c) (tr0 m c) r := by
  rw [outsAt0, in0_eq, in1_eq, ← Rm_eq, ← tv_eq]
  have hR := hRR m c
  generalize at0 m c main_v14 = x0 at hR ⊢
  generalize at0 m c main_v7 = x1
  dsimp only
  have := sizes c (ms0_0 t0_0) (hs0_0 t0_0) (ms0_1 t0_0) (hs0_1 t0_0) (ms0_2 t0_0) (hs0_2 t0_0) (ms0_3 t0_0) (hs0_3 t0_0) x0 x1 hR s l r
  rw [this]

/-- What the staging call leaves in its second result. -/
theorem sizes_at (s : Fin 8) (l : Fin 1280) (r : Fin 2) :
    V4 m (left m) c (Proc.devRef .tc main_v15_1) (ix3 r s l) = area (ft (at0 m c main_v7) s l) (ro0 m c) (tr0 m c) r := by
  rw [e3, arr3, outs3]

/-- The program's second result: each Gaussian's extents. -/
theorem sizes_eq (n : Fin 10000) (r : Fin 2) :
    V9 m (left m) c (Proc.devRef .tc main_v31) (ix2 n r) = area (f0 m c n) (ro0 m c) (tr0 m c) r := by
  after_reads_at
  rw [V8_of m (left m) c main_v15_1 (by decide), V7_of m (left m) c main_v15_1 (by decide), V6_of m (left m) c main_v15_1 (by decide), V5_of m (left m) c main_v15_1 (by decide)]
  have hn := n.isLt
  refine (sizes_at m c ⟨n.val / 1280, by omega⟩ ⟨n.val % 1280, by omega⟩ r).trans ?_
  rw [ft_eq m c _ _ (by change n.val / 1280 * 1280 + n.val % 1280 < 10000; omega)]
  have e : (⟨n.val / 1280 * 1280 + n.val % 1280, by omega⟩ : Fin 10000) = n := Fin.ext (by change n.val / 1280 * 1280 + n.val % 1280 = n.val; omega)
  rw [e]

end Cert.KernelIdeal.Own
end
-- ==== Proof.SplatOut.lean ====
/-
  The splatting call over its whole grid: what it leaves in its result, a pixel at a time.
-/
module

public import proofs.«01_k».proof.Proof.SplatFold
public import proofs.«01_k».proof.Proof.HostIn

@[expose] public section

set_option maxRecDepth 16384

noncomputable section

namespace Cert.KernelIdeal.Own

open Cert.KernelIdeal Cert.KernelIdeal.Gen Cert.Proof.Scene
open Idealize.ShloMosaic Idealize.ShloMosaic.Pointwise Idealize.ShloMosaic.TcCoe
open Idealize.ShloMosaic.Pipeline (Dat)

variable (V : (c : Dev nD) → (b : Ref sig .tc) → Buf (Elt Ideal) ((c : Thread nD τ).loc b)) (c : Dev nD)

/-- All the columns the call is handed, in order. -/
def allcols (g : ℕ) (r : Fin 10) : EReal := if h : g < 10240 then V c main_v26 (ix2 r ⟨g, h⟩) else 0

theorem N1 : cfg1.N = 20 := N_1

/-- The last point. -/
def tl : Fin cfg1.N := ⟨19, by decide⟩

theorem index1 : ∀ t : Fin cfg1.N, win1_0.index t 0 = 0 ∧ win1_0.index t 1 = t.val := by decide

/-- Block `t` of the call's input: columns `512 t` and on. -/
theorem block_at (t : Fin cfg1.N) (g : ℕ) (hg : g < 512) : cols (iblk1 V c 0 t) g = allcols V c (512 * t.val + g) := by
  funext r
  have ht : t.val < 20 := lt_of_lt_of_eq t.isLt N1
  unfold cols allcols
  rw [dif_pos hg, dif_pos (show 512 * t.val + g < 10240 by omega)]
  change V c main_v26 (((cfg1.win 0).blk t).view.emb (ix2 r ⟨g, hg⟩)) = _
  congr 1
  funext a
  apply Fin.ext
  obtain ⟨i0, i1⟩ := index1 t
  fin_cases a
  · refine (win1_0.rect_emb_val t (ix2 r ⟨g, hg⟩) (0 : Fin 2)).trans ?_
    rw [i0]
    change 0 * _ + r.val = r.val
    omega
  · refine (win1_0.rect_emb_val t (ix2 r ⟨g, hg⟩) (1 : Fin 2)).trans ?_
    rw [i1]
    change t.val * 512 + g = 512 * t.val + g
    omega

/-- The scratch after point `n`, one before the last: the first `n + 1` blocks composited. -/
theorem scratch_at (s : Fin 8) (l : Fin 128) (n : ℕ) (hn : n < 19) :
    planes (outsAt1 V c n (by rw [N1]; omega)).2 s l = comp (allcols V c) (px s l) (py s l) (1, 0, 0, 0) (512 * (n + 1)) := by
  induction n with
  | zero =>
    have h := outsAt1_A V c ⟨0, by rw [N1]; omega⟩ rfl (by decide)
    rw [show outsAt1 V c 0 _ = _ from h]
    dsimp only
    rw [pointA]
    refine comp_congr _ _ _ _ _ _ fun g hg => ?_
    rw [block_at V c _ g hg]
    congr 1
    change 512 * 0 + g = g
    omega
  | succ n ih =>
    have h := outsAt1_B V c ⟨n + 1, by rw [N1]; omega⟩ (by change ¬(n + 1) % 20 = 0; omega) (by change ¬(n + 1) % 20 = 19; omega)
    rw [show outsAt1 V c (n + 1) _ = _ from h]
    dsimp only
    rw [pointB, show 512 * (n + 1 + 1) = 512 * (n + 1) + 512 by ring, comp_add, ← ih (by omega)]
    refine comp_congr _ _ _ _ _ _ fun g hg => ?_
    rw [block_at V c _ g hg]

/-- What the last point puts out: all the columns composited. -/
theorem out_at (s : Fin 8) (l : Fin 128) (q : Fin 3) :
    (outsAt1 V c tl.val tl.isLt).1 (ix3 q s l) = hue (comp (allcols V c) (px s l) (py s l) (1, 0, 0, 0) 10240) q := by
  have h := outsAt1_C V c tl (by decide) rfl
  rw [h]
  dsimp only
  rw [pointC, show 10240 = 512 * (18 + 1) + 512 by rfl, comp_add, ← scratch_at V c s l 18 (by omega)]
  refine congrArg (fun st => hue st q) (comp_congr _ _ _ _ _ _ fun g hg => ?_)
  rw [block_at V c _ g hg]
  rfl

theorem last_flush (t : Fin cfg1.N) (h : (cfg1.win 1).flush t = true) : t.val = 19 := by
  have := (flush1_1 t).mp h
  have ht := lt_of_lt_of_eq t.isLt N1
  omega

theorem emb1 (i : S3x8x128.Idx) : ((cfg1.win 1).blk tl).view.emb i = i :=
  funext fun a => Fin.ext (win1_1.rect_emb_val_of_index_zero tl a ((by decide : ∀ a, win1_1.index tl a = 0) a) i)

/-- The call's result after its run. -/
theorem arr1 (i : S3x8x128.Idx) : (dat1 V c).arrAt 1 cfg1.N i = (outsAt1 V c tl.val tl.isLt).1 i := by
  have h := (dat1 V c).arrAt_emb_eq_flushed 1
    (fun t t' ht ht' hne => absurd (Fin.ext ((last_flush t ht).trans (last_flush t' ht').symm)) hne) tl ((flush1_1 _).mpr rfl) i
  rw [emb1] at h
  refine h.trans ?_
  change (cfg1.win 1).cut (grid1.coords tl) ((dat1 V c).after 1 tl) i = _
  rw [after1_1]
  generalize (outsAt1 V c tl.val tl.isLt).1 = X
  rfl

variable (m : (ℓ : Loc nD τ sig) → Buf (Elt Ideal) ℓ)

theorem e27 : V8 m (left m) c (Proc.devRef .tc main_v27) = (dat1 (at1 m) c).arrAt 1 cfg1.N := by
  rw [V8, Function.update_self, left_eight]
  exact Pipeline.afterRegion_arr (dat1 (at1 m) c) (V7 m (left0 m) c) launch1.win.arr_inj 1

/-- A whole number as the programs convert it. -/
def wd (n : ℕ) : EReal := FloatOps.sitofp (F := Ideal) .f32 (BitVec.ofNat 32 n)

theorem pxx (s : Fin 8) (l : Fin 128) : px s l = wd ((s.val * 128 + l.val) % 32) := by
  unfold px wd
  pointwise [k1_pay55, k1_pay54]
  refine congrArg (FloatOps.sitofp (F := Ideal) .f32) ?_
  revert s l
  decide +kernel

theorem pyy (s : Fin 8) (l : Fin 128) : py s l = wd ((s.val * 128 + l.val) / 32) := by
  unfold py yv wd
  pointwise [k1_pay59, k1_pay58, k1_pay57, k1_pay56, k1_pay54]
  refine congrArg (FloatOps.sitofp (F := Ideal) .f32) ?_
  revert s l
  decide +kernel

/-- The program's first result: the pixel at row `y`, column `x`. -/
theorem image_eq (q : Fin 3) (y x : Fin 32) :
    V9 m (left m) c (Proc.devRef .tc main_v28) (ix3 q y x)
      = hue (comp (allcols (at1 m) c) (wd x.val) (wd y.val) (1, 0, 0, 0) 10240) q := by
  have h := out_at (at1 m) c ⟨y.val / 4, by omega⟩ ⟨y.val % 4 * 32 + x.val, by omega⟩ q
  rw [pxx, pyy, ← arr1] at h
  have ex : (y.val / 4 * 128 + (y.val % 4 * 32 + x.val)) % 32 = x.val := by omega
  have ey : (y.val / 4 * 128 + (y.val % 4 * 32 + x.val)) / 32 = y.val := by omega
  dsimp only at h
  rw [ex, ey] at h
  rw [← h]
  after_reads_at
  rw [e27]

end Cert.KernelIdeal.Own
end
-- ==== Proof.Sorting.lean ====
/-
  The stable order of a table of keys: which place stands where once the keys are sorted, and that keys put behind
  the last one leave the order of the first ones as it is.
-/
module

public import Idealize.ShloMosaic.Lib.SortPrefix
public import Idealize.ShloMosaic.PureOps.Ideal
public import Idealize.ShloMosaic.Lib.Pointwise

@[expose] public section

noncomputable section

namespace Cert.Proof.Sorting

open Idealize.ShloMosaic Idealize.ShloMosaic.Pointwise

variable {n : ℕ}

/-- One key is strictly less than the other. -/
def less (key : Fin n → EReal) (k k' : Fin n) : Bool := decide (key k < key k')

/-- The same, and of two equal keys the one that stands first. -/
def before (key : Fin n → EReal) (k k' : Fin n) : Bool :=
  decide (key k < key k') || (decide (key k = key k') && decide (k < k'))

theorem before_strict (key : Fin n → EReal) : StrictTotalBefore (before key) :=
  StrictTotalBefore.of_key_then_position (fun a b : EReal => decide (a < b)) key (by simp)
    (fun a b c h h' => by simp only [decide_eq_true_eq] at *; exact h.trans h')
    (fun a b => by simp only [decide_eq_true_eq]; exact lt_trichotomy a b)

/-- A stable sort asks only whether a later entry goes before an earlier one. -/
theorem sort_congr {ι : Type} (R R' : ι → ι → Bool) (l : List ι) (h : l.Pairwise fun a b => R b a = R' b a) :
    stableSort R l = stableSort R' l := by
  induction l with
  | nil => rfl
  | cons a l ih =>
    rw [List.pairwise_cons] at h
    unfold stableSort
    rw [ih h.2]
    exact insertBefore_congr R R' a _ fun b hb => h.1 b ((perm_stableSort R' l).mem_iff.mp hb)

/-- The place that stands at a position once the keys are sorted. -/
def order (key : Fin n → EReal) : Fin n → Fin n := sortedFrom (less key)

theorem order_eq (key : Fin n → EReal) : order key = sortedFrom (before key) := by
  have h : sortPositions n (less key) = sortPositions n (before key) := by
    refine sort_congr _ _ _ ((List.pairwise_lt_finRange n).imp fun {a b} hab => ?_)
    have : ¬ b < a := not_lt.mpr hab.le
    simp [less, before, this]
  funext k
  unfold order sortedFrom
  rw [List.get_of_eq h]
  rfl

theorem order_injective (key : Fin n → EReal) : Function.Injective (order key) := sortedFrom_injective _

theorem order_surjective (key : Fin n → EReal) : Function.Surjective (order key) := sortedFrom_surjective _

section behind

variable {N : ℕ} (hN : n ≤ N) (key : Fin N → EReal) (dep : Fin n → EReal)
  (hk : ∀ i : Fin n, key (i.castLE hN) = dep i) (hp : ∀ i : Fin N, n ≤ i.val → key i = ⊤)

include hk hp

/-- Keys that are the greatest and stand last leave the first ones' order as it is. -/
theorem order_prefix (i : Fin n) : order key (i.castLE hN) = (order dep i).castLE hN := by
  rw [order_eq key]
  refine (before_strict key).sortedFrom_eq_of_prefix hN (fun j => (order dep j).castLE hN) ?_ ?_ ?_ i
  · intro a b h
    exact order_injective dep (Fin.castLE_injective hN h)
  · intro a b hab
    have := sortedFrom_noInversion (before dep) (before dep) (fun a b h => (before_strict dep).asymm a b h)
      (fun _ _ h => h) (before_strict dep).negTrans a b hab
    rw [← order_eq dep] at this
    simpa [before, hk] using this
  · intro j p hj
    have hpn : n ≤ p.val := by
      by_contra h
      obtain ⟨q, hq⟩ := order_surjective dep ⟨p.val, not_le.mp h⟩
      exact hj q (by simp only [hq]; rfl)
    have h1 : ¬ p < (order dep j).castLE hN := by
      rw [Fin.lt_def]; have := (order dep j).isLt; simp only [Fin.val_castLE]; omega
    simp [before, hp p hpn, h1]

/-- Behind the first ones stand only those added. -/
theorem order_behind (i : Fin N) (hi : n ≤ i.val) : n ≤ (order key i).val := by
  by_contra h
  obtain ⟨q, hq⟩ := order_surjective dep ⟨(order key i).val, not_le.mp h⟩
  have e : order key (q.castLE hN) = order key i := by
    rw [order_prefix hN key dep hk hp q, hq]; rfl
  have := congrArg Fin.val (order_injective key e)
  simp only [Fin.val_castLE] at this
  have := q.isLt
  omega

end behind

/-- Sorting one table along another: what the second holds afterwards. -/
theorem sort2_at {α β : Type} (cmp : α × β → α × β → BitVec 1) (x : (⟨1, ![n]⟩ : Shape).Idx → α)
    (y : (⟨1, ![n]⟩ : Shape).Idx → β) (i : Fin n) :
    (Host.sort2 ⟨1, ![n]⟩ 0 cmp x y).2 (ix1 i)
      = y (ix1 (sortedFrom (fun k k' => cmp (x (ix1 k), y (ix1 k)) (x (ix1 k'), y (ix1 k')) == 1#1) i)) := by
  have e : ∀ k : Fin n, Shape.Idx.ofFin k = ix1 k := fun k => (Shape.Idx.eq_ofFin (ix1 k)).symm
  unfold Host.sort2
  simp [e]

end Cert.Proof.Sorting

end
-- ==== Proof.HostMid.lean ====
/-
  Between the two calls: the depths are sorted, and the attributes' columns gathered in the depths' order.
-/
module

public import proofs.«01_k».proof.Proof.SplatOut
public import proofs.«01_k».proof.Proof.HostIn
public import proofs.«01_k».proof.Proof.Sorting
public import Idealize.ShloMosaic.Lib.StableHlo.Predicate

@[expose] public section

set_option maxRecDepth 16384

noncomputable section

namespace Cert.KernelIdeal.Own

open Cert.KernelIdeal Cert.KernelIdeal.Gen Cert.Proof.Scene Cert.Proof.Sorting
open Idealize.ShloMosaic Idealize.ShloMosaic.Pointwise Idealize.ShloMosaic.TcCoe

/-- The sort's comparison asks whether one depth is strictly less than the other. -/
theorem cmp_at (l r : EReal × BitVec 32) :
    (comparator_f32_i32_d0 (F := Ideal) l r == 1#1) = decide (l.1 < r.1) := by
  have h : ∀ x : EReal, Scalar.select (FloatOps.cmpf (F := Ideal) (φ := .f32) .une x x) (FloatOps.ofBits (F := Ideal) .f32 0x7FC00000#32)
      (Scalar.select (FloatOps.cmpf (F := Ideal) (φ := .f32) .oeq x (FloatOps.ofBits (F := Ideal) .f32 0x00000000#32))
        (FloatOps.ofBits (F := Ideal) .f32 0x00000000#32) x) = x := by
    intro x
    have h0 : FloatOps.ofBits (F := Ideal) .f32 0x00000000#32 = (0 : EReal) := by
      show Ideal.ofBits .f32 0x00000000#32 = 0
      simp [Ideal.ofBits, Ideal.ieee]
    rw [h0]
    by_cases hx : x = 0 <;> simp [Scalar.select, Ideal.cmpf_def, Ideal.cmp, hx]
  unfold comparator_f32_i32_d0
  dsimp only
  rw [h, h, Ideal.cmpfTotal_def]
  by_cases hx : l.1 < r.1 <;> simp [Ideal.cmp, CmpDirection.ordered, hx]

/-- The gather of columns: column `g` of the result is the column the index names. -/
theorem gather_at (x : S10x10240.Idx → EReal) (idx : IVec S10240x1 32) (r : Fin 10) (g o : Fin 10240)
    (h : idx (ix2 g 0) = BitVec.ofNat 32 o.val) :
    Host.gather gather_S10x10240_S10240x1_S10x10240_0_1_n_n_1_1_101 x idx (ix2 r g) = x (ix2 r o) := by
  unfold Host.gather
  refine congrArg x (funext fun a => Fin.ext ?_)
  set d := gather_S10x10240_S10240x1_S10x10240_0_1_n_n_1_1_101 with hd
  fin_cases a
  · show d.start (ix2 r g) idx 0 + d.batchCoord (ix2 r g) 0 + d.offCoord (ix2 r g) 0 = r.val
    have e1 : d.start (ix2 r g) idx 0 = 0 := rfl
    have e2 : d.batchCoord (ix2 r g) 0 = 0 := rfl
    have e3 : d.offCoord (ix2 r g) 0 = r.val := rfl
    rw [e1, e2, e3]; omega
  · show d.start (ix2 r g) idx 1 + d.batchCoord (ix2 r g) 1 + d.offCoord (ix2 r g) 1 = o.val
    have e1 : d.start (ix2 r g) idx 1 = min (idx (d.siIdx (ix2 r g) ⟨0, by decide⟩)).toInt.toNat (10240 - 1) := rfl
    have e2 : d.batchCoord (ix2 r g) 1 = 0 := rfl
    have e3 : d.offCoord (ix2 r g) 1 = 0 := rfl
    have e4 : d.siIdx (ix2 r g) ⟨0, by decide⟩ = ix2 g 0 := by
      funext b
      fin_cases b <;> rfl
    have := o.isLt
    rw [e1, e2, e3, e4, h, StableHlo.Predicate.toInt_ofNat_small _ (by omega)]
    omega

/-- The place the gather reads for a position: the one that stands there in the depths' order. -/
theorem place_at (K : S10240.Idx → EReal) (y : S10240.Idx → BitVec 32) (hy : ∀ i : Fin 10240, y (ix1 i) = BitVec.ofNat 32 i.val)
    (g : Fin 10240) :
    (Host.sort2 S10240 0 (comparator_f32_i32_d0 (F := Ideal)) K y).2 (ix1 g)
      = BitVec.ofNat 32 (order (fun n => K (ix1 n)) g).val := by
  refine (sort2_at _ K y g).trans ?_
  rw [hy]
  unfold order less
  simp only [cmp_at]

/-- A word below 10240 is not negative, and so stays as it is. -/
theorem wrap_at (n : Fin 10240) :
    Scalar.select (IntOp.cmpi .slt (BitVec.ofNat 32 n.val) 0#32) (BitVec.ofNat 32 n.val + 10240#32) (BitVec.ofNat 32 n.val)
      = BitVec.ofNat 32 n.val := by
  have h : IntOp.cmpi .slt (BitVec.ofNat 32 n.val) 0#32 = 0#1 := by
    have := n.isLt
    have e := StableHlo.Predicate.toInt_ofNat_small n.val (by omega)
    have hn : ¬ ((n.val : ℤ) < 0) := by omega
    simp [IntOp.cmpi, BitVec.slt, e, hn]
  rw [h]; simp [Scalar.select]

variable (m : (ℓ : Loc nD τ sig) → Buf (Elt Ideal) ℓ) (c : Dev nD)

/-- A Gaussian's depth. -/
def dep (n : Fin 10000) : EReal := pc (f0 m c n) (ro0 m c) (tr0 m c) 2

/-- The depths as the staging call leaves them, the added places' the greatest. -/
def key (n : Fin 10240) : EReal :=
  V4 m (left m) c (Proc.devRef .tc main_v15_0) (ix3 9 ⟨n.val / 1280, by omega⟩ ⟨n.val % 1280, by omega⟩)

/-- The columns of attributes as the staging call leaves them. -/
def colm (n : Fin 10240) (r : Fin 10) : EReal :=
  V4 m (left m) c (Proc.devRef .tc main_v15_0) (ix3 r ⟨n.val / 1280, by omega⟩ ⟨n.val % 1280, by omega⟩)

theorem cols_sorted (g : Fin 10240) (r : Fin 10) : allcols (at1 m) c g.val r = colm m c (order (key m c) g) r := by
  unfold allcols
  rw [dif_pos g.isLt]
  unfold at1
  rw [← V7_left]
  after_reads_at
  refine (gather_at _ _ r g (order (key m c) g) ?_).trans rfl
  have e := place_at (fun i => V4 m (left m) c (Proc.devRef .tc main_v15_0) (ix3 9 ⟨(i 0).val / 1280, by have := (i 0).isLt; simp at this; omega⟩ ⟨(i 0).val % 1280, by omega⟩)) (iotaInDim S10240 32 0) (fun i => rfl) g
  generalize Host.sort2 S10240 0 (comparator_f32_i32_d0 (F := Ideal)) _ (iotaInDim S10240 32 0) = S at e ⊢
  pointwise
  rw [e]
  exact wrap_at _

/-- The depths in the table are the Gaussians'. -/
theorem key_real (n : Fin 10000) : key m c (n.castLE (by norm_num)) = dep m c n := by
  have e : (n.val / 1280) * 1280 + n.val % 1280 = n.val := by omega
  have hn := n.isLt
  unfold key dep
  simp only [Fin.val_castLE]
  rw [attrs_at]
  simp only [attr]
  rw [if_neg (by omega), ft_eq m c _ _ (by show n.val / 1280 * 1280 + n.val % 1280 < 10000; omega)]
  congr 2
  exact Fin.ext e

/-- Behind them stand the greatest. -/
theorem key_pad (n : Fin 10240) (h : 10000 ≤ n.val) : key m c n = ⊤ := by
  unfold key
  rw [attrs_at]
  simp only [attr]
  rw [if_pos (by omega)]

/-- A Gaussian's column holds its attributes. -/
theorem colm_real (n : Fin 10000) (r : Fin 10) :
    colm m c (n.castLE (by norm_num)) r = attr (f0 m c n) (ro0 m c) (tr0 m c) False r := by
  have e : (n.val / 1280) * 1280 + n.val % 1280 = n.val := by omega
  have hn := n.isLt
  unfold colm
  simp only [Fin.val_castLE]
  rw [attrs_at, ft_eq m c _ _ (by show n.val / 1280 * 1280 + n.val % 1280 < 10000; omega)]
  have e' : (⟨n.val / 1280 * 1280 + n.val % 1280, by omega⟩ : Fin 10000) = n := Fin.ext e
  simp only [e']
  have hp : ¬ (10000 ≤ n.val / 1280 * 1280 + n.val % 1280) := by omega
  fin_cases r <;> simp [attr, hp]

/-- A column that was added has opacity zero. -/
theorem colm_pad (n : Fin 10240) (h : 10000 ≤ n.val) : colm m c n 5 = 0 := by
  unfold colm
  rw [attrs_at]
  simp only [attr]
  rw [if_pos (by omega)]

/-- Opacity zero changes nothing. -/
theorem step_zero (a : Fin 10 → EReal) (ha : a 5 = 0) (x y : EReal) (st : St) : step a x y st = st := by
  have hc : (0 : EReal) < Ideal.ofBits .f32 0x3F7D70A4#32 := by
    simp [Ideal.ofBits, Ideal.ieee]
    rw [← EReal.coe_mul, EReal.coe_pos]; norm_num
  have hd : (0 : EReal) < Ideal.ofBits .f32 0x3B808081#32 := by
    simp [Ideal.ofBits, Ideal.ieee]
    rw [← EReal.coe_mul, EReal.coe_pos]; norm_num
  have h : wt a x y = 0 := by
    unfold wt raw
    rw [ha, zero_mul, min_eq_left hc.le, if_pos hd]
  unfold step
  simp [h]

theorem comp_zero (A : ℕ → Fin 10 → EReal) (x y : EReal) (st : St) (n k : ℕ) (h : ∀ g, n ≤ g → g < n + k → A g 5 = 0) :
    comp A x y st (n + k) = comp A x y st n := by
  induction k with
  | zero => rfl
  | succ k ih =>
    show step (A (n + k)) x y (comp A x y st (n + k)) = _
    rw [step_zero _ (h _ (by omega) (by omega)), ih fun g h1 h2 => h g h1 (by omega)]

theorem comp_tail (A B : ℕ → Fin 10 → EReal) (x y : EReal) (st : St) (n N : ℕ) (hn : n ≤ N)
    (h : ∀ g, n ≤ g → g < N → A g 5 = 0) (he : ∀ g, g < n → A g = B g) : comp A x y st N = comp B x y st n := by
  obtain ⟨k, rfl⟩ := Nat.exists_eq_add_of_le hn
  rw [comp_zero A x y st n k h, comp_congr A B x y st n he]

/-- The Gaussians' attributes from the nearest to the farthest. -/
def sorted (g : ℕ) (r : Fin 10) : EReal :=
  if h : g < 10000 then attr (f0 m c (order (dep m c) ⟨g, h⟩)) (ro0 m c) (tr0 m c) False r else 0

theorem image_tail (x y : EReal) (st : St) : comp (allcols (at1 m) c) x y st 10240 = comp (sorted m c) x y st 10000 := by
  refine comp_tail (allcols (at1 m) c) (sorted m c) x y st 10000 10240 (by norm_num) (fun g h1 h2 => ?_)
    fun g hg => funext fun r => ?_
  · have e := cols_sorted m c ⟨g, h2⟩ 5
    exact e.trans (colm_pad m c _ (order_behind (by norm_num) (key m c) (dep m c) (key_real m c) (key_pad m c) ⟨g, h2⟩ h1))
  · unfold sorted
    rw [dif_pos hg, ← colm_real, ← order_prefix (by norm_num) (key m c) (dep m c) (key_real m c) (key_pad m c)]
    exact cols_sorted m c ⟨g, by omega⟩ r

/-- The image from the arguments: the Gaussians composited from the nearest to the farthest. -/
theorem image_sorted (q : Fin 3) (y x : Fin 32) :
    V9 m (left m) c (Proc.devRef .tc main_v28) (ix3 q y x)
      = hue (comp (sorted m c) (wd x.val) (wd y.val) (1, 0, 0, 0) 10000) q := by
  rw [image_eq, image_tail]

end Cert.KernelIdeal.Own

end
-- ==== Proof.RefStage.lean ====
/-
  The reference's per-Gaussian arrays at a Gaussian: each is the scene's quantity of that Gaussian's features.
-/
module

public import proofs.«01_k».proof.Proof.Scene
public import proofs.«01_k».proof.Proof.Gen.ReferenceIdeal.Run
public import Idealize.ShloMosaic.Lib.Pointwise

@[expose] public section

set_option maxRecDepth 16384

noncomputable section

namespace Cert.ReferenceIdeal.Own

open Cert.ReferenceIdeal Cert.ReferenceIdeal.Gen Cert.Proof.Scene
open Cert.ReferenceIdeal.Value
open Idealize.ShloMosaic Idealize.ShloMosaic.Pointwise Idealize.ShloMosaic.TcCoe

variable (V : Valuation τ sig (Elt Ideal))

/-- The arguments' entries, by row. -/
def pos0 (n : Fin 10000) (i : Fin 3) : EReal := V (Proc.devRef .tc main_arg0) (ix2 n i)
def sh0 (n : Fin 10000) (i : Fin 48) : EReal := V (Proc.devRef .tc main_arg1) (ix2 n i)
def al0 (n : Fin 10000) : EReal := V (Proc.devRef .tc main_arg2) (ix2 n 0)
def sc0 (n : Fin 10000) (i : Fin 3) : EReal := V (Proc.devRef .tc main_arg3) (ix2 n i)
def qu0 (n : Fin 10000) (i : Fin 4) : EReal := V (Proc.devRef .tc main_arg4) (ix2 n i)
def us0 (n : Fin 10000) (i : Fin 2) : EReal := V (Proc.devRef .tc main_arg5) (ix2 n i)
def ro0 (i j : Fin 3) : EReal := V (Proc.devRef .tc main_arg6) (ix2 i j)
def tr0 (i : Fin 3) : EReal := V (Proc.devRef .tc main_arg7) (ix1 i)
def f0 (n : Fin 10000) : Fin 59 → EReal := feat (pos0 V n) (sh0 V n) (al0 V n) (sc0 V n) (qu0 V n)

theorem pos_f (n : Fin 10000) (i : Fin 3) : pos (f0 V n) i = pos0 V n i := by
  match i with
  | ⟨0, _⟩ => rfl
  | ⟨1, _⟩ => rfl
  | ⟨2, _⟩ => rfl

theorem v16_at (n : Fin 10000) (i : Fin 3) : res_main_v16 V (ix2 n i) = pc (f0 V n) (ro0 V) (tr0 V) i := by
  pointwise [res_main_v16]
  simp only [pc, dot, pos_f, Fin.sum_univ_three]
  rfl

theorem v18_at (n : Fin 10000) : res_main_v18 V (ix1 n) = pc (f0 V n) (ro0 V) (tr0 V) 2 := by
  pointwise [res_main_v18]
  exact v16_at V n 2

theorem v11_at (n : Fin 10000) (i : Fin 4) : res_main_v11 V (ix2 n i) = Ideal.div (f0 V n ⟨55 + i.val, by omega⟩) (qn (f0 V n)) := by
  pointwise [res_main_v11]
  simp only [Fin.sum_univ_four]
  fin_cases i <;> rfl

theorem v39_at (n : Fin 10000) : res_main_v39 V (ix1 n) = qw (f0 V n) := by
  pointwise [res_main_v39]; exact v11_at V n 0
theorem v41_at (n : Fin 10000) : res_main_v41 V (ix1 n) = qx (f0 V n) := by
  pointwise [res_main_v41]; exact v11_at V n 1
theorem v43_at (n : Fin 10000) : res_main_v43 V (ix1 n) = qy (f0 V n) := by
  pointwise [res_main_v43]; exact v11_at V n 2
theorem v45_at (n : Fin 10000) : res_main_v45 V (ix1 n) = qz (f0 V n) := by
  pointwise [res_main_v45]; exact v11_at V n 3

theorem v110_at (n : Fin 10000) (i j : Fin 3) : res_main_v110 V (ix3 n i j) = M (f0 V n) i j := by
  fin_cases i <;> fin_cases j
  all_goals
    pointwise [res_main_v110]
    simp only [v39_at, v41_at, v43_at, v45_at]
    rfl

theorem v140_at (n : Fin 10000) (r : Fin 2) (i : Fin 3) : res_main_v140 V (ix3 n r i) = T (f0 V n) (ro0 V) (tr0 V) r i := by
  fin_cases r
  · pointwise [res_main_v140, res_main_v113]
    simp only [Fin.sum_univ_three, v16_at, v18_at]
    change _ * _ + 0 * _ + _ * _ = _
    rw [zero_mul, add_zero]
    rfl
  · pointwise [res_main_v140, res_main_v113]
    simp only [Fin.sum_univ_three, v16_at, v18_at]
    change 0 * _ + _ * _ + _ * _ = _
    rw [zero_mul, zero_add]
    rfl

theorem v154_at (n : Fin 10000) (r q : Fin 2) : res_main_v154 V (ix3 n r q) = dot (P (f0 V n) (ro0 V) (tr0 V) r) (T (f0 V n) (ro0 V) (tr0 V) q) + (if r = q then k 0x3E99999A#32 else 0) := by
  pointwise [res_main_v154]
  simp only [Fin.sum_univ_three, v140_at, v110_at]
  have e : ∀ i j : Fin 3, M (f0 V n) i 0 * M (f0 V n) j 0 + M (f0 V n) i 1 * M (f0 V n) j 1 + M (f0 V n) i 2 * M (f0 V n) j 2 = S (f0 V n) j i :=
    fun i j => S_comm _ i j
  simp only [e]
  congr 1
  fin_cases r <;> fin_cases q
  all_goals simp [FloatOps.uitofp, IntOp.cmpi, IntOp.addi]

theorem v325_at (n : Fin 10000) : res_main_v325 V (ix1 n) = ca (f0 V n) (ro0 V) (tr0 V) := by
  pointwise [res_main_v325]; exact v154_at V n 0 0
theorem v327_at (n : Fin 10000) : res_main_v327 V (ix1 n) = cb (f0 V n) (ro0 V) (tr0 V) := by
  pointwise [res_main_v327]; exact (v154_at V n 0 1).trans (by rw [if_neg (by decide), add_zero]; rfl)
theorem v329_at (n : Fin 10000) : res_main_v329 V (ix1 n) = cc (f0 V n) (ro0 V) (tr0 V) := by
  pointwise [res_main_v329]; exact v154_at V n 1 1
theorem v332_at (n : Fin 10000) : res_main_v332 V (ix1 n) = det (f0 V n) (ro0 V) (tr0 V) := by
  pointwise [res_main_v332]; simp only [v325_at, v327_at, v329_at]; rfl

/-- The reference's second result: each Gaussian's extents. -/
theorem sizes_eq (n : Fin 10000) (r : Fin 2) :
    (Host.ceil (mulf (broadcastInDim S10000x2 ![] bcast_S_S10000x2 (constant (F := Ideal) S_ .f32 0x40400000#32)) (Host.sqrt (concatenate S10000x2 1 [⟨S10000x1, ((broadcastInDim S10000x1 ![0] bcast_S10000_S10000x1_0 (res_main_v325 V)) : (⟨S10000x1, .f32⟩ : BufTy).Contents (Elt Ideal))⟩, ⟨S10000x1, ((broadcastInDim S10000x1 ![0] bcast_S10000_S10000x1_0 (res_main_v329 V)) : (⟨S10000x1, .f32⟩ : BufTy).Contents (Elt Ideal))⟩] concatenates_S10000x1_S10000x1_S10000x2_d1))) : Vec Ideal S10000x2 .f32) (ix2 n r)
      = area (f0 V n) (ro0 V) (tr0 V) r := by
  fin_cases r
  all_goals
    pointwise []
    simp only [v325_at, v329_at]
    rfl

/-! ## Colours -/

variable (hR : ∀ i j, ∃ x : ℝ, ro0 V i j = x) (ht : ∀ i, ∃ x : ℝ, tr0 V i = x)
include hR ht

theorem v160_at (n : Fin 10000) (i : Fin 3) : res_main_v160 V (ix2 n i) = dir (f0 V n) (ro0 V) (tr0 V) i := by
  pointwise [res_main_v160]
  simp only [Fin.sum_univ_three, dir, cam, pos_f]
  change pos0 V n i - (-ro0 V 0 i * tr0 V 0 + -ro0 V 1 i * tr0 V 1 + -ro0 V 2 i * tr0 V 2) = _
  obtain ⟨a0, e0⟩ := hR 0 i
  obtain ⟨a1, e1⟩ := hR 1 i
  obtain ⟨a2, e2⟩ := hR 2 i
  obtain ⟨b0, g0⟩ := ht 0
  obtain ⟨b1, g1⟩ := ht 1
  obtain ⟨b2, g2⟩ := ht 2
  rw [e0, e1, e2, g0, g1, g2]
  congr 1
  norm_cast
  ring

theorem v165_at (n : Fin 10000) (i : Fin 3) : res_main_v165 V (ix2 n i) = d (f0 V n) (ro0 V) (tr0 V) i := by
  pointwise [res_main_v165]
  simp only [Fin.sum_univ_three, v160_at V hR ht]
  rfl

theorem v167_at (n : Fin 10000) (z : Fin 1) : res_main_v167 V (ix2 n z) = d (f0 V n) (ro0 V) (tr0 V) 0 := by
  pointwise [res_main_v167]; exact v165_at V hR ht n 0
theorem v168_at (n : Fin 10000) (z : Fin 1) : res_main_v168 V (ix2 n z) = d (f0 V n) (ro0 V) (tr0 V) 1 := by
  pointwise [res_main_v168]; exact v165_at V hR ht n 1
theorem v169_at (n : Fin 10000) (z : Fin 1) : res_main_v169 V (ix2 n z) = d (f0 V n) (ro0 V) (tr0 V) 2 := by
  pointwise [res_main_v169]; exact v165_at V hR ht n 2

omit hR ht in
theorem v166_at (n : Fin 10000) (q : Fin 16) (ch : Fin 3) : res_main_v166 V (ix3 n q ch) = sh (f0 V n) ch q := by
  pointwise [res_main_v166]
  have hq := q.isLt
  have hc := ch.isLt
  unfold sh f0 feat
  rw [dif_neg (by change ¬ (3 + 3 * q.val + ch.val < 3); omega), dif_pos (by change 3 + 3 * q.val + ch.val < 51; omega)]
  change sh0 V n _ = sh0 V n _
  congr 1
  apply Fin.ext
  change q.val * 3 + ch.val = 3 + 3 * q.val + ch.val - 3
  omega

omit hR ht in
theorem neg_c1 : -(k 0x3EFA2A1C#32) = k 0xBEFA2A1C#32 := by
  simp [k, Ideal.ofBits, Ideal.ieee]

theorem v271_at (n : Fin 10000) (ch : Fin 3) : res_main_v271 V (ix2 n ch) =
    term (f0 V n) (ro0 V) (tr0 V) ch 0 + term (f0 V n) (ro0 V) (tr0 V) ch 1 + term (f0 V n) (ro0 V) (tr0 V) ch 2 + term (f0 V n) (ro0 V) (tr0 V) ch 3
    + term (f0 V n) (ro0 V) (tr0 V) ch 4 + term (f0 V n) (ro0 V) (tr0 V) ch 5 + term (f0 V n) (ro0 V) (tr0 V) ch 6 + term (f0 V n) (ro0 V) (tr0 V) ch 7
    + term (f0 V n) (ro0 V) (tr0 V) ch 8 + term (f0 V n) (ro0 V) (tr0 V) ch 9 + term (f0 V n) (ro0 V) (tr0 V) ch 10 + term (f0 V n) (ro0 V) (tr0 V) ch 11 := by
  pointwise [res_main_v271, res_main_v170, res_main_v171, res_main_v172, res_main_v173]
  simp only [v166_at, v167_at V hR ht, v168_at V hR ht, v169_at V hR ht]
  simp only [sub_eq_add_neg (_ + _) (Ideal.ofBits _ _ * _ * _), sub_eq_add_neg (Ideal.ofBits _ _ * _) (Ideal.ofBits _ _ * _ * _), ← EReal.neg_mul]
  rw [show -(Ideal.ofBits FTy.f32 0x3EFA2A1C#32) = k 0xBEFA2A1C#32 from neg_c1]
  rfl

/-- The reference's colours. -/
theorem col_at (n : Fin 10000) (ch : Fin 3) :
    ((maximumf (addf (addf (addf (addf (addf (res_main_v271 V) (mulf (broadcastInDim S10000x3 ![0, 1] bcast_S10000x1_S10000x3_0_1 (mulf (mulf (broadcastInDim S10000x1 ![] bcast_S_S10000x1 (constant (F := Ideal) S_ .f32 0x3EBF10F8#32)) (res_main_v169 V)) (subf (subf (mulf (broadcastInDim S10000x1 ![] bcast_S_S10000x1 (constant (F := Ideal) S_ .f32 0x40000000#32)) (res_main_v172 V)) (mulf (broadcastInDim S10000x1 ![] bcast_S_S10000x1 (constant (F := Ideal) S_ .f32 0x40400000#32)) (res_main_v170 V))) (mulf (broadcastInDim S10000x1 ![] bcast_S_S10000x1 (constant (F := Ideal) S_ .f32 0x40400000#32)) (res_main_v171 V))))) (shapeCast _ (extractStridedSlice S10000x1x3 ![0, 12, 0] (res_main_v166 V) slices_S10000x16x3_S10000x1x3_0_12_0) shapeCasts_S10000x1x3_S10000x3))) (mulf (broadcastInDim S10000x3 ![0, 1] bcast_S10000x1_S10000x3_0_1 (mulf (mulf (broadcastInDim S10000x1 ![] bcast_S_S10000x1 (constant (F := Ideal) S_ .f32 0xBEEA01E8#32)) (res_main_v167 V)) (subf (subf (mulf (broadcastInDim S10000x1 ![] bcast_S_S10000x1 (constant (F := Ideal) S_ .f32 0x40800000#32)) (res_main_v172 V)) (res_main_v170 V)) (res_main_v171 V)))) (shapeCast _ (extractStridedSlice S10000x1x3 ![0, 13, 0] (res_main_v166 V) slices_S10000x16x3_S10000x1x3_0_13_0) shapeCasts_S10000x1x3_S10000x3))) (mulf (broadcastInDim S10000x3 ![0, 1] bcast_S10000x1_S10000x3_0_1 (mulf (mulf (broadcastInDim S10000x1 ![] bcast_S_S10000x1 (constant (F := Ideal) S_ .f32 0x3FB8FFC7#32)) (res_main_v169 V)) (subf (res_main_v170 V) (res_main_v171 V)))) (shapeCast _ (extractStridedSlice S10000x1x3 ![0, 14, 0] (res_main_v166 V) slices_S10000x16x3_S10000x1x3_0_14_0) shapeCasts_S10000x1x3_S10000x3))) (mulf (broadcastInDim S10000x3 ![0, 1] bcast_S10000x1_S10000x3_0_1 (mulf (mulf (broadcastInDim S10000x1 ![] bcast_S_S10000x1 (constant (F := Ideal) S_ .f32 0xBF170D19#32)) (res_main_v167 V)) (subf (res_main_v170 V) (mulf (broadcastInDim S10000x1 ![] bcast_S_S10000x1 (constant (F := Ideal) S_ .f32 0x40400000#32)) (res_main_v171 V))))) (shapeCast _ (extractStridedSlice S10000x1x3 ![0, 15, 0] (res_main_v166 V) slices_S10000x16x3_S10000x1x3_0_15_0) shapeCasts_S10000x1x3_S10000x3))) (broadcastInDim S10000x3 ![] bcast_S_S10000x3 (constant (F := Ideal) S_ .f32 0x3F000000#32))) (broadcastInDim S10000x3 ![] bcast_S_S10000x3 (constant (F := Ideal) S_ .f32 0x00000000#32))) : Vec Ideal S10000x3 .f32) (ix2 n ch)
      = col (f0 V n) (ro0 V) (tr0 V) ch := by
  pointwise [res_main_v170, res_main_v171, res_main_v172, res_main_v173]
  simp only [v166_at, v167_at V hR ht, v168_at V hR ht, v169_at V hR ht, v271_at V hR ht]
  rfl

end Cert.ReferenceIdeal.Own
end
-- ==== Proof.RunningSum.lean ====
/-
  A running sum over the rows of a matrix, and the exponential of a running sum of logarithms.
-/
module

public import Idealize.ShloMosaic.Lib.Routing.OpsOne
public import Idealize.ShloMosaic.Lib.Pointwise
public import Idealize.ShloMosaic.PureOps.Ideal

@[expose] public section

noncomputable section

namespace Cert.Proof.RunningSum

open Idealize.ShloMosaic Idealize.ShloMosaic.Pointwise Idealize.ShloMosaic.Routing

theorem fold_add {ι : Type} (g : ι → EReal) (l : List ι) (z : EReal) : l.foldl (fun r n => r + g n) z = z + (l.map g).sum := by
  induction l generalizing z with
  | nil => simp
  | cons a l ih => rw [List.foldl_cons, ih, List.map_cons, List.sum_cons, add_assoc]

/-- A column of a matrix, as a sequence. -/
def column {R C : ℕ} (x : (⟨2, ![R, C]⟩ : Shape).Idx → EReal) (c : Fin C) (i : ℕ) : EReal :=
  if h : i < R then x (ix2 ⟨i, h⟩ c) else 0

theorem window_sum (X : ℕ → EReal) (r j : ℕ) (hj : j ≤ r) :
    ∑ n ∈ Finset.range (r + 1), (if r ≤ j + n then X (j + n - r) else 0) = ∑ i ∈ Finset.range (j + 1), X i := by
  obtain ⟨d, rfl⟩ := Nat.exists_eq_add_of_le hj
  rw [show j + d + 1 = d + (j + 1) by omega, Finset.sum_range_add]
  rw [Finset.sum_eq_zero (fun n hn => if_neg (by have := Finset.mem_range.mp hn; omega)), zero_add]
  refine Finset.sum_congr rfl fun n _ => ?_
  rw [if_pos (by omega)]
  congr 1
  omega

/-- The running sum of the rows, at an entry. -/
theorem rows_sum {R r C : ℕ} (hR : r + 1 = R) (x : (⟨2, ![R, C]⟩ : Shape).Idx → EReal)
    (h : (⟨2, ![R, C]⟩ : Shape).ReduceWindows (![R, 1] : Fin 2 → ℕ) ![1, 1] ![r, 0] ![0, 0] ⟨2, ![R, C]⟩) (j : Fin R) (c : Fin C) :
    Ideal.hostReduceWindowAdd ![R, 1] ![1, 1] ![r, 0] ![0, 0] h x 0 (ix2 j c) = ∑ i ∈ Finset.range (j.val + 1), column x c i := by
  subst hR
  have hj := j.isLt
  have hc := c.isLt
  unfold Ideal.hostReduceWindowAdd Host.reduceWindow
  dsimp only
  rw [fold_add, zero_add, ← Fin.sum_univ_def]
  rw [← window_sum (column x c) r j.val (by omega), ← Fin.sum_univ_eq_sum_range (fun n => if r ≤ j.val + n then column x c (j.val + n - r) else 0)]
  refine Fintype.sum_equiv (finCongr (numel_col (r + 1))) _ _ fun n => ?_
  have hw0 : ((shape2 (r + 1) 1).rowMajor.symm n 0).val = n.val := by rw [symm_col]; rfl
  have hw1 : ((shape2 (r + 1) 1).rowMajor.symm n 1).val = 0 := by rw [symm_col]; rfl
  have hn : n.val < r + 1 := (n.cast (numel_col _)).isLt
  show _ = if r ≤ j.val + n.val then column x c (j.val + n.val - r) else 0
  by_cases hle : r ≤ j.val + n.val
  · rw [if_pos hle, dif_pos]
    · unfold column
      rw [dif_pos (by omega)]
      refine congrArg x (funext fun a => Fin.ext ?_)
      match a with
      | ⟨0, _⟩ =>
        show j.val * 1 + ((shape2 (r + 1) 1).rowMajor.symm n 0).val - r = j.val + n.val - r
        rw [hw0, Nat.mul_one]
      | ⟨1, _⟩ =>
        show c.val * 1 + ((shape2 (r + 1) 1).rowMajor.symm n 1).val - 0 = c.val
        rw [hw1]
        omega
    · intro a
      match a with
      | ⟨0, _⟩ =>
        show r ≤ j.val * 1 + ((shape2 (r + 1) 1).rowMajor.symm n 0).val ∧ j.val * 1 + ((shape2 (r + 1) 1).rowMajor.symm n 0).val - r < r + 1
        rw [hw0]
        omega
      | ⟨1, _⟩ =>
        show 0 ≤ c.val * 1 + ((shape2 (r + 1) 1).rowMajor.symm n 1).val ∧ c.val * 1 + ((shape2 (r + 1) 1).rowMajor.symm n 1).val - 0 < C
        rw [hw1]
        omega
  · rw [if_neg hle, dif_neg]
    intro hin
    have h0 := (hin 0).1
    change r ≤ j.val * 1 + ((shape2 (r + 1) 1).rowMajor.symm n 0).val at h0
    rw [hw0] at h0
    omega

/-- The exponential of a sum of logarithms of one less a weight is the product of what each weight leaves. -/
theorem exp_sum_log (w : ℕ → ℝ) (hw : ∀ k, w k < 1) (n : ℕ) :
    Ideal.exp (∑ k ∈ Finset.range n, Ideal.log1p (-(w k : EReal))) = ((∏ k ∈ Finset.range n, (1 - w k) : ℝ) : EReal) := by
  have e : ∀ k, Ideal.log1p (-(w k : EReal)) = ((Real.log (1 - w k) : ℝ) : EReal) := by
    intro k
    have h : ¬ 1 - w k ≤ 0 := by have := hw k; linarith
    have e1 : (1 : EReal) + -(w k : EReal) = ((1 - w k : ℝ) : EReal) := by rw [← sub_eq_add_neg]; norm_cast
    unfold Ideal.log1p
    rw [e1]
    show (if 1 - w k ≤ 0 then (⊥ : EReal) else (Real.log (1 - w k) : EReal)) = _
    rw [if_neg h]
  have s : ∑ k ∈ Finset.range n, Ideal.log1p (-(w k : EReal)) = ((∑ k ∈ Finset.range n, Real.log (1 - w k) : ℝ) : EReal) := by
    induction n with
    | zero => simp
    | succ n ih => rw [Finset.sum_range_succ, Finset.sum_range_succ, ih, e, EReal.coe_add]
  rw [s]
  show ((Real.exp _ : ℝ) : EReal) = _
  rw [Real.exp_sum]
  congr 1
  refine Finset.prod_congr rfl fun k _ => ?_
  exact Real.exp_log (by have := hw k; linarith)

end Cert.Proof.RunningSum

end
-- ==== Proof.Exponent.lean ====
/-
  The exponent of a Gaussian at a pixel: to the base two with the kernel's coefficients, to the base e with the
  reference's, at every depth.
-/
module

public import proofs.«01_k».proof.Proof.Splat2D

@[expose] public section

noncomputable section

namespace Cert.Proof.Scene

open Idealize.ShloMosaic

/-- Zero or an infinity. -/
def Zi (x : EReal) : Prop := x = 0 ∨ x = ⊤ ∨ x = ⊥

theorem Zi.add {x y : EReal} : Zi x → Zi y → Zi (x + y) := by
  rintro (rfl | rfl | rfl) (rfl | rfl | rfl) <;> simp [Zi]
theorem Zi.mul {x y : EReal} : Zi x → Zi y → Zi (x * y) := by
  rintro (rfl | rfl | rfl) (rfl | rfl | rfl) <;> simp [Zi]
theorem Zi.mul_any {x : EReal} (y : EReal) (h : Zi x) : Zi (x * y) := by
  by_cases hy : y = 0
  · rw [hy, mul_zero]; exact .inl rfl
  · rcases h with rfl | h
    · rw [zero_mul]; exact .inl rfl
    · exact .inr (Un.mul hy h)

theorem div_zero_cases (x : EReal) : Ideal.div x 0 = ⊤ ∨ Ideal.div x 0 = ⊥ := by
  unfold Ideal.div
  rw [if_pos rfl]
  by_cases h : 0 < x
  · exact .inl (if_pos h)
  · exact .inr (if_neg h)

theorem div_zero_zi (x : EReal) : Zi (Ideal.div x 0) := .inr (div_zero_cases x)

variable (f : Fin 59 → EReal) (R : Fin 3 → Fin 3 → EReal) (t : Fin 3 → EReal)

/-- The kernel's exponent, to the base two. -/
def kexp (x y : EReal) : EReal :=
  (ea f R t * (x - u f R t 0) + eb f R t * (y - u f R t 1)) * (x - u f R t 0) + ec f R t * (y - u f R t 1) * (y - u f R t 1)

/-- The reference's exponent, to the base e. -/
def rexp (x y : EReal) : EReal :=
  k 0xBF000000#32 * (Ideal.div (cc f R t) (det f R t) * (x - u f R t 0) * (x - u f R t 0)
    + k 0x40000000#32 * Ideal.div (-cb f R t) (det f R t) * (x - u f R t 0) * (y - u f R t 1)
    + Ideal.div (ca f R t) (det f R t) * (y - u f R t 1) * (y - u f R t 1))

variable {f R t}

/-- The powers agree where the exponents do up to the logarithm of two. -/
theorem pow_eq (p q : ℝ) (h : p * Real.log 2 = q) : Ideal.exp2 (min (p : EReal) 0) = Ideal.exp (min (q : EReal) 0) := by
  have e : ∀ z : ℝ, min (z : EReal) 0 = ((min z 0 : ℝ) : EReal) := fun z => by
    rcases le_total z 0 with h | h
    · rw [min_eq_left h, min_eq_left (by exact_mod_cast h)]
    · rw [min_eq_right h, min_eq_right (by exact_mod_cast h)]; rfl
  rw [e, e]
  show ((Real.rpow 2 (min p 0) : ℝ) : EReal) = ((Real.exp (min q 0) : ℝ) : EReal)
  congr 1
  have l : 0 < Real.log 2 := Real.log_pos (by norm_num)
  show (2 : ℝ) ^ (min p 0) = _
  rw [Real.rpow_def_of_pos (by norm_num)]
  congr 1
  rw [← h, mul_comm, min_mul_of_nonneg _ _ l.le, zero_mul]

theorem sub_inf (x : ℝ) : (x : EReal) - ⊤ = ⊥ := by simp [sub_eq_add_neg]
theorem sub_ninf (x : ℝ) : (x : EReal) - ⊥ = ⊤ := by simp [sub_eq_add_neg]

theorem real_exponent (a b c d x y l : ℝ) (hd : d ≠ 0) (hl : l ≠ 0) :
    ((-((2 * l)⁻¹) * (c / d) * x + -(l⁻¹) * ((0 - b) / d) * y) * x + -((2 * l)⁻¹) * (a / d) * y * y) * l
      = -(1/2) * (c / d * x * x + 2 * (-b / d) * x * y + a / d * y * y) := by
  have h : l⁻¹ * l = 1 := inv_mul_cancel₀ hl
  linear_combination (-(1 * 2⁻¹) * (c * d⁻¹ * x * x + 2 * (-b * d⁻¹) * x * y + a * d⁻¹ * y * y)) * h

theorem log2_ne : Real.log 2 ≠ 0 := (Real.log_pos (by norm_num)).ne'

section zero

variable (hp : ∀ i, Rl (pos f i)) (hR : ∀ i j, Rl (R i j)) (ht : ∀ i, Rl (t i))

/-- At depth zero the screen covariance is its floor, or its determinant infinite. -/
theorem cov_zero (h : pc f R t 2 = 0) :
    (ca f R t = fl ∧ cb f R t = 0 ∧ cc f R t = fl) ∨ Un (det f R t) := by
  have hT : ∀ r i, Zi (T f R t r i) := by
    intro r i
    unfold T jd jo
    rw [h, mul_zero]
    exact ((div_zero_zi _).mul_any _).add ((div_zero_zi _).mul_any _)
  have hP : ∀ r i, Zi (P f R t r i) := fun r i =>
    (((hT r 0).mul_any _).add ((hT r 1).mul_any _)).add ((hT r 2).mul_any _)
  have hD : ∀ r q, Zi (dot (P f R t r) (T f R t q)) := fun r q =>
    (((hP r 0).mul (hT q 0)).add ((hP r 1).mul (hT q 1))).add ((hP r 2).mul (hT q 2))
  unfold det ca cb cc Un
  rw [kfl]
  have f0 := fl_pos
  have m1 := EReal.coe_mul_top_of_pos f0
  have m2 := EReal.coe_mul_bot_of_pos f0
  have m3 := EReal.top_mul_coe_of_pos f0
  have m4 := EReal.bot_mul_coe_of_pos f0
  rcases hD 0 0 with a | a | a <;> rcases hD 0 1 with b | b | b <;> rcases hD 1 1 with c | c | c <;> rw [a, b, c] <;>
    simp [m1, m2, m3, m4, sub_eq_add_neg]

theorem kh_neg : -((2 * (Real.log 2))⁻¹) < 0 := by
  have l : 0 < Real.log 2 := Real.log_pos (by norm_num)
  have : 0 < (2 * Real.log 2)⁻¹ := by positivity
  linarith

/-- The two exponentials are one where the determinant is infinite: every coefficient is zero. -/
theorem exp_eq_un (hd : Un (det f R t)) (x y : ℝ) : Ideal.exp2 (min (kexp f R t x y) 0) = Ideal.exp (min (rexp f R t x y) 0) := by
  have hz : ∀ z, Ideal.div z (det f R t) = 0 := by
    intro z
    rcases hd with e | e <;> rw [e]
    · exact div_top z
    · exact div_bot z
  have ek : kexp f R t x y = ((0 : ℝ) : EReal) := by unfold kexp ea eb ec; simp [hz]
  have er : rexp f R t x y = ((0 : ℝ) : EReal) := by unfold rexp; simp [hz]
  rw [ek, er]
  exact pow_eq 0 0 (by simp)

/-- The two exponentials are one at depth zero. -/
theorem exp_eq_zero (h : pc f R t 2 = 0) (x y : ℝ) : Ideal.exp2 (min (kexp f R t x y) 0) = Ideal.exp (min (rexp f R t x y) 0) := by
  · rcases cov_zero h with ⟨a, b, c⟩ | hd
    · have hd : det f R t = ((fl * fl : ℝ) : EReal) := by unfold det; rw [a, b, c]; norm_cast; simp
      have ff := fl_pos
      have fn : fl * fl ≠ 0 := (mul_pos ff ff).ne'
      have fp : 0 < fl / (fl * fl) := by positivity
      have hu : ∀ i, u f R t i = ⊤ ∨ u f R t i = ⊥ := by
        intro i
        unfold u
        rw [h, k16]
        rcases div_zero_cases (k 0x41F00000#32 * pc f R t i) with e | e <;> rw [e]
        · exact .inl rfl
        · exact .inr rfl
      have e0 : Ideal.div 0 ((fl * fl : ℝ) : EReal) = 0 := by
        have := div_coe' 0 _ fn
        simpa using this
      have kk : kh * ((fl / (fl * fl) : ℝ) : EReal) = ((-((2 * (Real.log 2))⁻¹) * (fl / (fl * fl)) : ℝ) : EReal) := by
        unfold kh; norm_cast
      have kn : -((2 * (Real.log 2))⁻¹) * (fl / (fl * fl)) < 0 := mul_neg_of_neg_of_pos kh_neg fp
      have hb : (-(1/2) : ℝ) < 0 := by norm_num
      have n1 := EReal.coe_mul_top_of_neg kn
      have n2 := EReal.coe_mul_bot_of_neg kn
      have n3 := EReal.coe_mul_top_of_pos fp
      have n4 := EReal.coe_mul_bot_of_pos fp
      have n5 := EReal.coe_mul_top_of_neg hb
      have n6 := EReal.coe_mul_bot_of_neg hb
      have ek : kexp f R t x y = ⊥ := by
        unfold kexp ea eb ec
        rw [hd, a, b, c, div_coe' _ _ fn, kk]
        rcases hu 0 with e | e <;> rcases hu 1 with e' | e' <;> rw [e, e'] <;>
          simp only [sub_zero, e0, mul_zero, zero_mul, add_zero, sub_inf, sub_ninf, n1, n2, EReal.top_mul_bot, EReal.bot_mul_top, EReal.bot_mul_bot, EReal.top_mul_top, EReal.bot_add]
      have er : rexp f R t x y = ⊥ := by
        unfold rexp
        rw [hd, a, b, c, div_coe' _ _ fn, khalf]
        rcases hu 0 with e | e <;> rcases hu 1 with e' | e' <;> rw [e, e'] <;>
          simp only [neg_zero, e0, mul_zero, zero_mul, add_zero, sub_inf, sub_ninf, n3, n4, n5, n6, EReal.top_mul_bot, EReal.bot_mul_top, EReal.bot_mul_bot, EReal.top_mul_top, EReal.top_add_top]
      rw [ek, er, min_eq_left bot_le]
      rfl
    · exact exp_eq_un hd x y

include hp hR ht in
/-- The two exponentials are one away from depth zero. -/
theorem exp_eq_real (h : pc f R t 2 ≠ 0) (x y : ℝ) : Ideal.exp2 (min (kexp f R t x y) 0) = Ideal.exp (min (rexp f R t x y) 0) := by
  rcases cov_rl hp hR ht h with ⟨a, b, c, ha, hb, hc, hd⟩ | hd
  swap
  · exact exp_eq_un hd x y
  · obtain ⟨v, hv⟩ := u_rl hp hR ht h 0
    obtain ⟨w, hw⟩ := u_rl hp hR ht h 1
    have e : det f R t = ((a * c - b * b : ℝ) : EReal) := by unfold det; rw [ha, hb, hc]; norm_cast
    have hn : a * c - b * b ≠ 0 := hd.ne'
    have ek : kexp f R t x y = (((-((2 * (Real.log 2))⁻¹) * (c / (a * c - b * b)) * (x - v) + -((Real.log 2)⁻¹) * ((0 - b) / (a * c - b * b)) * (y - w)) * (x - v)
        + -((2 * (Real.log 2))⁻¹) * (a / (a * c - b * b)) * (y - w) * (y - w) : ℝ) : EReal) := by
      unfold kexp ea eb ec kh kl
      rw [e, ha, hb, hc, hv, hw, show (0 : EReal) - (b : EReal) = ((0 - b : ℝ) : EReal) from rfl, div_coe' _ _ hn, div_coe' _ _ hn, div_coe' _ _ hn]
      simp only [← EReal.coe_mul, ← EReal.coe_add, ← EReal.coe_sub]
    have er : rexp f R t x y = ((-(1/2) * (c / (a * c - b * b) * (x - v) * (x - v) + 2 * (-b / (a * c - b * b)) * (x - v) * (y - w)
        + a / (a * c - b * b) * (y - w) * (y - w)) : ℝ) : EReal) := by
      unfold rexp
      rw [e, ha, hb, hc, hv, hw, ← EReal.coe_neg, div_coe' _ _ hn, div_coe' _ _ hn, div_coe' _ _ hn, khalf, k2]
      simp only [← EReal.coe_mul, ← EReal.coe_add, ← EReal.coe_sub]
    rw [ek, er]
    exact pow_eq _ _ (real_exponent a b c _ _ _ _ hn log2_ne)

include hp hR ht in
/-- The two exponentials are one. -/
theorem exp_eq (x y : ℝ) : Ideal.exp2 (min (kexp f R t x y) 0) = Ideal.exp (min (rexp f R t x y) 0) := by
  by_cases h : pc f R t 2 = 0
  · exact exp_eq_zero h x y
  · exact exp_eq_real hp hR ht h x y

end zero

end Cert.Proof.Scene

end
-- ==== Proof.Composite.lean ====
/-
  Compositing as a sum: each Gaussian's colour by its weight and by the light that those before it leave.
-/
module

public import proofs.«01_k».proof.Proof.SplatFold
public import proofs.«01_k».proof.Proof.Exponent

@[expose] public section

noncomputable section

namespace Cert.Proof.Composite

open Cert.KernelIdeal.Own Cert.Proof.Scene
open Idealize.ShloMosaic

theorem exp_nonneg (z : EReal) : 0 ≤ Ideal.exp z := by
  induction z with
  | bot => exact le_refl _
  | top => exact le_top
  | coe r => exact EReal.coe_nonneg.mpr (Real.exp_pos r).le

/-- An opacity is a number from zero to one. -/
theorem al_unit (f : Fin 59 → EReal) : ∃ a : ℝ, al f = a ∧ 0 ≤ a ∧ a ≤ 1 := by
  unfold al
  have h := exp_nonneg (0 - f 51)
  generalize Ideal.exp (0 - f 51) = e at h
  induction e with
  | bot => exact absurd h (by simp)
  | top => exact ⟨0, by rw [EReal.add_top_of_ne_bot (by exact EReal.coe_ne_bot 1), div_top]; rfl, le_refl _, zero_le_one⟩
  | coe r =>
    have hr : 0 ≤ r := EReal.coe_nonneg.mp h
    have h1 : (0 : ℝ) < 1 + r := by linarith
    refine ⟨1 / (1 + r), ?_, by positivity, ?_⟩
    · have := div_coe' 1 (1 + r) h1.ne'
      rwa [EReal.coe_add] at this
    · rw [div_le_one h1]; linarith

theorem exp_min (z : EReal) : ∃ a : ℝ, Ideal.exp (min z 0) = a ∧ 0 ≤ a ∧ a ≤ 1 := by
  have h : min z 0 ≤ 0 := min_le_right _ _
  generalize min z 0 = e at h
  induction e with
  | bot => exact ⟨0, rfl, le_refl _, zero_le_one⟩
  | top => exact absurd h (by simp)
  | coe r => exact ⟨Real.exp r, rfl, (Real.exp_pos r).le, Real.exp_le_one_iff.mpr (EReal.coe_nonpos.mp h)⟩

/-- A weight as both sides cut it, from an opacity before its cut. -/
def cut (r : EReal) : EReal := if r < k 0x3B808081#32 then 0 else r

/-- The reference's opacity at a pixel, before its cut. -/
def rraw (f : Fin 59 → EReal) (R : Fin 3 → Fin 3 → EReal) (t : Fin 3 → EReal) (x y : EReal) : EReal :=
  min (al f * Ideal.exp (min (rexp f R t x y) 0)) (k 0x3F7D70A4#32)

/-- It cuts to a number from zero to less than one. -/
theorem cut_real (f : Fin 59 → EReal) (R : Fin 3 → Fin 3 → EReal) (t : Fin 3 → EReal) (x y : EReal) :
    ∃ w : ℝ, cut (rraw f R t x y) = w ∧ w < 1 := by
  obtain ⟨a, ha, _, _⟩ := al_unit f
  obtain ⟨e, he, _, _⟩ := exp_min (rexp f R t x y)
  have h : rraw f R t x y = ((min (a * e) (16609444 / 2 ^ 24) : ℝ) : EReal) := by
    unfold rraw
    rw [ha, he, k99, ← EReal.coe_mul]
    exact (EReal.coe_strictMono.monotone.map_min).symm
  unfold cut
  by_cases hc : rraw f R t x y < k 0x3B808081#32
  · exact ⟨0, by rw [if_pos hc]; rfl, by norm_num⟩
  · refine ⟨_, by rw [if_neg hc, h], ?_⟩
    exact lt_of_le_of_lt (min_le_right _ _) (by norm_num)

/-- The kernel's weight is the reference's. -/
theorem wt_eq {f : Fin 59 → EReal} {R : Fin 3 → Fin 3 → EReal} {t : Fin 3 → EReal}
    (hp : ∀ i, Rl (pos f i))
    (hR : ∀ i j, Rl (R i j)) (ht : ∀ i, Rl (t i)) (x y : ℝ) :
    wt (attr f R t False) x y = cut (rraw f R t x y) := by
  have e : raw (attr f R t False) x y = rraw f R t x y := by
    show min ((if False then 0 else al f) * Ideal.exp2 (min (kexp f R t x y) 0)) _ = _
    rw [if_neg not_false, exp_eq hp hR ht x y]
    rfl
  unfold wt cut
  rw [e]

/-- A pixel's state, with the weights' values at hand. -/
theorem comp_sum (A : ℕ → Fin 10 → EReal) (x y : EReal) (w : ℕ → ℝ) (n : ℕ) (hw : ∀ g, g < n → wt (A g) x y = w g) :
    comp A x y (1, 0, 0, 0) n
      = (((∏ j ∈ Finset.range n, (1 - w j) : ℝ) : EReal),
        ∑ g ∈ Finset.range n, (w g : EReal) * ((∏ j ∈ Finset.range g, (1 - w j) : ℝ) : EReal) * A g 6,
        ∑ g ∈ Finset.range n, (w g : EReal) * ((∏ j ∈ Finset.range g, (1 - w j) : ℝ) : EReal) * A g 7,
        ∑ g ∈ Finset.range n, (w g : EReal) * ((∏ j ∈ Finset.range g, (1 - w j) : ℝ) : EReal) * A g 8) := by
  induction n with
  | zero => simp [comp]
  | succ n ih =>
    show step (A n) x y (comp A x y (1, 0, 0, 0) n) = _
    rw [ih fun g h => hw g (by omega)]
    unfold step
    rw [hw n (by omega)]
    simp only [Finset.sum_range_succ, Finset.prod_range_succ]
    congr 1
    rw [← EReal.coe_mul, ← EReal.coe_sub]
    congr 1
    ring

/-- A pixel's colour in a channel. -/
theorem hue_sum (A : ℕ → Fin 10 → EReal) (x y : EReal) (w : ℕ → ℝ) (n : ℕ) (hw : ∀ g, g < n → wt (A g) x y = w g) (q : Fin 3) :
    hue (comp A x y (1, 0, 0, 0) n) q
      = ∑ g ∈ Finset.range n, (w g : EReal) * ((∏ j ∈ Finset.range g, (1 - w j) : ℝ) : EReal) * A g ⟨6 + q.val, by omega⟩ := by
  rw [comp_sum A x y w n hw]
  fin_cases q <;> rfl

end Cert.Proof.Composite

end
-- ==== Proof.RefImage.lean ====
/-
  The reference's image at a pixel: the sum, over the Gaussians in the depths' order, of weight, light left and colour.
-/
module

public import proofs.«01_k».proof.Proof.RefStage
public import proofs.«01_k».proof.Proof.Sorting
public import proofs.«01_k».proof.Proof.RunningSum
public import proofs.«01_k».proof.Proof.Composite
public import Idealize.ShloMosaic.Lib.StableHlo.Predicate
public import Idealize.ShloMosaic.Lib.Routing.Ops

@[expose] public section

set_option maxRecDepth 16384

noncomputable section

namespace Cert.ReferenceIdeal.Own

open Cert.ReferenceIdeal Cert.ReferenceIdeal.Gen Cert.Proof.Scene Cert.Proof.Sorting Cert.Proof.RunningSum Cert.Proof.Composite
open Cert.ReferenceIdeal.Value
open Idealize.ShloMosaic Idealize.ShloMosaic.Pointwise Idealize.ShloMosaic.TcCoe

/-- The sort's comparison asks whether one depth is strictly less than the other. -/
theorem cmp_at (l r : EReal × BitVec 32) :
    (comparator_f32_i32_d0 (F := Ideal) l r == 1#1) = decide (l.1 < r.1) := by
  have h : ∀ x : EReal, Scalar.select (FloatOps.cmpf (F := Ideal) (φ := .f32) .une x x) (FloatOps.ofBits (F := Ideal) .f32 0x7FC00000#32)
      (Scalar.select (FloatOps.cmpf (F := Ideal) (φ := .f32) .oeq x (FloatOps.ofBits (F := Ideal) .f32 0x00000000#32))
        (FloatOps.ofBits (F := Ideal) .f32 0x00000000#32) x) = x := by
    intro x
    have h0 : FloatOps.ofBits (F := Ideal) .f32 0x00000000#32 = (0 : EReal) := by
      show Ideal.ofBits .f32 0x00000000#32 = 0
      simp [Ideal.ofBits, Ideal.ieee]
    rw [h0]
    by_cases hx : x = 0 <;> simp [Scalar.select, Ideal.cmpf_def, Ideal.cmp, hx]
  unfold comparator_f32_i32_d0
  dsimp only
  rw [h, h, Ideal.cmpfTotal_def]
  by_cases hx : l.1 < r.1 <;> simp [Ideal.cmp, CmpDirection.ordered, hx]

/-- A word below 10000 is not negative, and so stays as it is. -/
theorem wrap_at (n : Fin 10000) :
    Scalar.select (IntOp.cmpi .slt (BitVec.ofNat 32 n.val) 0#32) (BitVec.ofNat 32 n.val + 10000#32) (BitVec.ofNat 32 n.val)
      = BitVec.ofNat 32 n.val := by
  have h : IntOp.cmpi .slt (BitVec.ofNat 32 n.val) 0#32 = 0#1 := by
    have := n.isLt
    have e := StableHlo.Predicate.toInt_ofNat_small n.val (by omega)
    have hn : ¬ ((n.val : ℤ) < 0) := by omega
    simp [IntOp.cmpi, BitVec.slt, e, hn]
  rw [h]; simp [Scalar.select]

/-- The gather of opacities: entry `n` is the one the index's row names. -/
theorem gather_al (x : S10000x1.Idx → EReal) (idx : IVec S10000x2 32) (n o : Fin 10000)
    (h : idx (ix2 n 0) = BitVec.ofNat 32 o.val) :
    Host.gather gather_S10000x1_S10000x2_S10000_n_01_n_n_01_1_11 x idx (ix1 n) = x (ix2 o 0) := by
  unfold Host.gather
  refine congrArg x (funext fun a => Fin.ext ?_)
  set d := gather_S10000x1_S10000x2_S10000_n_01_n_n_01_1_11 with hd
  fin_cases a
  · show d.start (ix1 n) idx 0 + d.batchCoord (ix1 n) 0 + d.offCoord (ix1 n) 0 = o.val
    have e1 : d.start (ix1 n) idx 0 = min (idx (d.siIdx (ix1 n) ⟨0, by decide⟩)).toInt.toNat (10000 - 1) := rfl
    have e2 : d.batchCoord (ix1 n) 0 = 0 := rfl
    have e3 : d.offCoord (ix1 n) 0 = 0 := rfl
    have e4 : d.siIdx (ix1 n) ⟨0, by decide⟩ = ix2 n 0 := by
      funext b
      fin_cases b <;> rfl
    have := o.isLt
    rw [e1, e2, e3, e4, h, StableHlo.Predicate.toInt_ofNat_small _ (by omega)]
    omega
  · show d.start (ix1 n) idx 1 + d.batchCoord (ix1 n) 1 + d.offCoord (ix1 n) 1 = 0
    have e1 : d.start (ix1 n) idx 1 = min (idx (d.siIdx (ix1 n) ⟨1, by decide⟩)).toInt.toNat (1 - 1) := rfl
    have e2 : d.batchCoord (ix1 n) 1 = 0 := rfl
    have e3 : d.offCoord (ix1 n) 1 = 0 := rfl
    rw [e1, e2, e3]
    omega

variable (V : Valuation τ sig (Elt Ideal))

/-- The Gaussians' places from the nearest to the farthest. -/
def ord : Fin 10000 → Fin 10000 := order fun n => pc (f0 V n) (ro0 V) (tr0 V) 2

theorem v348_at (n : Fin 10000) : res_main_v348 V (ix1 n) = BitVec.ofNat 32 (ord V n).val := by
  unfold res_main_v348
  refine (sort2_at _ _ _ n).trans ?_
  unfold ord order less
  simp only [cmp_at, v18_at]
  rfl

theorem idx_at (n : Fin 10000) :
    ((broadcastInDim S10000x1 ![0] bcast_S10000_S10000x1_0 (select (cmpi .slt (res_main_v348 V) (broadcastInDim S10000 ![] bcast_S_S10000 (constantI S_ 32 0#32))) (addi (res_main_v348 V) (broadcastInDim S10000 ![] bcast_S_S10000 (constantI S_ 32 10000#32))) (res_main_v348 V))) : IVec S10000x1 32) (ix2 n 0)
      = BitVec.ofNat 32 (ord V n).val := by
  pointwise []
  rw [v348_at]
  exact wrap_at _

variable (hu : ∀ n i, ∃ x : ℝ, us0 V n i = x)

theorem add_sub_real (z : EReal) (x : ℝ) : z + x - x = z := by
  induction z with
  | bot => simp
  | top => simp [sub_eq_add_neg, ← EReal.coe_neg]
  | coe r => norm_cast; ring

include hu in
theorem v355_at (n : Fin 10000) (i : Fin 2) : res_main_v355 V (ix2 n i) = u (f0 V (ord V n)) (ro0 V) (tr0 V) ⟨i.val, by omega⟩ := by
  unfold res_main_v355
  refine (Routing.gather_row gather_S10000x2_S10000x1_S10000x2_1_0_n_n_0_1_12 rfl rfl rfl rfl rfl _ _ n i (ord V n) (idx_at V n) (by norm_num)).trans ?_
  obtain ⟨x, hx⟩ := hu (ord V n) i
  generalize ord V n = o at hx
  have h : ∀ z : EReal, z + V (Proc.devRef .tc main_arg5) (ix2 o i) - V (Proc.devRef .tc main_arg5) (ix2 o i) = z := fun z => by
    rw [show V (Proc.devRef .tc main_arg5) (ix2 o i) = (x : EReal) from hx]; exact add_sub_real z x
  pointwise []
  refine (h _).trans ?_
  fin_cases i
  · pointwise []
    simp only [v16_at, v18_at]
    rfl
  · pointwise []
    simp only [v16_at, v18_at]
    rfl

theorem v362_at (n : Fin 10000) (i : Fin 3) : res_main_v362 V (ix2 n i) =
    ![Ideal.div (cc (f0 V (ord V n)) (ro0 V) (tr0 V)) (det (f0 V (ord V n)) (ro0 V) (tr0 V)),
      Ideal.div (-cb (f0 V (ord V n)) (ro0 V) (tr0 V)) (det (f0 V (ord V n)) (ro0 V) (tr0 V)),
      Ideal.div (ca (f0 V (ord V n)) (ro0 V) (tr0 V)) (det (f0 V (ord V n)) (ro0 V) (tr0 V))] i := by
  unfold res_main_v362
  refine (Routing.gather_row gather_S10000x3_S10000x1_S10000x3_1_0_n_n_0_1_13 rfl rfl rfl rfl rfl _ _ n i (ord V n) (idx_at V n) (by norm_num)).trans ?_
  generalize ord V n = o
  fin_cases i
  all_goals
    pointwise []
    simp only [v325_at, v327_at, v329_at, v332_at]
  all_goals rfl

/-- A whole number as the programs make it. -/
def wn (n : ℕ) : EReal := FloatOps.sitofp (F := Ideal) .f32 (BitVec.ofNat 32 n)

theorem v389_at (p : Fin 1024) (i : Fin 2) : res_main_v389 V (ix2 p i) = ![wn (p.val % 32), wn (p.val / 32)] i := by
  fin_cases i
  all_goals
    pointwise [res_main_v389]
    rfl

include hu in
theorem v398_at (n : Fin 10000) (p : Fin 1024) : res_main_v398 V (ix2 n p) = wn (p.val % 32) - u (f0 V (ord V n)) (ro0 V) (tr0 V) 0 := by
  pointwise [res_main_v398]
  rw [v389_at, v355_at V hu]
  rfl

include hu in
theorem v407_at (n : Fin 10000) (p : Fin 1024) : res_main_v407 V (ix2 n p) = wn (p.val / 32) - u (f0 V (ord V n)) (ro0 V) (tr0 V) 1 := by
  pointwise [res_main_v407]
  rw [v389_at, v355_at V hu]
  rfl

include hu in
theorem v433_at (n : Fin 10000) (p : Fin 1024) : res_main_v433 V (ix2 n p) = rraw (f0 V (ord V n)) (ro0 V) (tr0 V) (wn (p.val % 32)) (wn (p.val / 32)) := by
  pointwise [res_main_v433]
  rw [v398_at V hu, v407_at V hu, v362_at, v362_at, v362_at]
  rw [gather_al _ _ n (ord V n) (by pointwise []; exact idx_at V n)]
  generalize ord V n = o
  pointwise []
  unfold rraw rexp al
  rw [show f0 V o 51 = V (Proc.devRef .tc main_arg2) (ix2 o 0) from rfl, show ∀ z : EReal, 0 - z = -z from fun z => by rw [sub_eq_add_neg, zero_add]]

include hu in
theorem v436_at (n : Fin 10000) (p : Fin 1024) : res_main_v436 V (ix2 n p) = cut (rraw (f0 V (ord V n)) (ro0 V) (tr0 V) (wn (p.val % 32)) (wn (p.val / 32))) := by
  pointwise [res_main_v436]
  rw [v433_at V hu]
  have h0 : id (constant (F := Ideal) S_ .f32 0x00000000#32) ix0 = (0 : EReal) := by
    show Ideal.ofBits .f32 0x00000000#32 = 0
    simp [Ideal.ofBits, Ideal.ieee]
  rw [h0]
  rfl

theorem contract_at (L : FVec Ideal S10000x3 .f32) (W : FVec Ideal S10000x1024 .f32) (q : Fin 3) (p : Fin 1024) :
    (Host.dotGeneral (F := Ideal) dot_S10000x3_S10000x1024_S3x1024_0_0_1_1_n_n none L W : FVec Ideal S3x1024 .f32) (ix2 q p)
      = ∑ g : Fin 10000, L (ix2 g q) * W (ix2 g p) := by
  pointwise []

/-- The running sum of the logarithms, at an entry. -/
theorem sum_at (W : FVec Ideal S10000x1024 .f32) (j : Fin 10000) (p : Fin 1024) :
    (Host.reduceWindowAdd ![10000, 1] ![1, 1] ![9999, 0] ![0, 0] (Host.log1p (Host.negf W)) (broadcastInDim S_ ![] bcast_S_S_ (constant (F := Ideal) S_ .f32 0x00000000#32)) reduceWindows_S10000x1024_S10000x1024_w10000s1p9999_0_w1s1p0_0 h_S_ : FVec Ideal S10000x1024 .f32) (ix2 j p)
      = ∑ i ∈ Finset.range (j.val + 1), Ideal.log1p (-(column W p i)) := by
  have hi : (broadcastInDim S_ ![] bcast_S_S_ (constant (F := Ideal) S_ .f32 0x00000000#32)) (Shape.Idx.first h_S_) = (0 : EReal) := by
    show Ideal.ofBits .f32 0x00000000#32 = 0
    simp [Ideal.ofBits, Ideal.ieee]
  unfold Host.reduceWindowAdd
  rw [hi]
  refine (rows_sum (R := 10000) (r := 9999) rfl (Host.log1p (F := Ideal) (Host.negf W)) reduceWindows_S10000x1024_S10000x1024_w10000s1p9999_0_w1s1p0_0 j p).trans ?_
  refine Finset.sum_congr rfl fun i hi => ?_
  have hlt : i < 10000 := by have := Finset.mem_range.mp hi; have := j.isLt; omega
  unfold column
  rw [dif_pos hlt, dif_pos hlt]
  rfl

/-- A Gaussian's weight at a pixel, with the light that those before it leave. -/
theorem light_at (W : FVec Ideal S10000x1024 .f32) (g : Fin 10000) (p : Fin 1024) :
    ((mulf W (Host.exp (concatenate S10000x1024 0 [⟨S1x1024, ((broadcastInDim S1x1024 ![] bcast_S_S1x1024 (constant (F := Ideal) S_ .f32 0x00000000#32)) : (⟨S1x1024, .f32⟩ : BufTy).Contents (Elt Ideal))⟩, ⟨S9999x1024, ((extractStridedSlice S9999x1024 ![0, 0] (Host.reduceWindowAdd ![10000, 1] ![1, 1] ![9999, 0] ![0, 0] (Host.log1p (Host.negf W)) (broadcastInDim S_ ![] bcast_S_S_ (constant (F := Ideal) S_ .f32 0x00000000#32)) reduceWindows_S10000x1024_S10000x1024_w10000s1p9999_0_w1s1p0_0 h_S_) slices_S10000x1024_S9999x1024_0_0) : (⟨S9999x1024, .f32⟩ : BufTy).Contents (Elt Ideal))⟩] concatenates_S1x1024_S9999x1024_S10000x1024_d0))) : FVec Ideal S10000x1024 .f32) (ix2 g p)
      = W (ix2 g p) * Ideal.exp (∑ i ∈ Finset.range g.val, Ideal.log1p (-(column W p i))) := by
  generalize hX : (Host.reduceWindowAdd ![10000, 1] ![1, 1] ![9999, 0] ![0, 0] (Host.log1p (Host.negf W)) (broadcastInDim S_ ![] bcast_S_S_ (constant (F := Ideal) S_ .f32 0x00000000#32)) reduceWindows_S10000x1024_S10000x1024_w10000s1p9999_0_w1s1p0_0 h_S_ : FVec Ideal S10000x1024 .f32) = X
  pointwise []
  congr 2
  by_cases h : g.val < 1
  · rw [dif_pos h, show g.val = 0 by omega]; rfl
  · rw [dif_neg h, ← hX]
    refine (sum_at W ⟨g.val - 1, by omega⟩ p).trans ?_
    rw [show (⟨g.val - 1, by omega⟩ : Fin 10000).val + 1 = g.val by show g.val - 1 + 1 = g.val; omega]

theorem reshape_at (Y : FVec Ideal S3x1024 .f32) (q : Fin 3) (y x : Fin 32) :
    (shapeCast _ Y shapeCasts_S3x1024_S3x32x32 : FVec Ideal S3x32x32 .f32) (ix3 q y x) = Y (ix2 q ⟨y.val * 32 + x.val, by omega⟩) := by
  pointwise []

variable (hR : ∀ i j, ∃ x : ℝ, ro0 V i j = x) (ht : ∀ i, ∃ x : ℝ, tr0 V i = x)

include hu hR ht in
/-- The reference's first result at a pixel. -/
theorem image_at (q : Fin 3) (y x : Fin 32) :
    (shapeCast _ (Host.dotGeneral dot_S10000x3_S10000x1024_S3x1024_0_0_1_1_n_n none (Host.gather gather_S10000x3_S10000x1_S10000x3_1_0_n_n_0_1_13 (maximumf (addf (addf (addf (addf (addf (res_main_v271 V) (mulf (broadcastInDim S10000x3 ![0, 1] bcast_S10000x1_S10000x3_0_1 (mulf (mulf (broadcastInDim S10000x1 ![] bcast_S_S10000x1 (constant (F := Ideal) S_ .f32 0x3EBF10F8#32)) (res_main_v169 V)) (subf (subf (mulf (broadcastInDim S10000x1 ![] bcast_S_S10000x1 (constant (F := Ideal) S_ .f32 0x40000000#32)) (res_main_v172 V)) (mulf (broadcastInDim S10000x1 ![] bcast_S_S10000x1 (constant (F := Ideal) S_ .f32 0x40400000#32)) (res_main_v170 V))) (mulf (broadcastInDim S10000x1 ![] bcast_S_S10000x1 (constant (F := Ideal) S_ .f32 0x40400000#32)) (res_main_v171 V))))) (shapeCast _ (extractStridedSlice S10000x1x3 ![0, 12, 0] (res_main_v166 V) slices_S10000x16x3_S10000x1x3_0_12_0) shapeCasts_S10000x1x3_S10000x3))) (mulf (broadcastInDim S10000x3 ![0, 1] bcast_S10000x1_S10000x3_0_1 (mulf (mulf (broadcastInDim S10000x1 ![] bcast_S_S10000x1 (constant (F := Ideal) S_ .f32 0xBEEA01E8#32)) (res_main_v167 V)) (subf (subf (mulf (broadcastInDim S10000x1 ![] bcast_S_S10000x1 (constant (F := Ideal) S_ .f32 0x40800000#32)) (res_main_v172 V)) (res_main_v170 V)) (res_main_v171 V)))) (shapeCast _ (extractStridedSlice S10000x1x3 ![0, 13, 0] (res_main_v166 V) slices_S10000x16x3_S10000x1x3_0_13_0) shapeCasts_S10000x1x3_S10000x3))) (mulf (broadcastInDim S10000x3 ![0, 1] bcast_S10000x1_S10000x3_0_1 (mulf (mulf (broadcastInDim S10000x1 ![] bcast_S_S10000x1 (constant (F := Ideal) S_ .f32 0x3FB8FFC7#32)) (res_main_v169 V)) (subf (res_main_v170 V) (res_main_v171 V)))) (shapeCast _ (extractStridedSlice S10000x1x3 ![0, 14, 0] (res_main_v166 V) slices_S10000x16x3_S10000x1x3_0_14_0) shapeCasts_S10000x1x3_S10000x3))) (mulf (broadcastInDim S10000x3 ![0, 1] bcast_S10000x1_S10000x3_0_1 (mulf (mulf (broadcastInDim S10000x1 ![] bcast_S_S10000x1 (constant (F := Ideal) S_ .f32 0xBF170D19#32)) (res_main_v167 V)) (subf (res_main_v170 V) (mulf (broadcastInDim S10000x1 ![] bcast_S_S10000x1 (constant (F := Ideal) S_ .f32 0x40400000#32)) (res_main_v171 V))))) (shapeCast _ (extractStridedSlice S10000x1x3 ![0, 15, 0] (res_main_v166 V) slices_S10000x16x3_S10000x1x3_0_15_0) shapeCasts_S10000x1x3_S10000x3))) (broadcastInDim S10000x3 ![] bcast_S_S10000x3 (constant (F := Ideal) S_ .f32 0x3F000000#32))) (broadcastInDim S10000x3 ![] bcast_S_S10000x3 (constant (F := Ideal) S_ .f32 0x00000000#32))) (broadcastInDim S10000x1 ![0] bcast_S10000_S10000x1_0 (select (cmpi .slt (res_main_v348 V) (broadcastInDim S10000 ![] bcast_S_S10000 (constantI S_ 32 0#32))) (addi (res_main_v348 V) (broadcastInDim S10000 ![] bcast_S_S10000 (constantI S_ 32 10000#32))) (res_main_v348 V)))) (mulf (res_main_v436 V) (Host.exp (concatenate S10000x1024 0 [⟨S1x1024, (broadcastInDim S1x1024 ![] bcast_S_S1x1024 (constant (F := Ideal) S_ .f32 0x00000000#32))⟩, ⟨S9999x1024, (extractStridedSlice S9999x1024 ![0, 0] (Host.reduceWindowAdd ![10000, 1] ![1, 1] ![9999, 0] ![0, 0] (Host.log1p (Host.negf (res_main_v436 V))) (broadcastInDim S_ ![] bcast_S_S_ (constant (F := Ideal) S_ .f32 0x00000000#32)) reduceWindows_S10000x1024_S10000x1024_w10000s1p9999_0_w1s1p0_0 h_S_) slices_S10000x1024_S9999x1024_0_0)⟩] concatenates_S1x1024_S9999x1024_S10000x1024_d0)))) shapeCasts_S3x1024_S3x32x32 : FVec Ideal S3x32x32 .f32) (ix3 q y x)
      = ∑ g : Fin 10000, col (f0 V (ord V g)) (ro0 V) (tr0 V) q
        * (cut (rraw (f0 V (ord V g)) (ro0 V) (tr0 V) (wn x.val) (wn y.val))
          * Ideal.exp (∑ i ∈ Finset.range g.val, Ideal.log1p (-(if h : i < 10000 then cut (rraw (f0 V (ord V ⟨i, h⟩)) (ro0 V) (tr0 V) (wn x.val) (wn y.val)) else 0)))) := by
  have hp : y.val * 32 + x.val < 1024 := by omega
  have e1 : (y.val * 32 + x.val) % 32 = x.val := by omega
  have e2 : (y.val * 32 + x.val) / 32 = y.val := by omega
  refine (reshape_at _ q y x).trans ((contract_at _ _ q _).trans (Finset.sum_congr rfl fun g _ => ?_))
  refine congrArg₂ (· * ·) ?_ ?_
  · exact (Routing.gather_row gather_S10000x3_S10000x1_S10000x3_1_0_n_n_0_1_13 rfl rfl rfl rfl rfl _ _ g q (ord V g) (idx_at V g) (by norm_num)).trans (col_at V hR ht (ord V g) q)
  · refine (light_at (res_main_v436 V) g _).trans ?_
    rw [v436_at V hu]
    simp only [e1, e2]
    refine congrArg _ (congrArg _ (Finset.sum_congr rfl fun i _ => congrArg _ (congrArg _ ?_)))
    unfold column
    by_cases h : i < 10000
    · rw [dif_pos h, dif_pos h, v436_at V hu]
      simp only [e1, e2]
    · rw [dif_neg h, dif_neg h]

end Cert.ReferenceIdeal.Own
end
-- ==== Proof.Bridge.lean ====
/-
  The two images at a pixel are one: the kernel's fold over the Gaussians in the depths' order, the reference's sum.
-/
module

public import proofs.«01_k».proof.Proof.Composite
public import proofs.«01_k».proof.Proof.RunningSum

@[expose] public section

noncomputable section

namespace Cert.Proof.Composite

open Cert.KernelIdeal.Own Cert.Proof.Scene Cert.Proof.RunningSum
open Idealize.ShloMosaic

/-- The sum of weighted colours is what compositing in turn gathers. -/
theorem bridge (N : ℕ) (F : Fin N → Fin 59 → EReal) (R : Fin 3 → Fin 3 → EReal) (t : Fin 3 → EReal) (A : ℕ → Fin 10 → EReal)
    (hA : ∀ g (h : g < N), A g = attr (F ⟨g, h⟩) R t False)
    (hp : ∀ g i, Rl (pos (F g) i))
    (hR : ∀ i j, Rl (R i j)) (ht : ∀ i, Rl (t i)) (x y : ℝ) (q : Fin 3) :
    ∑ g : Fin N, col (F g) R t q * (cut (rraw (F g) R t x y)
        * Ideal.exp (∑ i ∈ Finset.range g.val, Ideal.log1p (-(if h : i < N then cut (rraw (F ⟨i, h⟩) R t x y) else 0))))
      = hue (comp A x y (1, 0, 0, 0) N) q := by
  have hw : ∀ i, ∃ w : ℝ, (if h : i < N then cut (rraw (F ⟨i, h⟩) R t x y) else 0) = (w : EReal) ∧ w < 1 := by
    intro i
    by_cases h : i < N
    · rw [dif_pos h]; exact cut_real _ _ _ _ _
    · rw [dif_neg h]; exact ⟨0, rfl, by norm_num⟩
  choose w hw hw1 using hw
  have hc : ∀ g : Fin N, cut (rraw (F g) R t x y) = w g.val := fun g => by
    rw [← hw g.val, dif_pos g.isLt]
  have hk : ∀ g, g < N → wt (A g) x y = w g := fun g hg => by
    rw [hA g hg, wt_eq (hp _) hR ht x y]; exact hc ⟨g, hg⟩
  rw [hue_sum A x y w N hk q, ← Fin.sum_univ_eq_sum_range
    (fun g => (w g : EReal) * ((∏ j ∈ Finset.range g, (1 - w j) : ℝ) : EReal) * A g ⟨6 + q.val, by omega⟩)]
  refine Finset.sum_congr rfl fun g _ => ?_
  simp only [hw]
  rw [hc, exp_sum_log w hw1, mul_comm]
  congr 1
  rw [hA g.val g.isLt]
  fin_cases q <;> rfl

end Cert.Proof.Composite

end
-- ==== Proof.Values.lean ====
/-
  The idealized kernel's two results are the reference's: from memories that agree on the arguments, where the
  positions and the camera are finite.
-/
module

public import proofs.«01_k».proof.Defs
public import proofs.«01_k».proof.Proof.Finite
public import proofs.«01_k».proof.Proof.HostMid
public import proofs.«01_k».proof.Proof.RefImage
public import proofs.«01_k».proof.Proof.Bridge
public import proofs.«01_k».proof.Proof.Gen.ReferenceIdeal.Run
public import Idealize.ShloMosaic.Lib.Pointwise

@[expose] public section

set_option maxRecDepth 16384

noncomputable section

namespace Cert.Proof.Values

open Cert.Proof.Scene Cert.Proof.Sorting Cert.Proof.Composite
open Idealize.ShloMosaic Idealize.ShloMosaic.Pointwise Idealize.SL.Sem

/-- Memories of the two programs. -/
abbrev KMem := (ℓ : Loc Cert.KernelIdeal.nD Cert.KernelIdeal.τ Cert.KernelIdeal.sig) → Buf (Elt Ideal) ℓ
abbrev RMem := (ℓ : Loc Cert.ReferenceIdeal.nD Cert.ReferenceIdeal.τ Cert.ReferenceIdeal.sig) → Buf (Elt Ideal) ℓ

/-- The reference's arguments on a device, as its operations read them. -/
abbrev rv (m' : RMem) (c : Dev Cert.ReferenceIdeal.nD) := StableHlo.launchContents m' c

variable (m : KMem) (m' : RMem) (c : Dev Cert.KernelIdeal.nD)

/-- The two memories agree on the arguments of a device. -/
def Same : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
  ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
  ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
  ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
  ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)

variable {m m' c}

/-- The Gaussians' features are the same in both programs. -/
theorem f_eq (h : Same m m' c) : Cert.ReferenceIdeal.Own.f0 (rv m' c) = Cert.KernelIdeal.Own.f0 m c := by
  obtain ⟨h0, h1, h2, h3, h4, h5, h6, h7⟩ := h
  funext n
  have e0 : Cert.ReferenceIdeal.Own.pos0 (rv m' c) n = Cert.KernelIdeal.Own.pos0 m c n := funext fun i => congrFun h0 (ix2 n i)
  have e1 : Cert.ReferenceIdeal.Own.sh0 (rv m' c) n = Cert.KernelIdeal.Own.sh0 m c n := funext fun i => congrFun h1 (ix2 n i)
  have e2 : Cert.ReferenceIdeal.Own.al0 (rv m' c) n = Cert.KernelIdeal.Own.al0 m c n := congrFun h2 (ix2 n 0)
  have e3 : Cert.ReferenceIdeal.Own.sc0 (rv m' c) n = Cert.KernelIdeal.Own.sc0 m c n := funext fun i => congrFun h3 (ix2 n i)
  have e4 : Cert.ReferenceIdeal.Own.qu0 (rv m' c) n = Cert.KernelIdeal.Own.qu0 m c n := funext fun i => congrFun h4 (ix2 n i)
  unfold Cert.ReferenceIdeal.Own.f0 Cert.KernelIdeal.Own.f0
  rw [e0, e1, e2, e3, e4]

/-- So is the camera's rotation. -/
theorem ro_eq (h : Same m m' c) : Cert.ReferenceIdeal.Own.ro0 (rv m' c) = Cert.KernelIdeal.Own.ro0 m c :=
  funext fun i => funext fun j => congrFun h.2.2.2.2.2.2.1 (ix2 i j)

/-- So is the camera's translation. -/
theorem tr_eq (h : Same m m' c) : Cert.ReferenceIdeal.Own.tr0 (rv m' c) = Cert.KernelIdeal.Own.tr0 m c :=
  funext fun i => congrFun h.2.2.2.2.2.2.2 (ix1 i)

/-- So is the order of the depths. -/
theorem ord_eq (h : Same m m' c) : Cert.ReferenceIdeal.Own.ord (rv m' c) = order (Cert.KernelIdeal.Own.dep m c) := by
  unfold Cert.ReferenceIdeal.Own.ord
  rw [f_eq h, ro_eq h, tr_eq h]
  rfl

/-- A Gaussian's position as its features hold it. -/
theorem pos_k (n : Fin 10000) (i : Fin 3) : pos (Cert.KernelIdeal.Own.f0 m c n) i = Cert.KernelIdeal.Own.pos0 m c n i := by
  match i with
  | ⟨0, _⟩ => rfl
  | ⟨1, _⟩ => rfl
  | ⟨2, _⟩ => rfl

/-- An index of the image is its three coordinates. -/
theorem ix3_self {a b d : ℕ} (i : (⟨3, ![a, b, d]⟩ : Shape).Idx) : i = ix3 (i 0) (i 1) (i 2) := by
  funext k
  match k with
  | ⟨0, _⟩ => rfl
  | ⟨1, _⟩ => rfl
  | ⟨2, _⟩ => rfl

theorem ix2_self {a b : ℕ} (i : (⟨2, ![a, b]⟩ : Shape).Idx) : i = ix2 (i 0) (i 1) := by
  funext k
  match k with
  | ⟨0, _⟩ => rfl
  | ⟨1, _⟩ => rfl

/-- The reference's image, at a pixel, is the kernel's. -/
theorem pixel (h : Same m m' c) (hf : Cert.Pre_KernelIdeal_finite m) (q : Fin 3) (y x : Fin 32) :
    ∑ g : Fin 10000, col (Cert.ReferenceIdeal.Own.f0 (rv m' c) (Cert.ReferenceIdeal.Own.ord (rv m' c) g)) (Cert.ReferenceIdeal.Own.ro0 (rv m' c)) (Cert.ReferenceIdeal.Own.tr0 (rv m' c)) q
        * (cut (rraw (Cert.ReferenceIdeal.Own.f0 (rv m' c) (Cert.ReferenceIdeal.Own.ord (rv m' c) g)) (Cert.ReferenceIdeal.Own.ro0 (rv m' c)) (Cert.ReferenceIdeal.Own.tr0 (rv m' c)) (Cert.ReferenceIdeal.Own.wn x.val) (Cert.ReferenceIdeal.Own.wn y.val))
          * Ideal.exp (∑ i ∈ Finset.range g.val, Ideal.log1p (-(if h : i < 10000 then cut (rraw (Cert.ReferenceIdeal.Own.f0 (rv m' c) (Cert.ReferenceIdeal.Own.ord (rv m' c) ⟨i, h⟩)) (Cert.ReferenceIdeal.Own.ro0 (rv m' c)) (Cert.ReferenceIdeal.Own.tr0 (rv m' c)) (Cert.ReferenceIdeal.Own.wn x.val) (Cert.ReferenceIdeal.Own.wn y.val)) else 0))))
      = Cert.KernelIdeal.Gen.V9 m (Cert.KernelIdeal.Own.left m) c (Proc.devRef .tc Cert.KernelIdeal.main_v28) (ix3 q y x) := by
  obtain ⟨f0, f5, f6, f7⟩ := Cert.Proof.Finite.all_finite _ _ _ _ _ _ _ _ (hf c)
  rw [Cert.KernelIdeal.Own.image_sorted, f_eq h, ro_eq h, tr_eq h, ord_eq h]
  exact bridge 10000 (fun g => Cert.KernelIdeal.Own.f0 m c (order (Cert.KernelIdeal.Own.dep m c) g)) (Cert.KernelIdeal.Own.ro0 m c) (Cert.KernelIdeal.Own.tr0 m c)
    (Cert.KernelIdeal.Own.sorted m c)
    (fun g hg => funext fun r => by unfold Cert.KernelIdeal.Own.sorted; rw [dif_pos hg])
    (fun g i => by rw [pos_k]; exact f0 _)
    (fun i j => f6 _) (fun i => f7 _)
    (((BitVec.ofNat 32 x.val).toInt : ℝ)) (((BitVec.ofNat 32 y.val).toInt : ℝ)) q

/-- The two programs' results are equal, and their arguments end as launched. -/
theorem results : Cert.algebraic_KernelIdeal_ReferenceIdeal_pre_finite := by
  intro m g m' g' hf hsame
  refine ⟨fun c => Cert.KernelIdeal.Gen.V9 m (Cert.KernelIdeal.Own.left m) c (Proc.devRef .tc Cert.KernelIdeal.main_v28),
    fun c => Cert.KernelIdeal.Gen.V9 m (Cert.KernelIdeal.Own.left m) c (Proc.devRef .tc Cert.KernelIdeal.main_v31), ?_, ?_⟩
  · refine (θ_run Cert.KernelIdeal.defs _ _).mono (fun r h c => ⟨?_, ?_, ?_⟩) (Cert.KernelIdeal.Own.ran m g)
    · exact h.1 c _ (Cert.KernelIdeal.Own.mem_uc Cert.KernelIdeal.main_v28 rfl)
    · exact h.1 c _ (Cert.KernelIdeal.Own.mem_uc Cert.KernelIdeal.main_v31 rfl)
    · exact ⟨(h.1 c _ (Cert.KernelIdeal.Own.mem_uc Cert.KernelIdeal.main_arg0 rfl)).trans (Cert.KernelIdeal.Gen.V9_main_arg0 m (Cert.KernelIdeal.Own.left m) c),
        (h.1 c _ (Cert.KernelIdeal.Own.mem_uc Cert.KernelIdeal.main_arg1 rfl)).trans (Cert.KernelIdeal.Gen.V9_main_arg1 m (Cert.KernelIdeal.Own.left m) c),
        (h.1 c _ (Cert.KernelIdeal.Own.mem_uc Cert.KernelIdeal.main_arg2 rfl)).trans (Cert.KernelIdeal.Gen.V9_main_arg2 m (Cert.KernelIdeal.Own.left m) c),
        (h.1 c _ (Cert.KernelIdeal.Own.mem_uc Cert.KernelIdeal.main_arg3 rfl)).trans (Cert.KernelIdeal.Gen.V9_main_arg3 m (Cert.KernelIdeal.Own.left m) c),
        (h.1 c _ (Cert.KernelIdeal.Own.mem_uc Cert.KernelIdeal.main_arg4 rfl)).trans (Cert.KernelIdeal.Gen.V9_main_arg4 m (Cert.KernelIdeal.Own.left m) c),
        (h.1 c _ (Cert.KernelIdeal.Own.mem_uc Cert.KernelIdeal.main_arg5 rfl)).trans (Cert.KernelIdeal.Gen.V9_main_arg5 m (Cert.KernelIdeal.Own.left m) c),
        (h.1 c _ (Cert.KernelIdeal.Own.mem_uc Cert.KernelIdeal.main_arg6 rfl)).trans (Cert.KernelIdeal.Gen.V9_main_arg6 m (Cert.KernelIdeal.Own.left m) c),
        (h.1 c _ (Cert.KernelIdeal.Own.mem_uc Cert.KernelIdeal.main_arg7 rfl)).trans (Cert.KernelIdeal.Gen.V9_main_arg7 m (Cert.KernelIdeal.Own.left m) c)⟩
  · refine (θ_run Cert.ReferenceIdeal.defs _ _).mono (fun r h c => ⟨(h c).1.trans ?_, (h c).2.1.trans ?_, (h c).2.2⟩)
      (Cert.ReferenceIdeal.Value.run (F := Ideal) m' g')
    · have hs : Same m m' c := hsame c
      obtain ⟨f0, f5, f6, f7⟩ := Cert.Proof.Finite.all_finite _ _ _ _ _ _ _ _ (hf c)
      funext i
      rw [ix3_self i]
      refine (Cert.ReferenceIdeal.Own.image_at (rv m' c) (fun n i => ?_) (fun i j => ?_) (fun i => ?_) (i 0) (i 1) (i 2)).trans (pixel hs hf _ _ _)
      · obtain ⟨r, hr⟩ := f5 (ix2 n i)
        exact ⟨r, (congrFun hs.2.2.2.2.2.1 (ix2 n i)).trans hr⟩
      · rw [ro_eq hs]; exact f6 _
      · rw [tr_eq hs]; exact f7 _
    · have hs : Same m m' c := hsame c
      funext i
      rw [ix2_self i]
      refine (Cert.ReferenceIdeal.Own.sizes_eq (rv m' c) (i 0) (i 1)).trans ?_
      rw [f_eq hs, ro_eq hs, tr_eq hs]
      exact (Cert.KernelIdeal.Own.sizes_eq m c (i 0) (i 1)).symm

end Cert.Proof.Values

end
-- ==== Proof.lean ====
/- The proof of the claim: the three programs' frames, the named constants, and the kernel's results against the
   reference's. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.KernelRun
public import proofs.«01_k».proof.Proof.KernelIdealRun
public import proofs.«01_k».proof.Proof.Finite
public import proofs.«01_k».proof.Proof.Values
public import Idealize.ShloMosaic.Adequacy
public import Idealize.ShloMosaic.Init
public import Idealize.ShloMosaic.Lib.Quiescent

@[expose] public section

noncomputable section

namespace Cert.Proof

open Idealize.ShloMosaic Idealize.SL.Sem

/-- The kernel's frame, with floats as words of bits. -/
theorem frame_p : Cert.quiescent_Kernel := fun m ρ _ => Cert.Kernel.Own.kept m ρ

/-- The idealized kernel's frame. -/
theorem frame_pi : Cert.quiescent_KernelIdeal := fun m ρ _ => Cert.KernelIdeal.Own.kept m ρ

/-- The idealized kernel's frame on finite arguments. -/
theorem frame_pi_finite : Cert.quiescent_KernelIdeal_pre_finite := fun m ρ _ => Cert.KernelIdeal.Own.kept m ρ

/-- The reference's frame: its arguments end as launched, and it has no semaphores. -/
theorem frame_ri : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Value.run (F := Ideal) m ρ)

/-- The reference's frame on finite arguments. -/
theorem frame_ri_finite : Cert.quiescent_ReferenceIdeal_pre_finite := fun m ρ _ => frame_ri m ρ trivial

/-- The two named constants are what the table says they are. -/
theorem named : Cert.preserves_Kernel_KernelIdeal :=
  ⟨IdealRules.named_const.statement Cert.KernelIdeal.κ "neg_half_log2e" .f32 0xBF38AA3B#32 ((-((2 * (Real.log 2))⁻¹) : ℝ) : EReal) rfl,
   IdealRules.named_const.statement Cert.KernelIdeal.κ "neg_log2e" .f32 0xBFB8AA3B#32 ((-((Real.log 2)⁻¹) : ℝ) : EReal) rfl⟩

/-- All the claims. -/
theorem claim : Cert.Claim :=
  ⟨Cert.Kernel.Gen.facts, Cert.KernelIdeal.Gen.facts, Cert.ReferenceIdeal.Gen.facts, Cert.Proof.Finite.facts,
    frame_p, frame_pi, frame_pi_finite, frame_ri, frame_ri_finite, named, Cert.Proof.Values.results⟩

end Cert.Proof

end
